-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v88) = v2 c
          ∧ r.2.mem ((c.tc : Thread Cert.Reference3Ideal.nD Cert.Reference3Ideal.τ).loc Cert.Reference3Ideal.main_v89) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v35_0)) (v1 : (c : Dev Cert.Kernel4Ideal.nD) → Buf (Elt Ideal) ((c.tc : Thread Cert.Kernel4Ideal.nD Cert.Kernel4Ideal.τ).loc Cert.Kernel4Ideal.main_v35_1)) (v2 : (c : Dev Cert.Kernel4Ideal.nD) → Buf (Elt Ideal) ((c.tc : Thread Cert.Kernel4Ideal.nD Cert.Kernel4Ideal.τ).loc Cert.Kernel4Ideal.main_v35_2)) (v3 : (c : Dev Cert.Kernel4Ideal.nD) → Buf (Elt Ideal) ((c.tc : Thread Cert.Kernel4Ideal.nD Cert.Kernel4Ideal.τ).loc Cert.Kernel4Ideal.main_v35_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35_0) = v0 c
          ∧ r.2.mem ((c.tc : Thread Cert.Kernel4Ideal.nD Cert.Kernel4Ideal.τ).loc Cert.Kernel4Ideal.main_v35_1) = v1 c
          ∧ r.2.mem ((c.tc : Thread Cert.Kernel4Ideal.nD Cert.Kernel4Ideal.τ).loc Cert.Kernel4Ideal.main_v35_2) = v2 c
          ∧ r.2.mem ((c.tc : Thread Cert.Kernel4Ideal.nD Cert.Kernel4Ideal.τ).loc Cert.Kernel4Ideal.main_v35_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_v86) = v2 c
          ∧ r.2.mem ((c.tc : Thread Cert.Reference4Ideal.nD Cert.Reference4Ideal.τ).loc Cert.Reference4Ideal.main_v87) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_v79) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x2048x512 : Shape := ⟨3, ![8, 2048, 512]⟩
abbrev S8x2048x128 : Shape := ⟨3, ![8, 2048, 128]⟩
abbrev S8 : Shape := ⟨1, ![8]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x2048x512 .f32) (main_arg1 : FVec F S8x2048x128 .f32) (main_arg2 : FVec F S8x2048x128 .f32) (main_arg3 : FVec F S8 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x2048x512 : Shape := ⟨3, ![8, 2048, 512]⟩
abbrev S8x2048x128 : Shape := ⟨3, ![8, 2048, 128]⟩
abbrev S8 : Shape := ⟨1, ![8]⟩
abbrev S8x128 : Shape := ⟨2, ![8, 128]⟩
abbrev S1024 : Shape := ⟨1, ![1024]⟩
abbrev S1x1024 : Shape := ⟨2, ![1, 1024]⟩
abbrev S1x512x512 : Shape := ⟨3, ![1, 512, 512]⟩
abbrev S1x128x128 : Shape := ⟨3, ![1, 128, 128]⟩
abbrev S1x512x128 : Shape := ⟨3, ![1, 512, 128]⟩
abbrev S256x1024 : Shape := ⟨2, ![256, 1024]⟩
abbrev S128x128 : Shape := ⟨2, ![128, 128]⟩
abbrev S1x128x512 : Shape := ⟨3, ![1, 128, 512]⟩
abbrev S128x512 : Shape := ⟨2, ![128, 512]⟩
abbrev S512x128 : Shape := ⟨2, ![512, 128]⟩
abbrev S256x128 : Shape := ⟨2, ![256, 128]⟩
abbrev S128x256 : Shape := ⟨2, ![128, 256]⟩
abbrev S64x128 : Shape := ⟨2, ![64, 128]⟩
abbrev S128x1024 : Shape := ⟨2, ![128, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S8x2048x128, .f32⟩
  | .hbm, ⟨2, _⟩ => ⟨S8x2048x128, .f32⟩
  | .hbm, ⟨3, _⟩ => ⟨S8, .f32⟩
  | .hbm, ⟨4, _⟩ => ⟨S8x128, .f32⟩
  | .hbm, ⟨5, _⟩ => ⟨S1024, .f32⟩
  | .hbm, ⟨6, _⟩ => ⟨S1x1024, .f32⟩
  | .hbm, ⟨7, _⟩ => ⟨S8x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x128x128, .f32⟩
  | .local _ .vmem, ⟨3, _⟩ => ⟨S1x128x128, .f32⟩
  | .local _ .vmem, ⟨4, _⟩ => ⟨S1x512x128, .f32⟩
  | .local _ .vmem, ⟨5, _⟩ => ⟨S1x512x128, .f32⟩
  | .local _ .vmem, ⟨6, _⟩ => ⟨S1x128x128, .f32⟩
  | .local _ .vmem, ⟨7, _⟩ => ⟨S1x128x128, .f32⟩
  | .local _ .vmem, ⟨8, _⟩ => ⟨S1x512x128, .f32⟩
  | .local _ .vmem, ⟨9, _⟩ => ⟨S1x512x128, .f32⟩
  | .local _ .vmem, ⟨10, _⟩ => ⟨S1x1024, .f32⟩
  | .local _ .vmem, ⟨11, _⟩ => ⟨S1x512x512, .bf16⟩
  | .local _ .vmem, ⟨12, _⟩ => ⟨S1x512x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x512 : Shape := ⟨3, ![8, 2048, 512]⟩
abbrev S8x2048x128 : Shape := ⟨3, ![8, 2048, 128]⟩
abbrev S8 : Shape := ⟨1, ![8]⟩
abbrev S8x16x128x2x4x64 : Shape := ⟨6, ![8, 16, 128, 2, 4, 64]⟩
abbrev S8x16x128x2x64 : Shape := ⟨5, ![8, 16, 128, 2, 64]⟩
abbrev S8x1x128x2x64 : Shape := ⟨5, ![8, 1, 128, 2, 64]⟩
abbrev S_ : Shape := ⟨0, ![]⟩
abbrev S8x15x128x2x64 : Shape := ⟨5, ![8, 15, 128, 2, 64]⟩
abbrev S8x16x256x2x64 : Shape := ⟨5, ![8, 16, 256, 2, 64]⟩
abbrev S8x16x2x256x128x4 : Shape := ⟨6, ![8, 16, 2, 256, 128, 4]⟩
abbrev S8x16x2x4x128x256 : Shape := ⟨6, ![8, 16, 2, 4, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S2x4x1x1 : Shape := ⟨4, ![2, 4, 1, 1]⟩
abbrev S8x16x2x4x128x1 : Shape := ⟨6, ![8, 16, 2, 4, 128, 1]⟩
abbrev S8x16x2x4x128x257 : Shape := ⟨6, ![8, 16, 2, 4, 128, 257]⟩
abbrev S8x16x2x4x128 : Shape := ⟨5, ![8, 16, 2, 4, 128]⟩
abbrev S8x16x2x64x4x128 : Shape := ⟨6, ![8, 16, 2, 64, 4, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x128, .f32⟩
  | .hbm, ⟨2, _⟩ => ⟨S8x2048x128, .f32⟩
  | .hbm, ⟨3, _⟩ => ⟨S8, .f32⟩
  | .hbm, ⟨4, _⟩ => ⟨S8x16x128x2x4x64, .f32⟩
  | .hbm, ⟨5, _⟩ => ⟨S8x16x128x2x64, .f32⟩
  | .hbm, ⟨6, _⟩ => ⟨S8x16x128x2x64, .f32⟩
  | .hbm, ⟨7, _⟩ => ⟨S8x1x128x2x64, .f32⟩
  | .hbm, ⟨8, _⟩ => ⟨S_, .f32⟩
  | .hbm, ⟨9, _⟩ => ⟨S8x1x128x2x64, .f32⟩
  | .hbm, ⟨10, _⟩ => ⟨S8x15x128x2x64, .f32⟩
  | .hbm, ⟨11, _⟩ => ⟨S8x16x128x2x64, .f32⟩
  | .hbm, ⟨12, _⟩ => ⟨S8x16x256x2x64, .f32⟩
  | .hbm, ⟨13, _⟩ => ⟨S8x1x128x2x64, .f32⟩
  | .hbm, ⟨14, _⟩ => ⟨S_, .f32⟩
  | .hbm, ⟨15, _⟩ => ⟨S8x1x128x2x64, .f32⟩
  | .hbm, ⟨16, _⟩ => ⟨S8x15x128x2x64, .f32⟩
  | .hbm, ⟨17, _⟩ => ⟨S8x16x128x2x64, .f32⟩
  | .hbm, ⟨18, _⟩ => ⟨S8x16x256x2x64, .f32⟩
  | .hbm, ⟨19, _⟩ => ⟨S8x16x2x256x128x4, .f32⟩
  | .hbm, ⟨20, _⟩ => ⟨S8x16x2x4x128x256, .f32⟩
  | .hbm, ⟨21, _⟩ => ⟨S_, .f32⟩
  | .hbm, ⟨22, _⟩ => ⟨S8x16x2x4x128x256, .f32⟩
  | .hbm, ⟨23, _⟩ => ⟨S8x16x2x4x128x256, .f32⟩
  | .hbm, ⟨24, _⟩ => ⟨S16, .i32⟩
  | .hbm, ⟨25, _⟩ => ⟨S16x1x1, .i32⟩
  | .hbm, ⟨26, _⟩ => ⟨S_, .i32⟩
  | .hbm, ⟨27, _⟩ => ⟨S16x1x1, .i32⟩
  | .hbm, ⟨28, _⟩ => ⟨S16x1x1, .i32⟩
  | .hbm, ⟨29, _⟩ => ⟨S128, .i32⟩
  | .hbm, ⟨30, _⟩ => ⟨S1x128x1, .i32⟩
  | .hbm, ⟨31, _⟩ => ⟨S16x128x1, .i32⟩
  | .hbm, ⟨32, _⟩ => ⟨S16x128x1, .i32⟩
  | .hbm, ⟨33, _⟩ => ⟨S16x128x1, .i32⟩
  | .hbm, ⟨34, _⟩ => ⟨S_, .i32⟩
  | .hbm, ⟨35, _⟩ => ⟨S16x1x1, .i32⟩
  | .hbm, ⟨36, _⟩ => ⟨S16x1x1, .i32⟩
  | .hbm, ⟨37, _⟩ => ⟨S256, .i32⟩
  | .hbm, ⟨38, _⟩ => ⟨S1x1x256, .i32⟩
  | .hbm, ⟨39, _⟩ => ⟨S16x1x256, .i32⟩
  | .hbm, ⟨40, _⟩ => ⟨S16x1x256, .i32⟩
  | .hbm, ⟨41, _⟩ => ⟨S16x1x256, .i32⟩
  | .hbm, ⟨42, _⟩ => ⟨S16x128x256, .i32⟩
  | .hbm, ⟨43, _⟩ => ⟨S16x128x256, .i32⟩
  | .hbm, ⟨44, _⟩ => ⟨S16x128x256, .i32⟩
  | .hbm, ⟨45, _⟩ => ⟨S_, .i32⟩
  | .hbm, ⟨46, _⟩ => ⟨S16x128x256, .i32⟩
  | .hbm, ⟨47, _⟩ => ⟨S16x128x256, .i1⟩
  | .hbm, ⟨48, _⟩ => ⟨S_, .i32⟩
  | .hbm, ⟨49, _⟩ => ⟨S16x128x256, .i32⟩
  | .hbm, ⟨50, _⟩ => ⟨S16x128x256, .i1⟩
  | .hbm, ⟨51, _⟩ => ⟨S16x128x256, .i1⟩
  | .hbm, ⟨52, _⟩ => ⟨S_, .i32⟩
  | .hbm, ⟨53, _⟩ => ⟨S16x1x256, .i32⟩
  | .hbm, ⟨54, _⟩ => ⟨S16x1x256, .i1⟩
  | .hbm, ⟨55, _⟩ => ⟨S16x128x256, .i1⟩
  | .hbm, ⟨56, _⟩ => ⟨S16x128x256, .i1⟩
  | .hbm, ⟨57, _⟩ => ⟨S1x16x1x1x128x256, .i1⟩
  | .hbm, ⟨58, _⟩ => ⟨S_, .f32⟩
  | .hbm, ⟨59, _⟩ => ⟨S_, .f32⟩
  | .hbm, ⟨60, _⟩ => ⟨S8x16x2x4x128x256, .i1⟩
  | .hbm, ⟨61, _⟩ => ⟨S8x16x2x4x128x256, .f32⟩
  | .hbm, ⟨62, _⟩ => ⟨S8x16x2x4x128x256, .f32⟩
  | .hbm, ⟨63, _⟩ => ⟨S2x4, .f32⟩
  | .hbm, ⟨64, _⟩ => ⟨S2x4x1x1, .f32⟩
  | .hbm, ⟨65, _⟩ => ⟨S8x16x2x4x128x1, .f32⟩
  | .hbm, ⟨66, _⟩ => ⟨S8x16x2x4x128x257, .f32⟩
  | .hbm, ⟨67, _⟩ => ⟨S_, .f32⟩
  | .hbm, ⟨68, _⟩ => ⟨S8x16x2x4x128, .f32⟩
  | .hbm, ⟨69, _⟩ => ⟨S_, .f32⟩
  | .hbm, ⟨70, _⟩ => ⟨S8x16x2x4x128, .f32⟩
  | .hbm, ⟨71, _⟩ => ⟨S8x16x2x4x128, .f32⟩
  | .hbm, ⟨72, _⟩ => ⟨S8x16x2x4x128x1, .f32⟩
  | .hbm, ⟨73, _⟩ => ⟨S8x16x2x4x128x257, .f32⟩
  | .hbm, ⟨74, _⟩ => ⟨S8x16x2x4x128x257, .f32⟩
  | .hbm, ⟨75, _⟩ => ⟨S8x16x2x4x128x257, .f32⟩
  | .hbm, ⟨76, _⟩ => ⟨S_, .f32⟩
  | .hbm, ⟨77, _⟩ => ⟨S8x16x2x4x128, .f32⟩
  | .hbm, ⟨78, _⟩ => ⟨S8x16x2x4x128x1, .f32⟩
  | .hbm, ⟨79, _⟩ => ⟨S8x16x2x4x128x257, .f32⟩
  | .hbm, ⟨80, _⟩ => ⟨S8x16x2x4x128x257, .f32⟩
  | .hbm, ⟨81, _⟩ => ⟨S8x16x2x4x128x256, .f32⟩
  | .hbm, ⟨82, _⟩ => ⟨S8x16x2x64x4x128, .f32⟩
  | .hbm, ⟨83, _⟩ => ⟨S8x16x128x2x4x64, .f32⟩
  | .hbm, ⟨84, _⟩ => ⟨S8x2048x512, .f32⟩
  | .hbm, ⟨85, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2x2816 : Shape := ⟨3, ![8, 2, 2816]⟩
abbrev S4x1024x2816 : Shape := ⟨3, ![4, 1024, 2816]⟩
abbrev S4x2816x1024 : Shape := ⟨3, ![4, 2816, 1024]⟩
abbrev S4x3x2816 : Shape := ⟨3, ![4, 3, 2816]⟩
abbrev S4x2816 : Shape := ⟨2, ![4, 2816]⟩
abbrev S4x1024 : Shape := ⟨2, ![4, 1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1024 : Shape := ⟨2, ![1, 1024]⟩
abbrev S1024 : Shape := ⟨1, ![1024]⟩
abbrev S1x1024x1024 : Shape := ⟨3, ![1, 1024, 1024]⟩
abbrev S1x2x2816 : Shape := ⟨3, ![1, 2, 2816]⟩
abbrev S1x1024x2816 : Shape := ⟨3, ![1, 1024, 2816]⟩
abbrev S1x2816x1024 : Shape := ⟨3, ![1, 2816, 1024]⟩
abbrev S2x2816 : Shape := ⟨2, ![2, 2816]⟩
abbrev S1024x1024 : Shape := ⟨2, ![1024, 1024]⟩
abbrev S1024x256 : Shape := ⟨2, ![1024, 256]⟩
abbrev S1x1024x256 : Shape := ⟨3, ![1, 1024, 256]⟩
abbrev S1x256 : Shape := ⟨2, ![1, 256]⟩
abbrev S2x256 : Shape := ⟨2, ![2, 256]⟩
abbrev S1x2x256 : Shape := ⟨3, ![1, 2, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 25
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2x2816, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x3x2816, .f32⟩
  | .hbm, ⟨6, _⟩ => ⟨S4x2816, .f32⟩
  | .hbm, ⟨7, _⟩ => ⟨S4x1024, .f32⟩
  | .hbm, ⟨8, _⟩ => ⟨S4x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S1x3x2816, .f32⟩
  | .hbm, ⟨13, _⟩ => ⟨S3x2816, .f32⟩
  | .hbm, ⟨14, _⟩ => ⟨S1x2816, .f32⟩
  | .hbm, ⟨15, _⟩ => ⟨S2816, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x2816, .f32⟩
  | .hbm, ⟨21, _⟩ => ⟨S1x1024, .f32⟩
  | .hbm, ⟨22, _⟩ => ⟨S1x1024, .f32⟩
  | .hbm, ⟨23, _⟩ => ⟨S8x2048x1024, .f32⟩
  | .hbm, ⟨24, _⟩ => ⟨S8x2x2816, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2x2816, .f32⟩
  | .local _ .vmem, ⟨3, _⟩ => ⟨S1x2x2816, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S3x2816, .f32⟩
  | .local _ .vmem, ⟨8, _⟩ => ⟨S1x2816, .f32⟩
  | .local _ .vmem, ⟨9, _⟩ => ⟨S1x1024, .f32⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x2x2816, .f32⟩
  | .local _ .vmem, ⟨14, _⟩ => ⟨S1x2x2816, .f32⟩
  | .local _ .vmem, ⟨15, _⟩ => ⟨S2x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S8x2048x1024 : Shape := ⟨3, ![8, 2048, 1024]⟩
abbrev S8x2x2816 : Shape := ⟨3, ![8, 2, 2816]⟩
abbrev S4x1024x2816 : Shape := ⟨3, ![4, 1024, 2816]⟩
abbrev S4x2816x1024 : Shape := ⟨3, ![4, 2816, 1024]⟩
abbrev S4x3x2816 : Shape := ⟨3, ![4, 3, 2816]⟩
abbrev S4x2816 : Shape := ⟨2, ![4, 2816]⟩
abbrev S4x1024 : Shape := ⟨2, ![4, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S8x2050x2816 : Shape := ⟨3, ![8, 2050, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1x2816 : Shape := ⟨3, ![1, 1, 2816]⟩
abbrev S_ : Shape := ⟨0, ![]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2x2816, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x3x2816, .f32⟩
  | .hbm, ⟨6, _⟩ => ⟨S4x2816, .f32⟩
  | .hbm, ⟨7, _⟩ => ⟨S4x1024, .f32⟩
  | .hbm, ⟨8, _⟩ => ⟨S4x1024, .f32⟩
  | .hbm, ⟨9, _⟩ => ⟨S1x1024x2816, .f32⟩
  | .hbm, ⟨10, _⟩ => ⟨S1024x2816, .f32⟩
  | .hbm, ⟨11, _⟩ => ⟨S8x2048x2816, .f32⟩
  | .hbm, ⟨12, _⟩ => ⟨S8x2050x2816, .f32⟩
  | .hbm, ⟨13, _⟩ => ⟨S1x3x2816, .f32⟩
  | .hbm, ⟨14, _⟩ => ⟨S3x2816, .f32⟩
  | .hbm, ⟨15, _⟩ => ⟨S8x2048x2816, .f32⟩
  | .hbm, ⟨16, _⟩ => ⟨S1x2816, .f32⟩
  | .hbm, ⟨17, _⟩ => ⟨S2816, .f32⟩
  | .hbm, ⟨18, _⟩ => ⟨S1x1x2816, .f32⟩
  | .hbm, ⟨19, _⟩ => ⟨S8x2048x2816, .f32⟩
  | .hbm, ⟨20, _⟩ => ⟨S8x2048x2816, .f32⟩
  | .hbm, ⟨21, _⟩ => ⟨S_, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S1x2816, .f32⟩
  | .hbm, ⟨26, _⟩ => ⟨S2816, .f32⟩
  | .hbm, ⟨27, _⟩ => ⟨S1x1x2816, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S8x2048x2816, .f32⟩
  | .hbm, ⟨42, _⟩ => ⟨S8x2048x2816, .f32⟩
  | .hbm, ⟨43, _⟩ => ⟨S_, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S1x1024x2816, .f32⟩
  | .hbm, ⟨53, _⟩ => ⟨S1024x2816, .f32⟩
  | .hbm, ⟨54, _⟩ => ⟨S8x2048x2816, .f32⟩
  | .hbm, ⟨55, _⟩ => ⟨S8x2048x2816, .f32⟩
  | .hbm, ⟨56, _⟩ => ⟨S1x2816x1024, .f32⟩
  | .hbm, ⟨57, _⟩ => ⟨S2816x1024, .f32⟩
  | .hbm, ⟨58, _⟩ => ⟨S8x2048x1024, .f32⟩
  | .hbm, ⟨59, _⟩ => ⟨S_, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1024, .f32⟩
  | .hbm, ⟨83, _⟩ => ⟨S8x2048x1024, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S8x2048x1, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | .hbm, ⟨93, _⟩ => ⟨S1x1x1024, .f32⟩
  | .hbm, ⟨94, _⟩ => ⟨S8x2048x1024, .f32⟩
  | .hbm, ⟨95, _⟩ => ⟨S8x2048x1024, .f32⟩
  | .hbm, ⟨96, _⟩ => ⟨S8x2x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024x1792 : Shape := ⟨3, ![2, 1024, 1792]⟩
abbrev S16384x1024 : Shape := ⟨2, ![16384, 1024]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x512 : Shape := ⟨2, ![16384, 512]⟩
abbrev S16384x128 : Shape := ⟨2, ![16384, 128]⟩
abbrev S512x1024 : Shape := ⟨2, ![512, 1024]⟩
abbrev S1x1024x1792 : Shape := ⟨3, ![1, 1024, 1792]⟩
abbrev S512x128 : Shape := ⟨2, ![512, 128]⟩
abbrev S512x512 : Shape := ⟨2, ![512, 512]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 47
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S2x1024x1792, .f32⟩
  | .hbm, ⟨2, _⟩ => ⟨S16384x1024, .f32⟩
  | .hbm, ⟨3, _⟩ => ⟨S2x1024x1792, .bf16⟩
  | .hbm, ⟨4, _⟩ => ⟨S2048, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x8, .f32⟩
  | .hbm, ⟨30, _⟩ => ⟨S2048x64, .f32⟩
  | .hbm, ⟨31, _⟩ => ⟨S2048x8, .f32⟩
  | .hbm, ⟨32, _⟩ => ⟨S2048x64, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S16384x512, .f32⟩
  | .hbm, ⟨44, _⟩ => ⟨S16384x128, .f32⟩
  | .hbm, ⟨45, _⟩ => ⟨S16384x128, .f32⟩
  | .hbm, ⟨46, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .f32⟩
  | .local _ .vmem, ⟨16, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S2x1024x1792 : Shape := ⟨3, ![2, 1024, 1792]⟩
abbrev S2048 : Shape := ⟨1, ![2048]⟩
abbrev S1x1024x1792 : Shape := ⟨3, ![1, 1024, 1792]⟩
abbrev S1024x1792 : Shape := ⟨2, ![1024, 1792]⟩
abbrev S8x2048x1792 : Shape := ⟨3, ![8, 2048, 1792]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x8x16 : Shape := ⟨4, ![8, 2048, 8, 16]⟩
abbrev S8x2048x8x8 : Shape := ⟨4, ![8, 2048, 8, 8]⟩
abbrev S8x2048x8x48 : Shape := ⟨4, ![8, 2048, 8, 48]⟩
abbrev S8x2048x2x64 : Shape := ⟨4, ![8, 2048, 2, 64]⟩
abbrev S8x2048x2x16 : Shape := ⟨4, ![8, 2048, 2, 16]⟩
abbrev S8x2048x2x8 : Shape := ⟨4, ![8, 2048, 2, 8]⟩
abbrev S8x2048x2x48 : Shape := ⟨4, ![8, 2048, 2, 48]⟩
abbrev S16384x512 : Shape := ⟨2, ![16384, 512]⟩
abbrev S16384x128 : Shape := ⟨2, ![16384, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x1792, .f32⟩
  | .hbm, ⟨2, _⟩ => ⟨S2048, .i32⟩
  | .hbm, ⟨3, _⟩ => ⟨S1x1024x1792, .f32⟩
  | .hbm, ⟨4, _⟩ => ⟨S1024x1792, .f32⟩
  | .hbm, ⟨5, _⟩ => ⟨S8x2048x1792, .f32⟩
  | .hbm, ⟨6, _⟩ => ⟨S8x2048x512, .f32⟩
  | .hbm, ⟨7, _⟩ => ⟨S8x2048x128, .f32⟩
  | .hbm, ⟨8, _⟩ => ⟨S8x2048x128, .f32⟩
  | .hbm, ⟨9, _⟩ => ⟨S8x2048x512, .f32⟩
  | .hbm, ⟨10, _⟩ => ⟨S8x2048x512, .f32⟩
  | .hbm, ⟨11, _⟩ => ⟨S8x2048x8x64, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S2048, .f32⟩
  | .hbm, ⟨24, _⟩ => ⟨S2048x1, .f32⟩
  | .hbm, ⟨25, _⟩ => ⟨S1x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S1x2048x1x8, .f32⟩
  | .hbm, ⟨31, _⟩ => ⟨S2048x8, .f32⟩
  | .hbm, ⟨32, _⟩ => ⟨S1x2048x1x8, .f32⟩
  | .hbm, ⟨33, _⟩ => ⟨S8x2048x8x16, .f32⟩
  | .hbm, ⟨34, _⟩ => ⟨S8x2048x8x8, .f32⟩
  | .hbm, ⟨35, _⟩ => ⟨S8x2048x8x8, .f32⟩
  | .hbm, ⟨36, _⟩ => ⟨S8x2048x8x8, .f32⟩
  | .hbm, ⟨37, _⟩ => ⟨S8x2048x8x8, .f32⟩
  | .hbm, ⟨38, _⟩ => ⟨S8x2048x8x8, .f32⟩
  | .hbm, ⟨39, _⟩ => ⟨S8x2048x8x8, .f32⟩
  | .hbm, ⟨40, _⟩ => ⟨S8x2048x8x8, .f32⟩
  | .hbm, ⟨41, _⟩ => ⟨S8x2048x8x8, .f32⟩
  | .hbm, ⟨42, _⟩ => ⟨S8x2048x8x8, .f32⟩
  | .hbm, ⟨43, _⟩ => ⟨S8x2048x8x8, .f32⟩
  | .hbm, ⟨44, _⟩ => ⟨S8x2048x8x8, .f32⟩
  | .hbm, ⟨45, _⟩ => ⟨S8x2048x8x8, .f32⟩
  | .hbm, ⟨46, _⟩ => ⟨S8x2048x8x16, .f32⟩
  | .hbm, ⟨47, _⟩ => ⟨S8x2048x8x48, .f32⟩
  | .hbm, ⟨48, _⟩ => ⟨S8x2048x8x64, .f32⟩
  | .hbm, ⟨49, _⟩ => ⟨S8x2048x2x64, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S2048, .f32⟩
  | .hbm, ⟨62, _⟩ => ⟨S2048x1, .f32⟩
  | .hbm, ⟨63, _⟩ => ⟨S1x8, .f32⟩
  | .hbm, ⟨64, _⟩ => ⟨S2048x8, .f32⟩
  | .hbm, ⟨65, _⟩ => ⟨S2048x8, .f32⟩
  | .hbm, ⟨66, _⟩ => ⟨S2048x8, .f32⟩
  | .hbm, ⟨67, _⟩ => ⟨S2048x8, .f32⟩
  | .hbm, ⟨68, _⟩ => ⟨S1x2048x1x8, .f32⟩
  | .hbm, ⟨69, _⟩ => ⟨S2048x8, .f32⟩
  | .hbm, ⟨70, _⟩ => ⟨S1x2048x1x8, .f32⟩
  | .hbm, ⟨71, _⟩ => ⟨S8x2048x2x16, .f32⟩
  | .hbm, ⟨72, _⟩ => ⟨S8x2048x2x8, .f32⟩
  | .hbm, ⟨73, _⟩ => ⟨S8x2048x2x8, .f32⟩
  | .hbm, ⟨74, _⟩ => ⟨S8x2048x2x8, .f32⟩
  | .hbm, ⟨75, _⟩ => ⟨S8x2048x2x8, .f32⟩
  | .hbm, ⟨76, _⟩ => ⟨S8x2048x2x8, .f32⟩
  | .hbm, ⟨77, _⟩ => ⟨S8x2048x2x8, .f32⟩
  | .hbm, ⟨78, _⟩ => ⟨S8x2048x2x8, .f32⟩
  | .hbm, ⟨79, _⟩ => ⟨S8x2048x2x8, .f32⟩
  | .hbm, ⟨80, _⟩ => ⟨S8x2048x2x8, .f32⟩
  | .hbm, ⟨81, _⟩ => ⟨S8x2048x2x8, .f32⟩
  | .hbm, ⟨82, _⟩ => ⟨S8x2048x2x8, .f32⟩
  | .hbm, ⟨83, _⟩ => ⟨S8x2048x2x8, .f32⟩
  | .hbm, ⟨84, _⟩ => ⟨S8x2048x2x16, .f32⟩
  | .hbm, ⟨85, _⟩ => ⟨S8x2048x2x48, .f32⟩
  | .hbm, ⟨86, _⟩ => ⟨S8x2048x2x64, .f32⟩
  | .hbm, ⟨87, _⟩ => ⟨S8x2048x512, .f32⟩
  | .hbm, ⟨88, _⟩ => ⟨S8x2048x512, .f32⟩
  | .hbm, ⟨89, _⟩ => ⟨S_, .f32⟩
  | .hbm, ⟨90, _⟩ => ⟨S8x2048x512, .f32⟩
  | .hbm, ⟨91, _⟩ => ⟨S8x2048x512, .f32⟩
  | .hbm, ⟨92, _⟩ => ⟨S_, .f32⟩
  | .hbm, ⟨93, _⟩ => ⟨S8x2048x512, .f32⟩
  | .hbm, ⟨94, _⟩ => ⟨S8x2048x512, .f32⟩
  | .hbm, ⟨95, _⟩ => ⟨S8x2048x512, .f32⟩
  | .hbm, ⟨96, _⟩ => ⟨S16384x512, .f32⟩
  | .hbm, ⟨97, _⟩ => ⟨S16384x128, .f32⟩
  | .hbm, ⟨98, _⟩ => ⟨S16384x128, .f32⟩
  | .hbm, ⟨99, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_5 : Ref sig .tc := ⟨.hbm, 89, rfl⟩
abbrev main_v81 : Ref sig .tc := ⟨.hbm, 90, rfl⟩
abbrev main_v82 : Ref sig .tc := ⟨.hbm, 91, rfl⟩
abbrev main_cst_6 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024x2816 : Shape := ⟨3, ![2, 1024, 2816]⟩
abbrev S16384x1024 : Shape := ⟨2, ![16384, 1024]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x512 : Shape := ⟨2, ![16384, 512]⟩
abbrev S16384x128 : Shape := ⟨2, ![16384, 128]⟩
abbrev S16384x2048 : Shape := ⟨2, ![16384, 2048]⟩
abbrev S512x1024 : Shape := ⟨2, ![512, 1024]⟩
abbrev S1x1024x2816 : Shape := ⟨3, ![1, 1024, 2816]⟩
abbrev S512x128 : Shape := ⟨2, ![512, 128]⟩
abbrev S512x512 : Shape := ⟨2, ![512, 512]⟩
abbrev S512x2048 : Shape := ⟨2, ![512, 2048]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩
abbrev S1x1024x1024 : Shape := ⟨3, ![1, 1024, 1024]⟩
abbrev S1024x1024 : Shape := ⟨2, ![1024, 1024]⟩

abbrev nBuf : Space → Nat
  | .hbm => 47
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S2x1024x2816, .f32⟩
  | .hbm, ⟨2, _⟩ => ⟨S16384x1024, .f32⟩
  | .hbm, ⟨3, _⟩ => ⟨S2x1024x2816, .bf16⟩
  | .hbm, ⟨4, _⟩ => ⟨S2048, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x8, .f32⟩
  | .hbm, ⟨30, _⟩ => ⟨S2048x64, .f32⟩
  | .hbm, ⟨31, _⟩ => ⟨S2048x8, .f32⟩
  | .hbm, ⟨32, _⟩ => ⟨S2048x64, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S16384x512, .f32⟩
  | .hbm, ⟨44, _⟩ => ⟨S16384x128, .f32⟩
  | .hbm, ⟨45, _⟩ => ⟨S16384x128, .f32⟩
  | .hbm, ⟨46, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x2048, .f32⟩
  | .local _ .vmem, ⟨16, _⟩ => ⟨S512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x2048x1024 : Shape := ⟨3, ![8, 2048, 1024]⟩
abbrev S2x1024x2816 : Shape := ⟨3, ![2, 1024, 2816]⟩
abbrev S2048 : Shape := ⟨1, ![2048]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x8x16 : Shape := ⟨4, ![8, 2048, 8, 16]⟩
abbrev S8x2048x8x8 : Shape := ⟨4, ![8, 2048, 8, 8]⟩
abbrev S8x2048x8x48 : Shape := ⟨4, ![8, 2048, 8, 48]⟩
abbrev S8x2048x2x64 : Shape := ⟨4, ![8, 2048, 2, 64]⟩
abbrev S8x2048x2x16 : Shape := ⟨4, ![8, 2048, 2, 16]⟩
abbrev S8x2048x2x8 : Shape := ⟨4, ![8, 2048, 2, 8]⟩
abbrev S8x2048x2x48 : Shape := ⟨4, ![8, 2048, 2, 48]⟩
abbrev S8x2048x2048 : Shape := ⟨3, ![8, 2048, 2048]⟩
abbrev S16384x512 : Shape := ⟨2, ![16384, 512]⟩
abbrev S16384x128 : Shape := ⟨2, ![16384, 128]⟩
abbrev S16384x2048 : Shape := ⟨2, ![16384, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x2816, .f32⟩
  | .hbm, ⟨2, _⟩ => ⟨S2048, .i32⟩
  | .hbm, ⟨3, _⟩ => ⟨S1x1024x2816, .f32⟩
  | .hbm, ⟨4, _⟩ => ⟨S1024x2816, .f32⟩
  | .hbm, ⟨5, _⟩ => ⟨S8x2048x2816, .f32⟩
  | .hbm, ⟨6, _⟩ => ⟨S8x2048x512, .f32⟩
  | .hbm, ⟨7, _⟩ => ⟨S8x2048x128, .f32⟩
  | .hbm, ⟨8, _⟩ => ⟨S8x2048x128, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S8x2048x8x64, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2048, .f32⟩
  | .hbm, ⟨26, _⟩ => ⟨S2048x1, .f32⟩
  | .hbm, ⟨27, _⟩ => ⟨S1x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S1x2048x1x8, .f32⟩
  | .hbm, ⟨33, _⟩ => ⟨S2048x8, .f32⟩
  | .hbm, ⟨34, _⟩ => ⟨S1x2048x1x8, .f32⟩
  | .hbm, ⟨35, _⟩ => ⟨S8x2048x8x16, .f32⟩
  | .hbm, ⟨36, _⟩ => ⟨S8x2048x8x8, .f32⟩
  | .hbm, ⟨37, _⟩ => ⟨S8x2048x8x8, .f32⟩
  | .hbm, ⟨38, _⟩ => ⟨S8x2048x8x8, .f32⟩
  | .hbm, ⟨39, _⟩ => ⟨S8x2048x8x8, .f32⟩
  | .hbm, ⟨40, _⟩ => ⟨S8x2048x8x8, .f32⟩
  | .hbm, ⟨41, _⟩ => ⟨S8x2048x8x8, .f32⟩
  | .hbm, ⟨42, _⟩ => ⟨S8x2048x8x8, .f32⟩
  | .hbm, ⟨43, _⟩ => ⟨S8x2048x8x8, .f32⟩
  | .hbm, ⟨44, _⟩ => ⟨S8x2048x8x8, .f32⟩
  | .hbm, ⟨45, _⟩ => ⟨S8x2048x8x8, .f32⟩
  | .hbm, ⟨46, _⟩ => ⟨S8x2048x8x8, .f32⟩
  | .hbm, ⟨47, _⟩ => ⟨S8x2048x8x8, .f32⟩
  | .hbm, ⟨48, _⟩ => ⟨S8x2048x8x16, .f32⟩
  | .hbm, ⟨49, _⟩ => ⟨S8x2048x8x48, .f32⟩
  | .hbm, ⟨50, _⟩ => ⟨S8x2048x8x64, .f32⟩
  | .hbm, ⟨51, _⟩ => ⟨S8x2048x2x64, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S2048, .f32⟩
  | .hbm, ⟨64, _⟩ => ⟨S2048x1, .f32⟩
  | .hbm, ⟨65, _⟩ => ⟨S1x8, .f32⟩
  | .hbm, ⟨66, _⟩ => ⟨S2048x8, .f32⟩
  | .hbm, ⟨67, _⟩ => ⟨S2048x8, .f32⟩
  | .hbm, ⟨68, _⟩ => ⟨S2048x8, .f32⟩
  | .hbm, ⟨69, _⟩ => ⟨S2048x8, .f32⟩
  | .hbm, ⟨70, _⟩ => ⟨S1x2048x1x8, .f32⟩
  | .hbm, ⟨71, _⟩ => ⟨S2048x8, .f32⟩
  | .hbm, ⟨72, _⟩ => ⟨S1x2048x1x8, .f32⟩
  | .hbm, ⟨73, _⟩ => ⟨S8x2048x2x16, .f32⟩
  | .hbm, ⟨74, _⟩ => ⟨S8x2048x2x8, .f32⟩
  | .hbm, ⟨75, _⟩ => ⟨S8x2048x2x8, .f32⟩
  | .hbm, ⟨76, _⟩ => ⟨S8x2048x2x8, .f32⟩
  | .hbm, ⟨77, _⟩ => ⟨S8x2048x2x8, .f32⟩
  | .hbm, ⟨78, _⟩ => ⟨S8x2048x2x8, .f32⟩
  | .hbm, ⟨79, _⟩ => ⟨S8x2048x2x8, .f32⟩
  | .hbm, ⟨80, _⟩ => ⟨S8x2048x2x8, .f32⟩
  | .hbm, ⟨81, _⟩ => ⟨S8x2048x2x8, .f32⟩
  | .hbm, ⟨82, _⟩ => ⟨S8x2048x2x8, .f32⟩
  | .hbm, ⟨83, _⟩ => ⟨S8x2048x2x8, .f32⟩
  | .hbm, ⟨84, _⟩ => ⟨S8x2048x2x8, .f32⟩
  | .hbm, ⟨85, _⟩ => ⟨S8x2048x2x8, .f32⟩
  | .hbm, ⟨86, _⟩ => ⟨S8x2048x2x16, .f32⟩
  | .hbm, ⟨87, _⟩ => ⟨S8x2048x2x48, .f32⟩
  | .hbm, ⟨88, _⟩ => ⟨S8x2048x2x64, .f32⟩
  | .hbm, ⟨89, _⟩ => ⟨S8x2048x512, .f32⟩
  | .hbm, ⟨90, _⟩ => ⟨S8x2048x512, .f32⟩
  | .hbm, ⟨91, _⟩ => ⟨S_, .f32⟩
  | .hbm, ⟨92, _⟩ => ⟨S8x2048x512, .f32⟩
  | .hbm, ⟨93, _⟩ => ⟨S8x2048x512, .f32⟩
  | .hbm, ⟨94, _⟩ => ⟨S_, .f32⟩
  | .hbm, ⟨95, _⟩ => ⟨S8x2048x512, .f32⟩
  | .hbm, ⟨96, _⟩ => ⟨S8x2048x512, .f32⟩
  | .hbm, ⟨97, _⟩ => ⟨S8x2048x512, .f32⟩
  | .hbm, ⟨98, _⟩ => ⟨S8x2048x512, .f32⟩
  | .hbm, ⟨99, _⟩ => ⟨S8x2048x512, .f32⟩
  | .hbm, ⟨100, _⟩ => ⟨S_, .f32⟩
  | .hbm, ⟨101, _⟩ => ⟨S8x2048x512, .f32⟩
  | .hbm, ⟨102, _⟩ => ⟨S8x2048x512, .f32⟩
  | .hbm, ⟨103, _⟩ => ⟨S_, .f32⟩
  | .hbm, ⟨104, _⟩ => ⟨S8x2048x512, .f32⟩
  | .hbm, ⟨105, _⟩ => ⟨S8x2048x512, .f32⟩
  | .hbm, ⟨106, _⟩ => ⟨S8x2048x512, .f32⟩
  | .hbm, ⟨107, _⟩ => ⟨S8x2048x2048, .f32⟩
  | .hbm, ⟨108, _⟩ => ⟨S16384x512, .f32⟩
  | .hbm, ⟨109, _⟩ => ⟨S16384x128, .f32⟩
  | .hbm, ⟨110, _⟩ => ⟨S16384x128, .f32⟩
  | .hbm, ⟨111, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_cst_4 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v81 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]
-- ==== Kernel5.lean ====
abbrev S16384x512 : Shape := ⟨2, ![16384, 512]⟩
abbrev S16384x1024 : Shape := ⟨2, ![16384, 1024]⟩
abbrev S2x1024x1024 : Shape := ⟨3, ![2, 1024, 1024]⟩
abbrev S4x1024 : Shape := ⟨2, ![4, 1024]⟩
abbrev S1x1024 : Shape := ⟨2, ![1, 1024]⟩
abbrev S1024 : Shape := ⟨1, ![1024]⟩
abbrev S512x512 : Shape := ⟨2, ![512, 512]⟩
abbrev S512x1024 : Shape := ⟨2, ![512, 1024]⟩
abbrev S1x1024x1024 : Shape := ⟨3, ![1, 1024, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S4x1024, .f32⟩
  | .hbm, ⟨5, _⟩ => ⟨S4x1024, .f32⟩
  | .hbm, ⟨6, _⟩ => ⟨S2x1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x512 : Shape := ⟨2, ![16384, 512]⟩
abbrev S16384x1024 : Shape := ⟨2, ![16384, 1024]⟩
abbrev S2x1024x1024 : Shape := ⟨3, ![2, 1024, 1024]⟩
abbrev S4x1024 : Shape := ⟨2, ![4, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S4x1024, .f32⟩
  | .hbm, ⟨5, _⟩ => ⟨S4x1024, .f32⟩
  | .hbm, ⟨6, _⟩ => ⟨S16384x1024, .bf16⟩
  | .hbm, ⟨7, _⟩ => ⟨S16384x1024, .f32⟩
  | .hbm, ⟨8, _⟩ => ⟨S1x1024x1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S128x8x1024 : Shape := ⟨3, ![128, 8, 1024]⟩
abbrev S128x2x2816 : Shape := ⟨3, ![128, 2, 2816]⟩
abbrev S4x1024x2816 : Shape := ⟨3, ![4, 1024, 2816]⟩
abbrev S4x2816x1024 : Shape := ⟨3, ![4, 2816, 1024]⟩
abbrev S4x3x2816 : Shape := ⟨3, ![4, 3, 2816]⟩
abbrev S4x2816 : Shape := ⟨2, ![4, 2816]⟩
abbrev S4x1024 : Shape := ⟨2, ![4, 1024]⟩
abbrev S_ : Shape := ⟨0, ![]⟩
abbrev S128x8x2816 : Shape := ⟨3, ![128, 8, 2816]⟩
abbrev S1024x2816 : Shape := ⟨2, ![1024, 2816]⟩
abbrev S1024x1024 : Shape := ⟨2, ![1024, 1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1024 : Shape := ⟨2, ![1, 1024]⟩
abbrev S1024 : Shape := ⟨1, ![1024]⟩
abbrev S512x1024 : Shape := ⟨2, ![512, 1024]⟩
abbrev S512x2816 : Shape := ⟨2, ![512, 2816]⟩
abbrev S1x1024x2816 : Shape := ⟨3, ![1, 1024, 2816]⟩
abbrev S1x2816x1024 : Shape := ⟨3, ![1, 2816, 1024]⟩
abbrev S512x256 : Shape := ⟨2, ![512, 256]⟩
abbrev S1x1024x256 : Shape := ⟨3, ![1, 1024, 256]⟩
abbrev S1024x256 : Shape := ⟨2, ![1024, 256]⟩
abbrev S1x256 : Shape := ⟨2, ![1, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S128x8x1024, .f32⟩
  | .hbm, ⟨1, _⟩ => ⟨S128x2x2816, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x3x2816, .f32⟩
  | .hbm, ⟨6, _⟩ => ⟨S4x2816, .f32⟩
  | .hbm, ⟨7, _⟩ => ⟨S4x1024, .f32⟩
  | .hbm, ⟨8, _⟩ => ⟨S4x1024, .f32⟩
  | .hbm, ⟨9, _⟩ => ⟨S_, .i32⟩
  | .hbm, ⟨10, _⟩ => ⟨S_, .f32⟩
  | .hbm, ⟨11, _⟩ => ⟨S128x8x2816, .f32⟩
  | .hbm, ⟨12, _⟩ => ⟨S1024x2816, .f32⟩
  | .hbm, ⟨13, _⟩ => ⟨S1024x1024, .f32⟩
  | .hbm, ⟨14, _⟩ => ⟨S4x1024x2816, .bf16⟩
  | .hbm, ⟨15, _⟩ => ⟨S4x1024x2816, .bf16⟩
  | .hbm, ⟨16, _⟩ => ⟨S4x2816x1024, .bf16⟩
  | .hbm, ⟨17, _⟩ => ⟨S1x3x2816, .f32⟩
  | .hbm, ⟨18, _⟩ => ⟨S3x2816, .f32⟩
  | .hbm, ⟨19, _⟩ => ⟨S1x2816, .f32⟩
  | .hbm, ⟨20, _⟩ => ⟨S2816, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x2816, .f32⟩
  | .hbm, ⟨26, _⟩ => ⟨S1x1024, .f32⟩
  | .hbm, ⟨27, _⟩ => ⟨S1x1024, .f32⟩
  | .hbm, ⟨28, _⟩ => ⟨S1024x1024, .f32⟩
  | .hbm, ⟨29, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S512x2816, .f32⟩
  | .local _ .vmem, ⟨3, _⟩ => ⟨S512x2816, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S3x2816, .f32⟩
  | .local _ .vmem, ⟨8, _⟩ => ⟨S1x2816, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2816, .f32⟩
  | .local _ .vmem, ⟨14, _⟩ => ⟨S512x2816, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S128x8x1024 : Shape := ⟨3, ![128, 8, 1024]⟩
abbrev S128x2x2816 : Shape := ⟨3, ![128, 2, 2816]⟩
abbrev S4x1024x2816 : Shape := ⟨3, ![4, 1024, 2816]⟩
abbrev S4x2816x1024 : Shape := ⟨3, ![4, 2816, 1024]⟩
abbrev S4x3x2816 : Shape := ⟨3, ![4, 3, 2816]⟩
abbrev S4x2816 : Shape := ⟨2, ![4, 2816]⟩
abbrev S4x1024 : Shape := ⟨2, ![4, 1024]⟩
abbrev S1x1024x2816 : Shape := ⟨3, ![1, 1024, 2816]⟩
abbrev S1024x2816 : Shape := ⟨2, ![1024, 2816]⟩
abbrev S128x8x2816 : Shape := ⟨3, ![128, 8, 2816]⟩
abbrev S128x10x2816 : Shape := ⟨3, ![128, 10, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x1x2816 : Shape := ⟨3, ![1, 1, 2816]⟩
abbrev S_ : Shape := ⟨0, ![]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 98
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x2x2816, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x3x2816, .f32⟩
  | .hbm, ⟨6, _⟩ => ⟨S4x2816, .f32⟩
  | .hbm, ⟨7, _⟩ => ⟨S4x1024, .f32⟩
  | .hbm, ⟨8, _⟩ => ⟨S4x1024, .f32⟩
  | .hbm, ⟨9, _⟩ => ⟨S1x1024x2816, .f32⟩
  | .hbm, ⟨10, _⟩ => ⟨S1024x2816, .f32⟩
  | .hbm, ⟨11, _⟩ => ⟨S128x8x2816, .f32⟩
  | .hbm, ⟨12, _⟩ => ⟨S128x10x2816, .f32⟩
  | .hbm, ⟨13, _⟩ => ⟨S1x3x2816, .f32⟩
  | .hbm, ⟨14, _⟩ => ⟨S3x2816, .f32⟩
  | .hbm, ⟨15, _⟩ => ⟨S128x8x2816, .f32⟩
  | .hbm, ⟨16, _⟩ => ⟨S1x2816, .f32⟩
  | .hbm, ⟨17, _⟩ => ⟨S2816, .f32⟩
  | .hbm, ⟨18, _⟩ => ⟨S1x1x2816, .f32⟩
  | .hbm, ⟨19, _⟩ => ⟨S128x8x2816, .f32⟩
  | .hbm, ⟨20, _⟩ => ⟨S128x8x2816, .f32⟩
  | .hbm, ⟨21, _⟩ => ⟨S_, .f32⟩
  | .hbm, ⟨22, _⟩ => ⟨S128x8x2816, .f32⟩
  | .hbm, ⟨23, _⟩ => ⟨S128x8x2816, .f32⟩
  | .hbm, ⟨24, _⟩ => ⟨S128x8x2816, .f32⟩
  | .hbm, ⟨25, _⟩ => ⟨S1x2816, .f32⟩
  | .hbm, ⟨26, _⟩ => ⟨S2816, .f32⟩
  | .hbm, ⟨27, _⟩ => ⟨S1x1x2816, .f32⟩
  | .hbm, ⟨28, _⟩ => ⟨S128x8x2816, .f32⟩
  | .hbm, ⟨29, _⟩ => ⟨S128x8x2816, .f32⟩
  | .hbm, ⟨30, _⟩ => ⟨S128x8x2816, .f32⟩
  | .hbm, ⟨31, _⟩ => ⟨S128x8x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S128x8x2816, .f32⟩
  | .hbm, ⟨36, _⟩ => ⟨S128x8x2816, .f32⟩
  | .hbm, ⟨37, _⟩ => ⟨S128x8x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S128x8x2816, .f32⟩
  | .hbm, ⟨42, _⟩ => ⟨S128x8x2816, .f32⟩
  | .hbm, ⟨43, _⟩ => ⟨S_, .f32⟩
  | .hbm, ⟨44, _⟩ => ⟨S128x8x2816, .f32⟩
  | .hbm, ⟨45, _⟩ => ⟨S128x8x2816, .f32⟩
  | .hbm, ⟨46, _⟩ => ⟨S128x8x2816, .f32⟩
  | .hbm, ⟨47, _⟩ => ⟨S_, .f32⟩
  | .hbm, ⟨48, _⟩ => ⟨S128x8x2816, .f32⟩
  | .hbm, ⟨49, _⟩ => ⟨S128x8x2816, .f32⟩
  | .hbm, ⟨50, _⟩ => ⟨S128x8x2816, .f32⟩
  | .hbm, ⟨51, _⟩ => ⟨S128x8x2816, .f32⟩
  | .hbm, ⟨52, _⟩ => ⟨S1x1024x2816, .f32⟩
  | .hbm, ⟨53, _⟩ => ⟨S1024x2816, .f32⟩
  | .hbm, ⟨54, _⟩ => ⟨S128x8x2816, .f32⟩
  | .hbm, ⟨55, _⟩ => ⟨S128x8x2816, .f32⟩
  | .hbm, ⟨56, _⟩ => ⟨S1x2816x1024, .f32⟩
  | .hbm, ⟨57, _⟩ => ⟨S2816x1024, .f32⟩
  | .hbm, ⟨58, _⟩ => ⟨S128x8x1024, .f32⟩
  | .hbm, ⟨59, _⟩ => ⟨S_, .f32⟩
  | .hbm, ⟨60, _⟩ => ⟨S128x8x1024, .f32⟩
  | .hbm, ⟨61, _⟩ => ⟨S128x8x1024, .f32⟩
  | .hbm, ⟨62, _⟩ => ⟨S128x8x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S_, .f32⟩
  | .hbm, ⟨68, _⟩ => ⟨S128x8, .f32⟩
  | .hbm, ⟨69, _⟩ => ⟨S128x8x1, .f32⟩
  | .hbm, ⟨70, _⟩ => ⟨S_, .f32⟩
  | .hbm, ⟨71, _⟩ => ⟨S128x8x1, .f32⟩
  | .hbm, ⟨72, _⟩ => ⟨S128x8x1, .f32⟩
  | .hbm, ⟨73, _⟩ => ⟨S128x8x1024, .f32⟩
  | .hbm, ⟨74, _⟩ => ⟨S128x8x1024, .f32⟩
  | .hbm, ⟨75, _⟩ => ⟨S128x8x1024, .f32⟩
  | .hbm, ⟨76, _⟩ => ⟨S_, .f32⟩
  | .hbm, ⟨77, _⟩ => ⟨S128x8, .f32⟩
  | .hbm, ⟨78, _⟩ => ⟨S128x8x1, .f32⟩
  | .hbm, ⟨79, _⟩ => ⟨S_, .f32⟩
  | .hbm, ⟨80, _⟩ => ⟨S128x8x1, .f32⟩
  | .hbm, ⟨81, _⟩ => ⟨S128x8x1, .f32⟩
  | .hbm, ⟨82, _⟩ => ⟨S128x8x1024, .f32⟩
  | .hbm, ⟨83, _⟩ => ⟨S128x8x1024, .f32⟩
  | .hbm, ⟨84, _⟩ => ⟨S_, .f32⟩
  | .hbm, ⟨85, _⟩ => ⟨S128x8x1, .f32⟩
  | .hbm, ⟨86, _⟩ => ⟨S128x8x1, .f32⟩
  | .hbm, ⟨87, _⟩ => ⟨S128x8x1, .f32⟩
  | .hbm, ⟨88, _⟩ => ⟨S128x8x1024, .f32⟩
  | .hbm, ⟨89, _⟩ => ⟨S128x8x1024, .f32⟩
  | .hbm, ⟨90, _⟩ => ⟨S1x1x1024, .f32⟩
  | .hbm, ⟨91, _⟩ => ⟨S128x8x1024, .f32⟩
  | .hbm, ⟨92, _⟩ => ⟨S128x8x1024, .f32⟩
  | .hbm, ⟨93, _⟩ => ⟨S1x1x1024, .f32⟩
  | .hbm, ⟨94, _⟩ => ⟨S128x8x1024, .f32⟩
  | .hbm, ⟨95, _⟩ => ⟨S128x8x1024, .f32⟩
  | .hbm, ⟨96, _⟩ => ⟨S1024x1024, .f32⟩
  | .hbm, ⟨97, _⟩ => ⟨S1024x2816, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Proof.Frames.lean ====
/-
  The programs run, leave their arguments as they were and every semaphore counter at zero; and the one constant of the
  idealization is what its name says.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Pre_finite

@[expose] public section

noncomputable section

namespace Cert.Proof

open Idealize.ShloMosaic Idealize.SL.Sem

/-- The attention kernel as it is. -/
theorem kernel_frame : Cert.quiescent_Kernel := fun m g _ => Cert.Kernel.Gen.frame m g

/-- The attention kernel, idealized. -/
theorem kernel_ideal_frame : Cert.quiescent_KernelIdeal := fun m g _ => Cert.KernelIdeal.Gen.frame m g

/-- The same under the precondition of its value. -/
theorem kernel_ideal_frame_pre : Cert.quiescent_KernelIdeal_pre_finite := fun m g _ => Cert.KernelIdeal.Gen.frame m g

/-- The attention's reference. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The same under the precondition of its value. -/
theorem reference_frame_pre : Cert.quiescent_ReferenceIdeal_pre_finite := fun m g _ => reference_frame m g trivial

/-- The feed-forward kernel as it is. -/
theorem kernel2_frame : Cert.quiescent_Kernel2 := fun m g _ => Cert.Kernel2.Gen.frame m g

/-- The feed-forward kernel, idealized. -/
theorem kernel2_ideal_frame : Cert.quiescent_Kernel2Ideal := fun m g _ => Cert.Kernel2Ideal.Gen.frame m g

/-- The feed-forward layer's reference. -/
theorem reference2_frame : Cert.quiescent_Reference2Ideal := fun m g _ =>
  (θ_run _ _ _).mono (fun r h => ⟨fun c => (h c).2.2, sem_eq_zero_of_no_sems (by decide) r.2⟩)
    (Cert.Reference2Ideal.Value.run (F := Ideal) m g)

/-- The even layers' input projection as it is. -/
theorem kernel3_frame : Cert.quiescent_Kernel3 := fun m g _ => Cert.Kernel3.Gen.frame m g

/-- The even layers' input projection, idealized. -/
theorem kernel3_ideal_frame : Cert.quiescent_Kernel3Ideal := fun m g _ => Cert.Kernel3Ideal.Gen.frame m g

/-- The even layers' input projection's reference. -/
theorem reference3_frame : Cert.quiescent_Reference3Ideal := fun m g _ =>
  (θ_run _ _ _).mono (fun r h => ⟨fun c => (h c).2.2.2.2, sem_eq_zero_of_no_sems (by decide) r.2⟩)
    (Cert.Reference3Ideal.Value.run (F := Ideal) m g)

/-- The odd layers' input projection as it is. -/
theorem kernel4_frame : Cert.quiescent_Kernel4 := fun m g _ => Cert.Kernel4.Gen.frame m g

/-- The odd layers' input projection, idealized. -/
theorem kernel4_ideal_frame : Cert.quiescent_Kernel4Ideal := fun m g _ => Cert.Kernel4Ideal.Gen.frame m g

/-- The odd layers' input projection's reference. -/
theorem reference4_frame : Cert.quiescent_Reference4Ideal := fun m g _ =>
  (θ_run _ _ _).mono (fun r h => ⟨fun c => (h c).2.2.2.2, sem_eq_zero_of_no_sems (by decide) r.2⟩)
    (Cert.Reference4Ideal.Value.run (F := Ideal) m g)

/-- The output projection as it is. -/
theorem kernel5_frame : Cert.quiescent_Kernel5 := fun m g _ => Cert.Kernel5.Gen.frame m g

/-- The output projection, idealized. -/
theorem kernel5_ideal_frame : Cert.quiescent_Kernel5Ideal := fun m g _ => Cert.Kernel5Ideal.Gen.frame m g

/-- The output projection's reference. -/
theorem reference5_frame : Cert.quiescent_Reference5Ideal := fun m g _ =>
  (θ_run _ _ _).mono (fun r h => ⟨fun c => (h c).2, sem_eq_zero_of_no_sems (by decide) r.2⟩)
    (Cert.Reference5Ideal.Value.run (F := Ideal) m g)

/-- The short sequences' feed-forward kernel as it is. -/
theorem kernel6_frame : Cert.quiescent_Kernel6 := fun m g _ => Cert.Kernel6.Gen.frame m g

/-- The short sequences' feed-forward kernel, idealized. -/
theorem kernel6_ideal_frame : Cert.quiescent_Kernel6Ideal := fun m g _ => Cert.Kernel6Ideal.Gen.frame m g

/-- Its reference. -/
theorem reference6_frame : Cert.quiescent_Reference6Ideal := fun m g _ =>
  (θ_run _ _ _).mono (fun r h => ⟨fun c => (h c).2.2, sem_eq_zero_of_no_sems (by decide) r.2⟩)
    (Cert.Reference6Ideal.Value.run (F := Ideal) m g)

/-- The mask's constant stands for minus infinity. -/
theorem mask_named : Cert.preserves_Kernel_KernelIdeal := IdealRules.named_const.statement _ _ _ _ _ rfl

end Cert.Proof

end
-- ==== Proof.Softmax.lean ====
/-
  Softmax attention over one list of keys with a sink, on extended reals. The sum of weighted values may be divided by
  the sum of the weights once at the end, or each weight may be divided first: the two agree when no score is `⊤` and
  the sink is a real number, whatever the values are.
-/
module

public import Idealize.ShloMosaic.PureOps.Ideal
public import Idealize.ShloMosaic.Lib.Pointwise

@[expose] public section

noncomputable section

namespace Cert.Softmax

open Idealize.ShloMosaic

variable {n : ℕ}

/-- The largest score, the sink's included. -/
def top (S : Fin n → EReal) (z : EReal) : EReal := max (Finset.univ.fold max ⊥ S) z

/-- The unnormalised weight of a score. -/
def weight (S : Fin n → EReal) (z : EReal) (k : Fin n) : EReal := Ideal.exp (S k - top S z)

/-- The sum of the weights, the sink's included. -/
def total (S : Fin n → EReal) (z : EReal) : EReal := ∑ k, weight S z k + Ideal.exp (z - top S z)

/-- The weighted sum of the values, divided by the total at the end. -/
def attend (S : Fin n → EReal) (z : EReal) (V : Fin n → EReal) : EReal :=
  Ideal.div (∑ k, V k * weight S z k) (total S z)

/-- A maximum of numbers none of which is `⊤` is not `⊤`. -/
theorem fold_max_ne_top (S : Fin n → EReal) (h : ∀ k, S k ≠ ⊤) (s : Finset (Fin n)) : s.fold max ⊥ S ≠ ⊤ := by
  induction s using Finset.induction_on with
  | empty => simp
  | insert a s ha ih =>
    rw [Finset.fold_insert ha]
    intro e
    rcases max_eq_iff.1 e with ⟨e, -⟩ | ⟨e, -⟩
    · exact h a e
    · exact ih e

/-- The largest score is a real number. -/
theorem top_real (S : Fin n → EReal) (z : ℝ) (h : ∀ k, S k ≠ ⊤) : ∃ M : ℝ, top S z = M := by
  have h1 : top S z ≠ ⊤ := by
    intro e
    rcases max_eq_iff.1 e with ⟨e, -⟩ | ⟨e, -⟩
    · exact fold_max_ne_top S h _ e
    · exact EReal.coe_ne_top z e
  have h2 : top S z ≠ ⊥ := fun e => by
    have : (z : EReal) ≤ ⊥ := e ▸ le_max_right _ _
    exact EReal.coe_ne_bot z (le_bot_iff.1 this)
  exact ⟨(top S z).toReal, (EReal.coe_toReal h1 h2).symm⟩

/-- The exponential of a number below `⊤` less a real number is a nonnegative real number. -/
theorem exp_sub_real (x : EReal) (M : ℝ) (h : x ≠ ⊤) : ∃ r : ℝ, 0 ≤ r ∧ Ideal.exp (x - M) = r := by
  induction x with
  | bot => exact ⟨0, le_refl _, by simp⟩
  | top => exact absurd rfl h
  | coe x => exact ⟨Real.exp (x - M), (Real.exp_pos _).le, by rw [← EReal.coe_sub, Ideal.exp_coe]⟩

/-- A sum of extended reals times a nonnegative real number. -/
theorem sum_mul_coe (f : Fin n → EReal) (c : ℝ) (hc : 0 ≤ c) : (∑ k, f k) * (c : EReal) = ∑ k, f k * (c : EReal) := by
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of real numbers, read as an extended real. -/
theorem coe_sum (f : Fin n → ℝ) : ((∑ k, f k : ℝ) : EReal) = ∑ k, (f k : EReal) := by
  induction (Finset.univ : Finset (Fin n)) using Finset.induction_on with
  | empty => simp
  | insert a s ha ih => rw [Finset.sum_insert ha, Finset.sum_insert ha, EReal.coe_add, ih]

/-- The weights are nonnegative real numbers and their total is a positive one. -/
theorem weights_real (S : Fin n → EReal) (z : ℝ) (h : ∀ k, S k ≠ ⊤) :
    (∀ k, ∃ r : ℝ, 0 ≤ r ∧ weight S z k = r) ∧ ∃ D : ℝ, 0 < D ∧ total S z = D := by
  obtain ⟨M, hM⟩ := top_real S z h
  have hw : ∀ k, ∃ r : ℝ, 0 ≤ r ∧ weight S z k = r := fun k => by
    rw [weight, hM]; exact exp_sub_real _ _ (h k)
  refine ⟨hw, ?_⟩
  choose f hf0 hf using hw
  refine ⟨∑ k, f k + Real.exp (z - M),
    add_pos_of_nonneg_of_pos (Finset.sum_nonneg fun k _ => hf0 k) (Real.exp_pos _), ?_⟩
  rw [total, hM, ← EReal.coe_sub, Ideal.exp_coe, EReal.coe_add]
  congr 1
  simp only [hf, coe_sum]

/-- Dividing the weighted sum by the total is the sum of the values times the divided weights. -/
theorem attend_eq (S : Fin n → EReal) (z : ℝ) (V : Fin n → EReal) (h : ∀ k, S k ≠ ⊤) :
    attend S z V = ∑ k, V k * Ideal.div (weight S z k) (total S z) := by
  obtain ⟨-, D, hD, hT⟩ := weights_real S z h
  rw [attend, hT, Ideal.div_coe hD.ne', sum_mul_coe _ _ (by positivity)]
  exact Finset.sum_congr rfl fun k _ => by rw [Ideal.div_coe hD.ne', mul_assoc]

/-- A maximum over a list with one more entry. -/
theorem fold_max_succ (f : Fin (n + 1) → EReal) :
    Finset.univ.fold max ⊥ f = max (Finset.univ.fold max ⊥ fun k : Fin n => f k.castSucc) (f (Fin.last n)) := by
  rw [Fin.univ_castSuccEmb, Finset.fold_cons, Finset.fold_map, max_comm]
  rfl

/-- A key whose score is `⊥` contributes nothing, whatever its value: two value lists that agree at the other keys
    give the same attention. -/
theorem attend_congr (S : Fin n → EReal) (z : ℝ) (V W : Fin n → EReal) (h : ∀ k, S k ≠ ⊤)
    (hV : ∀ k, S k ≠ ⊥ → V k = W k) : attend S z V = attend S z W := by
  obtain ⟨M, hM⟩ := top_real S z h
  unfold attend
  congr 1
  refine Finset.sum_congr rfl fun k _ => ?_
  by_cases e : S k = ⊥
  · have : weight S z k = 0 := by rw [weight, hM, e]; simp
    rw [this, mul_zero, mul_zero]
  · rw [hV k e]

end Cert.Softmax

end
-- ==== Proof.WindowSpec.lean ====
/-
  Attention of a prompt over a window of keys, element by element: query `128 n + t` of sequence `b` sees, of the 256 keys
  of its own block `n` and the block before it, those at most 128 positions back; the first block has none before it.
-/
module

public import proofs.«01_k».proof.Proof.Softmax

@[expose] public section

noncomputable section

namespace Cert.Window

open Idealize.ShloMosaic

/-- The queries: 8 sequences of 2048 positions, 8 heads of 64 lanes. -/
abbrev Queries : Type := (⟨3, ![8, 2048, 512]⟩ : Shape).Idx → EReal
/-- The keys or the values: 8 sequences of 2048 positions, 2 heads of 64 lanes. -/
abbrev Keys : Type := (⟨3, ![8, 2048, 128]⟩ : Shape).Idx → EReal

/-- Lane `d` of key `s` of the 256 that block `n` of sequence `b` looks at: the block before, zero where there is none,
    then the block itself. Lanes of both heads are counted together. -/
def keyAt (x : Keys) (b : Fin 8) (n : Fin 16) (s : Fin 256) (d : Fin 128) : EReal :=
  if s.val < 128 then
    if n.val = 0 then 0 else x (ix3 b ⟨128 * (n.val - 1) + s.val % 128, by omega⟩ d)
  else x (ix3 b ⟨128 * n.val + s.val % 128, by omega⟩ d)

/-- Query `t` of block `n` sees key `s` of the block's 256. -/
def Sees (n : Fin 16) (t : Fin 128) (s : Fin 256) : Prop :=
  t.val ≤ s.val ∧ s.val ≤ t.val + 128 ∧ (n.val = 0 → 128 ≤ s.val)

instance (n : Fin 16) (t : Fin 128) (s : Fin 256) : Decidable (Sees n t s) := by unfold Sees; infer_instance

/-- The scale of the scores, `1/8`. -/
def scale : EReal := Ideal.ofBits .f32 0x3E000000#32

/-- Lane `d` of head `j` among the lanes of the two key heads. -/
abbrev lane (j : Fin 2) (d : Fin 64) : Fin 128 := ⟨64 * j.val + d.val, by omega⟩

/-- Lane `d` of query head `4 j + g` among the lanes of the eight. -/
abbrev qlane (j : Fin 2) (g : Fin 4) (d : Fin 64) : Fin 512 := ⟨64 * (4 * j.val + g.val) + d.val, by omega⟩

/-- The position of query `t` of block `n`. -/
abbrev pos (n : Fin 16) (t : Fin 128) : Fin 2048 := ⟨128 * n.val + t.val, by omega⟩

/-- The score of query `t` against key `s`, `⊥` where the query does not see the key. -/
def score (q : Queries) (k : Keys) (b : Fin 8) (n : Fin 16) (j : Fin 2) (g : Fin 4) (t : Fin 128) (s : Fin 256) : EReal :=
  if Sees n t s then
    (∑ d : Fin 64, keyAt k b n s (lane j d) * q (ix3 b (pos n t) (qlane j g d))) * scale
  else ⊥

/-- The attention's output, divided by the total of the weights at the end. -/
def out (q : Queries) (k v : Keys) (sink : Fin 8 → EReal) (b : Fin 8) (n : Fin 16) (j : Fin 2) (g : Fin 4) (t : Fin 128)
    (d : Fin 64) : EReal :=
  Softmax.attend (score q k b n j g t) (sink ⟨4 * j.val + g.val, by omega⟩) fun s => keyAt v b n s (lane j d)

end Cert.Window

end
-- ==== Proof.WindowStages.lean ====
/-
  One block of the kernel: the 128 queries of a block against their 256 keys, at an index.
-/
module

public import proofs.«01_k».proof.Proof.Gen.KernelIdeal.Value
public import proofs.«01_k».proof.Proof.WindowSpec
public import Idealize.ShloMosaic.Lib.Pointwise
public import Idealize.ShloMosaic.Lib.WordCmp

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- The queries of the eight heads side by side, each head's lanes among those of its key head, zero at the other's. -/
def padded (v62 : FVec Ideal S512x128 .f32) : FVec Ideal S128x1024 .bf16 :=
  have cst_38 : Ideal .f32 := Scalar.ofBits .f32 0x00000000#32
  have v72 : FVec Ideal S64x128 .f32 := broadcast S64x128 cst_38
  have v73 : FVec Ideal S64x128 .f32 := extractStridedSlice S64x128 ![0, 0] v62 slices_S512x128_o0_0_S64x128
  have v74 : FVec Ideal S128x128 .f32 := concatenate S128x128 0 [⟨S64x128, v73⟩, ⟨S64x128, v72⟩] concatenates_S64x128_S64x128_S128x128_d0
  have v75 : FVec Ideal S64x128 .f32 := extractStridedSlice S64x128 ![64, 0] v62 slices_S512x128_o64_0_S64x128
  have v76 : FVec Ideal S128x128 .f32 := concatenate S128x128 0 [⟨S64x128, v75⟩, ⟨S64x128, v72⟩] concatenates_S64x128_S64x128_S128x128_d0
  have v77 : FVec Ideal S64x128 .f32 := extractStridedSlice S64x128 ![128, 0] v62 slices_S512x128_o128_0_S64x128
  have v78 : FVec Ideal S128x128 .f32 := concatenate S128x128 0 [⟨S64x128, v77⟩, ⟨S64x128, v72⟩] concatenates_S64x128_S64x128_S128x128_d0
  have v79 : FVec Ideal S64x128 .f32 := extractStridedSlice S64x128 ![192, 0] v62 slices_S512x128_o192_0_S64x128
  have v80 : FVec Ideal S128x128 .f32 := concatenate S128x128 0 [⟨S64x128, v79⟩, ⟨S64x128, v72⟩] concatenates_S64x128_S64x128_S128x128_d0
  have v81 : FVec Ideal S128x512 .f32 := concatenate S128x512 1 [⟨S128x128, v74⟩, ⟨S128x128, v76⟩, ⟨S128x128, v78⟩, ⟨S128x128, v80⟩] concatenates_S128x128_S128x128_S128x128_S128x128_S128x512_d1
  have cst_39 : Ideal .f32 := Scalar.ofBits .f32 0x00000000#32
  have v82 : FVec Ideal S64x128 .f32 := broadcast S64x128 cst_39
  have v83 : FVec Ideal S64x128 .f32 := extractStridedSlice S64x128 ![256, 0] v62 slices_S512x128_o256_0_S64x128
  have v84 : FVec Ideal S128x128 .f32 := concatenate S128x128 0 [⟨S64x128, v82⟩, ⟨S64x128, v83⟩] concatenates_S64x128_S64x128_S128x128_d0
  have v85 : FVec Ideal S64x128 .f32 := extractStridedSlice S64x128 ![320, 0] v62 slices_S512x128_o320_0_S64x128
  have v86 : FVec Ideal S128x128 .f32 := concatenate S128x128 0 [⟨S64x128, v82⟩, ⟨S64x128, v85⟩] concatenates_S64x128_S64x128_S128x128_d0
  have v87 : FVec Ideal S64x128 .f32 := extractStridedSlice S64x128 ![384, 0] v62 slices_S512x128_o384_0_S64x128
  have v88 : FVec Ideal S128x128 .f32 := concatenate S128x128 0 [⟨S64x128, v82⟩, ⟨S64x128, v87⟩] concatenates_S64x128_S64x128_S128x128_d0
  have v89 : FVec Ideal S64x128 .f32 := extractStridedSlice S64x128 ![448, 0] v62 slices_S512x128_o448_0_S64x128
  have v90 : FVec Ideal S128x128 .f32 := concatenate S128x128 0 [⟨S64x128, v82⟩, ⟨S64x128, v89⟩] concatenates_S64x128_S64x128_S128x128_d0
  have v91 : FVec Ideal S128x512 .f32 := concatenate S128x512 1 [⟨S128x128, v84⟩, ⟨S128x128, v86⟩, ⟨S128x128, v88⟩, ⟨S128x128, v90⟩] concatenates_S128x128_S128x128_S128x128_S128x128_S128x512_d1
  have v92 : FVec Ideal S128x1024 .f32 := concatenate S128x1024 1 [⟨S128x512, v81⟩, ⟨S128x512, v91⟩] concatenates_S128x512_S128x512_S128x1024_d1
  have v93 : FVec Ideal S128x1024 .bf16 := truncf .bf16 v92 bitsLt_bf16_f32
  v93

/-- The scores of the eight heads against the 256 keys. -/
def scores (v62 : FVec Ideal S512x128 .f32) (v64 : FVec Ideal S256x128 .bf16) (v71 : IVec S256x1024 1) : FVec Ideal S256x1024 .f32 :=
  have v93 : FVec Ideal S128x1024 .bf16 := padded v62
  have cst_40 : FVec Ideal S256x1024 .f32 := constant S256x1024 .f32 0x00000000#32
  have v94 : FVec Ideal S256x1024 .f32 := matmul dot_S256x128_S128x1024_S256x1024_1_0_0_1_n_n none v64 v93 cst_40
  have cst_41 : Ideal .f32 := Named.named (F := Ideal) κ "mask" 0xF149F2CA#32
  have v95 : FVec Ideal S256x1024 .f32 := broadcast S256x1024 cst_41
  have v96 : FVec Ideal S256x1024 .f32 := select v71 v94 v95
  v96

/-- The outputs from the scores. -/
def mixed (v24 : FVec Ideal S1x1024 .f32) (v66 : FVec Ideal S128x256 .bf16) (v96 : FVec Ideal S256x1024 .f32) : FVec Ideal S128x1024 .f32 :=
  have v97 : FVec Ideal S1024 .f32 := multiReduction .maximumf [0] S1024 v96 0xFF800000#32 reduces_S256x1024_S1024 (.inl rfl) rfl
  have v98 : FVec Ideal S1x1024 .f32 := shapeCast S1x1024 v97 shapeCasts_S1024_S1x1024
  have v99 : FVec Ideal S1x1024 .f32 := maximumf v98 v24
  have v100 : FVec Ideal S256x1024 .f32 := broadcastTo S256x1024 v99 broadcasts_S1x1024_S256x1024
  have v101 : FVec Ideal S256x1024 .f32 := subf v96 v100
  have v102 : FVec Ideal S256x1024 .f32 := exp v101
  have v103 : FVec Ideal S1024 .f32 := multiReduction .add [0] S1024 v102 0x00000000#32 reduces_S256x1024_S1024 (.inl rfl) rfl
  have v104 : FVec Ideal S1x1024 .f32 := shapeCast S1x1024 v103 shapeCasts_S1024_S1x1024
  have v105 : FVec Ideal S1x1024 .f32 := subf v24 v99
  have v106 : FVec Ideal S1x1024 .f32 := exp v105
  have v107 : FVec Ideal S1x1024 .f32 := addf v104 v106
  have v108 : FVec Ideal S256x1024 .bf16 := truncf .bf16 v102 bitsLt_bf16_f32
  have cst_44 : FVec Ideal S128x1024 .f32 := constant S128x1024 .f32 0x00000000#32
  have v109 : FVec Ideal S128x1024 .f32 := matmul dot_S128x256_S256x1024_S128x1024_1_0_0_1_n_n none v66 v108 cst_44
  have v110 : FVec Ideal S128x1024 .f32 := broadcastTo S128x1024 v107 broadcasts_S1x1024_S128x1024
  have v111 : FVec Ideal S128x1024 .f32 := divf v109 v110
  v111

theorem pay17_eq (v24 : FVec Ideal S1x1024 .f32) (v62 : FVec Ideal S512x128 .f32) (v64 : FVec Ideal S256x128 .bf16)
    (v66 : FVec Ideal S128x256 .bf16) (v71 : IVec S256x1024 1) :
    k0_pay17 v24 v62 v64 v66 v71 = mixed v24 v66 (scores v62 v64 v71) := rfl

/-- The outputs of four heads that look at the first key head, queries down and lanes across. -/
def turned (o : FVec Ideal S128x512 .f32) : FVec Ideal S512x128 .f32 :=
  have v113 : FVec Ideal S128x128 .f32 := extractStridedSlice S128x128 ![0, 0] o slices_S128x512_o0_0_S128x128
  have v114 : FVec Ideal S128x128 .f32 := transpose S128x128 [1, 0] v113 transposes_S128x128_p1_0_S128x128
  have v115 : FVec Ideal S128x128 .f32 := extractStridedSlice S128x128 ![0, 128] o slices_S128x512_o0_128_S128x128
  have v116 : FVec Ideal S128x128 .f32 := transpose S128x128 [1, 0] v115 transposes_S128x128_p1_0_S128x128
  have v117 : FVec Ideal S128x128 .f32 := extractStridedSlice S128x128 ![0, 256] o slices_S128x512_o0_256_S128x128
  have v118 : FVec Ideal S128x128 .f32 := transpose S128x128 [1, 0] v117 transposes_S128x128_p1_0_S128x128
  have v119 : FVec Ideal S128x128 .f32 := extractStridedSlice S128x128 ![0, 384] o slices_S128x512_o0_384_S128x128
  have v120 : FVec Ideal S128x128 .f32 := transpose S128x128 [1, 0] v119 transposes_S128x128_p1_0_S128x128
  concatenate S512x128 0 [⟨S128x128, v114⟩, ⟨S128x128, v116⟩, ⟨S128x128, v118⟩, ⟨S128x128, v120⟩] concatenates_S128x128_S128x128_S128x128_S128x128_S512x128_d0

/-- Two heads' lanes side by side when their lanes come first. -/
def pairLow (x y : FVec Ideal S128x128 .f32) : FVec Ideal S128x128 .f32 :=
  select (cmpi .slt (iota .tc S128x128 32 [1] iota_S128x128_d1_w32) (broadcast S128x128 64#32)) x (dynamicRotate 1 64#32 none y rotates_S128x128_d1)

/-- Two heads' lanes side by side when their lanes come last. -/
def pairHigh (x y : FVec Ideal S128x128 .f32) : FVec Ideal S128x128 .f32 :=
  select (cmpi .slt (iota .tc S128x128 32 [1] iota_S128x128_d1_w32) (broadcast S128x128 64#32)) (dynamicRotate 1 64#32 none x rotates_S128x128_d1) y

/-- The four pairs of heads side by side. -/
def joined (v138 v144 v150 v156 : FVec Ideal S128x128 .f32) : FVec Ideal S1x128x512 .bf16 :=
  have v157 : FVec Ideal S128x512 .f32 := concatenate S128x512 1 [⟨S128x128, v138⟩, ⟨S128x128, v144⟩, ⟨S128x128, v150⟩, ⟨S128x128, v156⟩] concatenates_S128x128_S128x128_S128x128_S128x128_S128x512_d1
  have v158 : FVec Ideal S128x512 .bf16 := truncf .bf16 v157 bitsLt_bf16_f32
  shapeCast S1x128x512 v158 shapeCasts_S128x512_S1x128x512

/-- The block's outputs as they are stored: queries down, the eight heads' lanes across. -/
def stored (o : FVec Ideal S128x1024 .f32) : FVec Ideal S1x128x512 .bf16 :=
  have v121 : FVec Ideal S512x128 .f32 := turned (extractStridedSlice S128x512 ![0, 0] o slices_S128x1024_o0_0_S128x512)
  have v131 : FVec Ideal S512x128 .f32 := turned (extractStridedSlice S128x512 ![0, 512] o slices_S128x1024_o0_512_S128x512)
  joined (pairLow (extractStridedSlice S128x128 ![0, 0] v121 slices_S512x128_o0_0_S128x128) (extractStridedSlice S128x128 ![128, 0] v121 slices_S512x128_o128_0_S128x128))
    (pairLow (extractStridedSlice S128x128 ![256, 0] v121 slices_S512x128_o256_0_S128x128) (extractStridedSlice S128x128 ![384, 0] v121 slices_S512x128_o384_0_S128x128))
    (pairHigh (extractStridedSlice S128x128 ![0, 0] v131 slices_S512x128_o0_0_S128x128) (extractStridedSlice S128x128 ![128, 0] v131 slices_S512x128_o128_0_S128x128))
    (pairHigh (extractStridedSlice S128x128 ![256, 0] v131 slices_S512x128_o256_0_S128x128) (extractStridedSlice S128x128 ![384, 0] v131 slices_S512x128_o384_0_S128x128))

/-- One block: its queries against the keys of the block before it and its own. -/
def block (mask : IVec S256x1024 1) (sink : Vec Ideal S1x1024 .f32) (kp kc vp vc : Vec Ideal S1x128x128 .f32)
    (q : Vec Ideal S1x128x512 .f32) : FVec Ideal S1x128x512 .bf16 :=
  stored (mixed (k0_pay3 sink) (k0_pay15 vp vc) (scores (k0_pay13 q) (k0_pay14 (k0_pay4 kp) (k0_pay5 kc)) mask))

/-- The four blocks of a grid point. -/
theorem out_eq (i : grid0.Coords) (x0 : Vec Ideal S1x512x512 .f32) (x1 : Vec Ideal S1x128x128 .f32) (x2 : Vec Ideal S1x512x128 .f32)
    (x3 : Vec Ideal S1x128x128 .f32) (x4 : Vec Ideal S1x512x128 .f32) (x5 : Vec Ideal S1x1024 .f32) :
    out0_6 i x0 x1 x2 x3 x4 x5 = View.canon
      [⟨r0_9, block k0_pay2 (View.ld x5 r0_0) (View.ld x2 r0_4) (View.ld x2 r0_5) (View.ld x4 r0_4) (View.ld x4 r0_5) (View.ld x0 r0_9)⟩,
       ⟨r0_8, block k0_pay2 (View.ld x5 r0_0) (View.ld x2 r0_3) (View.ld x2 r0_4) (View.ld x4 r0_3) (View.ld x4 r0_4) (View.ld x0 r0_8)⟩,
       ⟨r0_7, block k0_pay2 (View.ld x5 r0_0) (View.ld x2 r0_2) (View.ld x2 r0_3) (View.ld x4 r0_2) (View.ld x4 r0_3) (View.ld x0 r0_7)⟩,
       ⟨r0_6, block (k0_pay16 (BitVec.ofNat 32 (i 1).val) (iota .tc S256x1024 32 [0] iota_S256x1024_d0_w32) k0_pay2)
         (View.ld x5 r0_0) (View.ld x1 r0_1) (View.ld x2 r0_2) (View.ld x3 r0_1) (View.ld x4 r0_2) (View.ld x0 r0_6)⟩] := rfl

end Cert.KernelIdeal.Window

end
-- ==== Proof.WindowBlock.lean ====
/-
  One block of the kernel: the 128 queries of a block against their 256 keys, at an index.
-/
module

public import proofs.«01_k».proof.Proof.Gen.KernelIdeal.Value
public import proofs.«01_k».proof.Proof.WindowSpec
public import proofs.«01_k».proof.Proof.WindowStages
public import Idealize.ShloMosaic.Lib.Pointwise
public import Idealize.ShloMosaic.Lib.WordCmp
public import Idealize.ShloMosaic.Lib.Routing.Words

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- A choice both of whose sides are one value. -/
theorem dite_of {p : Prop} [Decidable p] {α : Type} {a : p → α} {b : ¬p → α} {c : α} (h1 : ∀ h, a h = c) (h2 : ∀ h, b h = c) :
    (if h : p then a h else b h) = c := by
  by_cases h : p
  · rw [dif_pos h]; exact h1 h
  · rw [dif_neg h]; exact h2 h

/-- The scaled queries of a block, lanes down. -/
theorem pay13_at (q : Vec Ideal S1x128x512 .f32) (r : Fin 512) (t : Fin 128) :
    k0_pay13 q (ix2 r t) = q (ix3 0 t r) * scale := by
  unfold k0_pay13
  pointwise
  refine dite_of (fun h => rfl) fun h => dite_of (fun h' => ?_) fun h' => dite_of (fun h'' => ?_) fun h'' => ?_
  all_goals exact congrArg (fun i => q i * scale) (by idx_ext)

/-- The padded queries at an index. -/
theorem padded_at (a : FVec Ideal S512x128 .f32) (l : Fin 128) (j : Fin 2) (g : Fin 4) (t : Fin 128) (c : Fin 1024)
    (hc : c.val = 512 * j.val + 128 * g.val + t.val) :
    padded a (ix2 l c) = if l.val / 64 = j.val then a (ix2 ⟨256 * j.val + 64 * g.val + l.val % 64, by omega⟩ t) else 0 := by
  unfold padded
  pointwise
  refine dite_of (fun h => ?_) fun h => ?_
  · refine dite_of (fun h1 => ?_) fun h1 => dite_of (fun h2 => ?_) fun h2 => dite_of (fun h3 => ?_) fun h3 => ?_
    all_goals
      refine dite_of (fun h4 => ?_) fun h4 => ?_
      · refine Eq.trans ?_ (if_pos (by omega)).symm
        exact congrArg a (by idx_ext)
      · exact (if_neg (by omega)).symm
  · refine dite_of (fun h1 => ?_) fun h1 => dite_of (fun h2 => ?_) fun h2 => dite_of (fun h3 => ?_) fun h3 => ?_
    all_goals
      refine dite_of (fun h4 => ?_) fun h4 => ?_
      · exact (if_neg (by omega)).symm
      · refine Eq.trans ?_ (if_pos (by omega)).symm
        exact congrArg a (by idx_ext)

/-- A score, `⊥` off the mask. -/
theorem scores_at (a : FVec Ideal S512x128 .f32) (k : FVec Ideal S256x128 .bf16) (m : IVec S256x1024 1) (s : Fin 256) (c : Fin 1024) :
    scores a k m (ix2 s c) = if m (ix2 s c) = 1#1 then ∑ l : Fin 128, k (ix2 s l) * padded a (ix2 l c) else ⊥ := by
  unfold scores
  generalize padded a = f
  pointwise [IdealRules.named_const.ideal_named_scalar]
  rw [IdealRules.named_const.ideal_named_scalar κ "mask" _ ⊥ rfl]
  by_cases h : m (ix2 s c) = 1#1
  · rw [WordCmp.select_of_eq_one h, if_pos h]
  · have h0 : m (ix2 s c) = 0#1 := by
      revert h; generalize m (ix2 s c) = b; revert b; decide
    rw [if_neg h, WordCmp.select_of_eq_zero h0]

/-- An output is the attention over its column of scores. -/
theorem mixed_at (z : FVec Ideal S1x1024 .f32) (v : FVec Ideal S128x256 .bf16) (x : FVec Ideal S256x1024 .f32) (l : Fin 128) (c : Fin 1024) :
    mixed z v x (ix2 l c) = Softmax.attend (fun s => x (ix2 s c)) (z (ix2 0 c)) (fun s => v (ix2 l s)) := by
  unfold mixed
  pointwise
  have e : Ideal.ofBits .f32 0xFF800000#32 = ⊥ := by simp [Ideal.ofBits, Ideal.ieee]
  simp only [e]
  rfl

/-- The band of keys that a query sees. -/
theorem band_at (s : Fin 256) (c : Fin 1024) :
    k0_pay2 (ix2 s c) = BitVec.ofBool (decide (c.val % 128 ≤ s.val ∧ s.val ≤ c.val % 128 + 128)) := by
  unfold k0_pay2
  pointwise
  have e0 : Scalar.select (Scalar.cmpi .eq 128#32 0#32) 1#32 128#32 = 128#32 := rfl
  have e1 : IntOp.remsi .vector (BitVec.ofNat 32 c.val) 128#32 = BitVec.ofNat 32 (c.val % 128) :=
    Routing.remsi_word .vector (by omega) (by omega) (by omega)
  have e2 : IntOp.cmpi .slt (BitVec.ofNat 32 (c.val % 128)) 0#32 = 0#1 := by
    rw [WordCmp.cmpi_slt_ofNat_eq_zero_iff (by omega) (by omega)]; omega
  have e3 : Scalar.cmpi .slt 128#32 0#32 = 0#1 := rfl
  have e4 : ∀ x : BitVec 1, IntOp.andi (IntOp.xori 0#1 0#1) x = 0#1 := by decide
  rw [e0, e1, e2, e3, e4, WordCmp.select_zero, WordCmp.addi_ofNat, WordCmp.cmpi_sge_ofNat (by omega) (by omega),
    WordCmp.cmpi_sle_ofNat (by omega) (by omega), WordCmp.andi_ofBool, ← Bool.decide_and]

/-- The band without the keys before the first block. -/
theorem pay16_at (n : Nat) (hn : n < 4) (s : Fin 256) (c : Fin 1024) :
    k0_pay16 (BitVec.ofNat 32 n) (iota .tc S256x1024 32 [0] iota_S256x1024_d0_w32) k0_pay2 (ix2 s c)
      = BitVec.ofBool (decide ((c.val % 128 ≤ s.val ∧ s.val ≤ c.val % 128 + 128) ∧ (n = 0 → 128 ≤ s.val))) := by
  unfold k0_pay16
  pointwise [band_at]
  rw [WordCmp.scalar_cmpi_eq, WordCmp.cmpi_eq_ofNat (by omega) (by omega), WordCmp.select_decide]
  by_cases h : n = 0
  · rw [if_pos h, WordCmp.cmpi_sge_ofNat (by omega) (by omega), WordCmp.andi_ofBool, ← Bool.decide_and]
    congr 1
    refine decide_eq_decide.mpr ?_
    omega
  · rw [if_neg h, WordCmp.cmpi_sge_ofNat (by omega) (by omega), WordCmp.andi_ofBool, ← Bool.decide_and]
    congr 1
    refine decide_eq_decide.mpr ?_
    omega

/-- The outputs turned, at an index. -/
theorem turned_at (o : FVec Ideal S128x512 .f32) (l : Fin 128) (r : Fin 512) (t : Fin 128) (p : Fin 512)
    (hp : p.val = r.val / 128 * 128 + t.val) (hr : r.val % 128 = t.val) : turned o (ix2 r l) = o (ix2 l p) := by
  unfold turned
  pointwise
  refine dite_of (fun h => ?_) fun h => dite_of (fun h' => ?_) fun h' => dite_of (fun h'' => ?_) fun h'' => ?_
  all_goals exact congrArg o (by idx_ext)

/-- A pair of heads whose lanes come first, at an index. -/
theorem pairLow_at (x y : FVec Ideal S128x128 .f32) (t l : Fin 128) :
    pairLow x y (ix2 t l) = if l.val < 64 then x (ix2 t ⟨l.val % 64, by omega⟩) else y (ix2 t ⟨l.val % 64, by omega⟩) := by
  unfold pairLow
  pointwise
  rw [WordCmp.cmpi_slt_ofNat (by omega) (by omega), WordCmp.select_decide]
  by_cases h : l.val < 64
  · rw [if_pos h, if_pos h]; exact congrArg x (by idx_ext)
  · rw [if_neg h, if_neg h]; exact congrArg y (by idx_ext)

/-- A pair of heads whose lanes come last, at an index. -/
theorem pairHigh_at (x y : FVec Ideal S128x128 .f32) (t l : Fin 128) :
    pairHigh x y (ix2 t l)
      = if l.val < 64 then x (ix2 t ⟨64 + l.val % 64, by omega⟩) else y (ix2 t ⟨64 + l.val % 64, by omega⟩) := by
  unfold pairHigh
  pointwise
  rw [WordCmp.cmpi_slt_ofNat (by omega) (by omega), WordCmp.select_decide]
  by_cases h : l.val < 64
  · rw [if_pos h, if_pos h]; exact congrArg x (by idx_ext)
  · rw [if_neg h, if_neg h]; exact congrArg y (by idx_ext)

/-- The pairs of heads side by side, at an index. -/
theorem joined_at (x y z w : FVec Ideal S128x128 .f32) (t : Fin 128) (l : Fin 512) (m : Fin 128) (hm : l.val % 128 = m.val) :
    joined x y z w (ix3 0 t l)
      = if l.val < 128 then x (ix2 t m) else if l.val < 256 then y (ix2 t m) else if l.val < 384 then z (ix2 t m)
        else w (ix2 t m) := by
  unfold joined
  pointwise
  refine dite_of (fun h => ?_) fun h => dite_of (fun h' => ?_) fun h' => dite_of (fun h'' => ?_) fun h'' => ?_
  · exact (congrArg x (by idx_ext)).trans (if_pos h).symm
  · exact (congrArg y (by idx_ext)).trans ((if_neg h).trans (if_pos (by omega))).symm
  · exact (congrArg z (by idx_ext)).trans ((if_neg h).trans ((if_neg (by omega)).trans (if_pos (by omega)))).symm
  · exact (congrArg w (by idx_ext)).trans ((if_neg h).trans ((if_neg (by omega)).trans (if_neg (by omega)))).symm

/-- A lane of one of the 256 keys of two blocks. -/
def keyOf (x y : Vec Ideal S1x128x128 .f32) (s : Fin 256) (l : Fin 128) : EReal :=
  if s.val < 128 then x (ix3 0 ⟨s.val % 128, by omega⟩ l) else y (ix3 0 ⟨s.val % 128, by omega⟩ l)

/-- The keys of a block, at an index. -/
theorem pay14_at (x y : Vec Ideal S1x128x128 .f32) (s : Fin 256) (l : Fin 128) :
    k0_pay14 (k0_pay4 x) (k0_pay5 y) (ix2 s l) = keyOf x y s l := by
  unfold k0_pay14 k0_pay4 k0_pay5 keyOf
  pointwise
  refine dite_of (fun h => ?_) fun h => ?_
  · exact (congrArg x (by idx_ext)).trans (if_pos h).symm
  · exact (congrArg y (by idx_ext)).trans (if_neg h).symm

/-- The values of a block, lanes down, at an index. -/
theorem pay15_at (x y : Vec Ideal S1x128x128 .f32) (s : Fin 256) (l : Fin 128) :
    k0_pay15 x y (ix2 l s) = keyOf x y s l := by
  unfold k0_pay15 k0_pay9 keyOf
  pointwise
  refine dite_of (fun h => ?_) fun h => ?_
  · exact (congrArg x (by idx_ext)).trans (if_pos h).symm
  · exact (congrArg y (by idx_ext)).trans (if_neg h).symm

end Cert.KernelIdeal.Window

end
-- ==== Proof.WindowBlockAt.lean ====
/-
  One block of the kernel as a whole, at an index: the attention of its queries over its 256 keys.
-/
module

public import proofs.«01_k».proof.Proof.Gen.KernelIdeal.Value
public import proofs.«01_k».proof.Proof.WindowSpec
public import proofs.«01_k».proof.Proof.WindowBlock
public import Idealize.ShloMosaic.Lib.Pointwise
public import Idealize.ShloMosaic.Lib.WordCmp
public import Idealize.ShloMosaic.Lib.Routing.Words

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- The stored outputs, at an index: head `4 j + g` of query `t`. -/
theorem stored_at (o : FVec Ideal S128x1024 .f32) (t : Fin 128) (j : Fin 2) (g : Fin 4) (d : Fin 64) :
    stored o (ix3 0 t (qlane j g d)) = o (ix2 (lane j d) ⟨512 * j.val + 128 * g.val + t.val, by omega⟩) := by
  unfold stored
  have hj : ∀ (p : Fin 512) (l : Fin 128), turned (extractStridedSlice S128x512 ![0, 0] o slices_S128x1024_o0_0_S128x512) (ix2 p l)
      = o (ix2 l ⟨p.val, by omega⟩) := by
    intro p l
    rw [turned_at _ l p ⟨p.val % 128, by omega⟩ p (by simp only; omega) rfl]
    pointwise
  have hj' : ∀ (p : Fin 512) (l : Fin 128), turned (extractStridedSlice S128x512 ![0, 512] o slices_S128x1024_o0_512_S128x512) (ix2 p l)
      = o (ix2 l ⟨512 + p.val, by omega⟩) := by
    intro p l
    rw [turned_at _ l p ⟨p.val % 128, by omega⟩ p (by simp only; omega) rfl]
    pointwise
  generalize turned (extractStridedSlice S128x512 ![0, 0] o slices_S128x1024_o0_0_S128x512) = x at hj
  generalize turned (extractStridedSlice S128x512 ![0, 512] o slices_S128x1024_o0_512_S128x512) = y at hj'
  rw [joined_at _ _ _ _ t (qlane j g d) ⟨64 * (g.val % 2) + d.val, by omega⟩ (by simp only; omega)]
  pointwise [pairLow_at, pairHigh_at, hj, hj']
  split_ifs <;> exact congrArg o (by idx_ext)

/-- A sum over the lanes of both key heads of which only one head's count. -/
theorem sum_lanes (j : Fin 2) (f : Fin 128 → EReal) (w : Fin 64 → EReal) (h : ∀ l : Fin 128, f l = if l.val / 64 = j.val then w ⟨l.val % 64, by omega⟩ else 0) :
    ∑ l, f l = ∑ d, w d := by
  rw [show (∑ l, f l) = ∑ l : Fin (64 + 64), f l from rfl, Fin.sum_univ_add]
  have e0 : ∀ d : Fin 64, f (Fin.castAdd 64 d) = if j.val = 0 then w d else 0 := fun d => by
    rw [h]
    refine ite_congr (propext ?_) (fun _ => congrArg w (Fin.ext ?_)) fun _ => rfl
    · simp only [Fin.val_castAdd]; omega
    · simp only [Fin.val_castAdd]; omega
  have e1 : ∀ d : Fin 64, f (Fin.natAdd 64 d) = if j.val = 1 then w d else 0 := fun d => by
    rw [h]
    refine ite_congr (propext ?_) (fun _ => congrArg w (Fin.ext ?_)) fun _ => rfl
    · simp only [Fin.val_natAdd]; omega
    · simp only [Fin.val_natAdd]; omega
  rw [Finset.sum_congr rfl fun d _ => e0 d, Finset.sum_congr rfl fun d _ => e1 d]
  match j with
  | 0 => simp
  | 1 => simp

/-- The scale is the number `1/8`. -/
theorem scale_eq : scale = ((1 / 8 : ℝ) : EReal) := by
  unfold scale
  simp [Ideal.ofBits, Ideal.ieee, -EReal.coe_mul]; norm_num

/-- One block at an index: the attention of query `t` of head `4 j + g` over the keys of its mask. -/
theorem block_at (mask : IVec S256x1024 1) (sink : Vec Ideal S1x1024 .f32) (kp kc vp vc : Vec Ideal S1x128x128 .f32)
    (q : Vec Ideal S1x128x512 .f32) (t : Fin 128) (j : Fin 2) (g : Fin 4) (d : Fin 64) (c : Fin 1024)
    (hc : c.val = 512 * j.val + 128 * g.val + t.val) :
    block mask sink kp kc vp vc q (ix3 0 t (qlane j g d))
      = Softmax.attend (fun s => if mask (ix2 s c) = 1#1 then
            (∑ d : Fin 64, keyOf kp kc s (lane j d) * q (ix3 0 t (qlane j g d))) * scale else ⊥)
          (sink (ix2 0 c)) fun s => keyOf vp vc s (lane j d) := by
  have e : (⟨512 * j.val + 128 * g.val + t.val, by omega⟩ : Fin 1024) = c := Fin.ext hc.symm
  unfold block
  rw [stored_at, e, mixed_at]
  have hs : ∀ s, scores (k0_pay13 q) (k0_pay14 (k0_pay4 kp) (k0_pay5 kc)) mask (ix2 s c)
      = if mask (ix2 s c) = 1#1 then
            (∑ d : Fin 64, keyOf kp kc s (lane j d) * q (ix3 0 t (qlane j g d))) * scale else ⊥ := fun s => by
    rw [scores_at]
    refine if_congr Iff.rfl ?_ rfl
    rw [scale_eq, Softmax.sum_mul_coe _ _ (by norm_num), ← scale_eq]
    refine sum_lanes j _ _ fun l => ?_
    rw [pay14_at, padded_at _ l j g t c hc]
    by_cases h : l.val / 64 = j.val
    · rw [if_pos h, if_pos h, pay13_at, ← mul_assoc]
      refine congrArg (· * scale) (congrArg₂ (· * ·) (congrArg _ (Fin.ext ?_)) (congrArg q ?_))
      · simp only; omega
      · idx_ext
    · rw [if_neg h, if_neg h, mul_zero]
  have hz : k0_pay3 sink (ix2 0 c) = sink (ix2 0 c) := by
    unfold k0_pay3
    pointwise
  have hv : ∀ s, k0_pay15 vp vc (ix2 (lane j d) s) = keyOf vp vc s (lane j d) := fun s => pay15_at vp vc s (lane j d)
  rw [funext hs, hz, funext hv]

end Cert.KernelIdeal.Window

end
-- ==== Proof.WindowHeads.lean ====
/-
  One window of a grid point, once its buffers are named: if its queries, keys and values are those of block `n` of
  sequence `b`, its mask admits the keys the query sees and its sinks are the heads', what it stores is the attention.
-/
module

public import proofs.«01_k».proof.Proof.WindowBlockAt

@[expose] public section

set_option maxRecDepth 16384

noncomputable section

namespace Cert.KernelIdeal.Window

open Cert.KernelIdeal Cert.KernelIdeal.Gen Cert.Window Idealize.ShloMosaic Idealize.ShloMosaic.TcCoe

/-- The keys two buffers hold are those block `n` of sequence `b` looks at, where there is a block before it. -/
theorem keyOf_eq (x : Keys) (b : Fin 8) (n : Fin 16) (xp xc : Vec Ideal S1x128x128 .f32)
    (hp : ∀ (h : n.val ≠ 0) (r l : Fin 128), xp (ix3 0 r l) = x (ix3 b ⟨128 * (n.val - 1) + r.val, by omega⟩ l))
    (hc : ∀ r l : Fin 128, xc (ix3 0 r l) = x (ix3 b ⟨128 * n.val + r.val, by omega⟩ l))
    (s : Fin 256) (l : Fin 128) (hs : n.val = 0 → 128 ≤ s.val) : keyOf xp xc s l = keyAt x b n s l := by
  unfold keyOf keyAt
  by_cases h : s.val < 128
  · have hn : n.val ≠ 0 := fun e => absurd (hs e) (by omega)
    rw [if_pos h, if_pos h, if_neg hn, hp hn]
  · rw [if_neg h, if_neg h, hc]

/-- One window of a grid point is the attention of block `n` of sequence `b`. -/
theorem block_out (q : Queries) (k v : Keys) (sink : Fin 8 → EReal) (b : Fin 8) (n : Fin 16)
    (mask : IVec S256x1024 1) (sk : Vec Ideal S1x1024 .f32) (kp kc vp vc : Vec Ideal S1x128x128 .f32)
    (qb : Vec Ideal S1x128x512 .f32)
    (hm : ∀ s c, mask (ix2 s c) = 1#1 ↔ Sees n ⟨c.val % 128, by omega⟩ s)
    (hsk : ∀ c : Fin 1024, sk (ix2 0 c) = sink ⟨c.val / 128, by omega⟩)
    (hq : ∀ (t : Fin 128) (l : Fin 512), qb (ix3 0 t l) = q (ix3 b (pos n t) l))
    (hkp : ∀ (h : n.val ≠ 0) (r l : Fin 128), kp (ix3 0 r l) = k (ix3 b ⟨128 * (n.val - 1) + r.val, by omega⟩ l))
    (hkc : ∀ r l : Fin 128, kc (ix3 0 r l) = k (ix3 b ⟨128 * n.val + r.val, by omega⟩ l))
    (hvp : ∀ (h : n.val ≠ 0) (r l : Fin 128), vp (ix3 0 r l) = v (ix3 b ⟨128 * (n.val - 1) + r.val, by omega⟩ l))
    (hvc : ∀ r l : Fin 128, vc (ix3 0 r l) = v (ix3 b ⟨128 * n.val + r.val, by omega⟩ l))
    (t : Fin 128) (j : Fin 2) (g : Fin 4) (d : Fin 64) (z : ℝ) (hz : sink ⟨4 * j.val + g.val, by omega⟩ = (z : EReal))
    (hs : ∀ s, score q k b n j g t s ≠ ⊤) :
    block mask sk kp kc vp vc qb (ix3 0 t (qlane j g d)) = out q k v sink b n j g t d := by
  rw [block_at mask sk kp kc vp vc qb t j g d ⟨512 * j.val + 128 * g.val + t.val, by omega⟩ rfl]
  have ht : ∀ h, (⟨(512 * j.val + 128 * g.val + t.val) % 128, h⟩ : Fin 128) = t := fun _ => Fin.ext (by simp only; omega)
  have hS : (fun s => if mask (ix2 s ⟨512 * j.val + 128 * g.val + t.val, by omega⟩) = 1#1 then
      (∑ d : Fin 64, keyOf kp kc s (lane j d) * qb (ix3 0 t (qlane j g d))) * scale else ⊥) = score q k b n j g t := by
    funext s
    have hms := hm s ⟨512 * j.val + 128 * g.val + t.val, by omega⟩
    simp only [ht] at hms
    unfold score
    by_cases hsee : Sees n t s
    · rw [if_pos (hms.2 hsee), if_pos hsee]
      simp only [keyOf_eq k b n kp kc hkp hkc s _ hsee.2.2, hq]
    · rw [if_neg (fun e => hsee (hms.1 e)), if_neg hsee]
  have hd : ∀ h, (⟨(512 * j.val + 128 * g.val + t.val) / 128, h⟩ : Fin 8) = ⟨4 * j.val + g.val, by omega⟩ :=
    fun _ => Fin.ext (by simp only; omega)
  rw [hS, hsk]
  simp only [hd]
  unfold out
  rw [hz]
  refine Softmax.attend_congr _ z _ _ hs fun s hsb => keyOf_eq v b n vp vc hvp hvc s _ ?_
  by_contra hc
  refine hsb ?_
  unfold score
  rw [if_neg fun h => hc h.2.2]

end Cert.KernelIdeal.Window

end
-- ==== Proof.WindowBlocks.lean ====
/-
  The buffers of a grid point: point `t` is the run `T = t % 4` of four blocks of sequence `b = t / 4`, its windows are
  rows of the arrays, and the sinks it holds are each head's sink, once per query.
-/
module

public import proofs.«01_k».proof.Proof.WindowHeads
public import proofs.«01_k».proof.Proof.Gen.KernelIdeal.Value

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- Where each window lies at a grid point, and the point's second coordinate. -/
theorem places : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 4 * (t.val % 4) - 1 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 4 * (t.val % 4) - 1 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 2) = 0 ∧ win0_5.index t (1 : Fin 2) = 0)
    ∧ (win0_6.index t (0 : Fin 3) = t.val / 4 ∧ win0_6.index t (1 : Fin 3) = t.val % 4 ∧ win0_6.index t (2 : Fin 3) = 0)
    ∧ (grid0.coords t 1).val = t.val % 4 :=
  (by decide +kernel : ∀ t : Fin grid0.N, _)

/-- The sequence a grid point works on. -/
def seqOf (t : Fin cfg0.N) : Fin 8 := ⟨t.val / 4, by have h : t.val < 32 := t.isLt; omega⟩

variable (m : (ℓ : Loc nD τ sig) → Buf (Elt Ideal) ℓ) (c : Dev nD)

/-- The queries launched on device `c`. -/
abbrev qs : Queries := m ((c : Thread nD τ).loc main_arg0)
/-- The keys launched on device `c`. -/
abbrev ks : Keys := m ((c : Thread nD τ).loc main_arg1)
/-- The values launched on device `c`. -/
abbrev vs : Keys := m ((c : Thread nD τ).loc main_arg2)
/-- The heads' sinks launched on device `c`. -/
abbrev sinks (h : Fin 8) : EReal := m ((c : Thread nD τ).loc main_arg3) (ix1 h)

/-- The queries' window. -/
theorem queries_at (t : Fin cfg0.N) (r l : Fin 512) :
    iblk m c 0 t (ix3 (0 : Fin 1) r l) = qs m c (ix3 (seqOf t) ⟨512 * (t.val % 4) + r.val, by omega⟩ l) := by
  obtain ⟨⟨e0, e1, e2⟩, -⟩ := places t
  refine Eq.trans ?_ (congrFun (V_main_arg0 m c) _)
  show V m c main_arg0 (((cfg0.win 0).blk t).view.emb (ix3 (0 : Fin 1) r l)) = _
  refine congrArg _ (funext fun a => Fin.ext ?_)
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 512 + 1 * l.val = l.val; omega

/-- The window of the keys before the point's own. -/
theorem keys_before (t : Fin cfg0.N) (r l : Fin 128) :
    iblk m c 1 t (ix3 (0 : Fin 1) r l)
      = ks m c (ix3 (seqOf t) ⟨128 * (4 * (t.val % 4) - 1) + r.val, by omega⟩ l) := by
  obtain ⟨-, ⟨e0, e1, e2⟩, -⟩ := places t
  refine Eq.trans ?_ (congrFun (V_main_arg1 m c) _)
  show V m c main_arg1 (((cfg0.win 1).blk t).view.emb (ix3 (0 : Fin 1) r l)) = _
  refine congrArg _ (funext fun a => Fin.ext ?_)
  match a with
  | ⟨0, _⟩ => show win0_1.index t (0 : Fin 3) * 1 + 1 * 0 = t.val / 4; omega
  | ⟨1, _⟩ => show win0_1.index t (1 : Fin 3) * 128 + 1 * r.val = 128 * (4 * (t.val % 4) - 1) + r.val; omega
  | ⟨2, _⟩ => show win0_1.index t (2 : Fin 3) * 128 + 1 * l.val = l.val; omega

/-- The window of the point's own keys. -/
theorem keys_at (t : Fin cfg0.N) (r : Fin 512) (l : Fin 128) :
    iblk m c 2 t (ix3 (0 : Fin 1) r l) = ks m c (ix3 (seqOf t) ⟨512 * (t.val % 4) + r.val, by omega⟩ l) := by
  obtain ⟨-, -, ⟨e0, e1, e2⟩, -⟩ := places t
  refine Eq.trans ?_ (congrFun (V_main_arg1 m c) _)
  show V m c main_arg1 (((cfg0.win 2).blk t).view.emb (ix3 (0 : Fin 1) r l)) = _
  refine congrArg _ (funext fun a => Fin.ext ?_)
  match a with
  | ⟨0, _⟩ => show win0_2.index t (0 : Fin 3) * 1 + 1 * 0 = t.val / 4; omega
  | ⟨1, _⟩ => show win0_2.index t (1 : Fin 3) * 512 + 1 * r.val = 512 * (t.val % 4) + r.val; omega
  | ⟨2, _⟩ => show win0_2.index t (2 : Fin 3) * 128 + 1 * l.val = l.val; omega

/-- The window of the values before the point's own. -/
theorem values_before (t : Fin cfg0.N) (r l : Fin 128) :
    iblk m c 3 t (ix3 (0 : Fin 1) r l)
      = vs m c (ix3 (seqOf t) ⟨128 * (4 * (t.val % 4) - 1) + r.val, by omega⟩ l) := by
  obtain ⟨-, -, -, ⟨e0, e1, e2⟩, -⟩ := places t
  refine Eq.trans ?_ (congrFun (V_main_arg2 m c) _)
  show V m c main_arg2 (((cfg0.win 3).blk t).view.emb (ix3 (0 : Fin 1) r l)) = _
  refine congrArg _ (funext fun a => Fin.ext ?_)
  match a with
  | ⟨0, _⟩ => show win0_3.index t (0 : Fin 3) * 1 + 1 * 0 = t.val / 4; omega
  | ⟨1, _⟩ => show win0_3.index t (1 : Fin 3) * 128 + 1 * r.val = 128 * (4 * (t.val % 4) - 1) + r.val; omega
  | ⟨2, _⟩ => show win0_3.index t (2 : Fin 3) * 128 + 1 * l.val = l.val; omega

/-- The window of the point's own values. -/
theorem values_at (t : Fin cfg0.N) (r : Fin 512) (l : Fin 128) :
    iblk m c 4 t (ix3 (0 : Fin 1) r l) = vs m c (ix3 (seqOf t) ⟨512 * (t.val % 4) + r.val, by omega⟩ l) := by
  obtain ⟨-, -, -, -, ⟨e0, e1, e2⟩, -⟩ := places t
  refine Eq.trans ?_ (congrFun (V_main_arg2 m c) _)
  show V m c main_arg2 (((cfg0.win 4).blk t).view.emb (ix3 (0 : Fin 1) r l)) = _
  refine congrArg _ (funext fun a => Fin.ext ?_)
  match a with
  | ⟨0, _⟩ => show win0_4.index t (0 : Fin 3) * 1 + 1 * 0 = t.val / 4; omega
  | ⟨1, _⟩ => show win0_4.index t (1 : Fin 3) * 512 + 1 * r.val = 512 * (t.val % 4) + r.val; omega
  | ⟨2, _⟩ => show win0_4.index t (2 : Fin 3) * 128 + 1 * l.val = l.val; omega

/-- The row of sinks before the kernel: each head's sink 128 times. -/
theorem sink_row : V m c main_v2 = broadcastInDim S1x1024 ![1] bcast_S1024_S1x1024_1
    (shapeCast S1024 (broadcastInDim S8x128 ![0] bcast_S8_S8x128_0 (m ((c : Thread nD τ).loc main_arg3))) shapeCasts_S8x128_S1024) := by
  show StableHlo.after hostOps0 _ (Proc.devRef .tc main_v2) = _
  after_results
  rfl

/-- The sinks' window. -/
theorem sink_at (t : Fin cfg0.N) (p : Fin 1024) : iblk m c 5 t (ix2 (0 : Fin 1) p) = sinks m c ⟨p.val / 128, by omega⟩ := by
  obtain ⟨-, -, -, -, -, ⟨e0, e1⟩, -⟩ := places t
  have e : iblk m c 5 t (ix2 (0 : Fin 1) p) = V m c main_v2 (ix2 (0 : Fin 1) p) := by
    show V m c main_v2 (((cfg0.win 5).blk t).view.emb (ix2 (0 : Fin 1) p)) = _
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * p.val = p.val; omega
  rw [e, sink_row]
  pointwise

end Cert.KernelIdeal.Window

end
-- ==== Proof.WindowArray.lean ====
/-
  What the kernel's result array holds after the run: at every position and lane, the attention.
-/
module

public import proofs.«01_k».proof.Proof.WindowBlocks
public import Idealize.ShloMosaic.Lib.Pipeline.ValueKit.Tiles

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- The mask of a window that is not a sequence's first. -/
theorem later_mask (n : Fin 16) (hn : n.val ≠ 0) (s : Fin 256) (p : Fin 1024) :
    k0_pay2 (ix2 s p) = 1#1 ↔ Sees n ⟨p.val % 128, by omega⟩ s := by
  rw [band_at]
  unfold Sees
  by_cases h : p.val % 128 ≤ s.val ∧ s.val ≤ p.val % 128 + 128
  · rw [decide_eq_true h]; exact ⟨fun _ => ⟨h.1, h.2, fun e => absurd e hn⟩, fun _ => rfl⟩
  · rw [decide_eq_false h]; exact ⟨fun e => absurd e (by decide), fun e => absurd ⟨e.1, e.2.1⟩ h⟩

/-- The mask of the first window of the grid point whose second coordinate is `T`. -/
theorem first_mask (T : Nat) (hT : T < 4) (n : Fin 16) (hn : n.val = 4 * T) (s : Fin 256) (p : Fin 1024) :
    k0_pay16 (BitVec.ofNat 32 T) (iota .tc S256x1024 32 [0] iota_S256x1024_d0_w32) k0_pay2 (ix2 s p) = 1#1
      ↔ Sees n ⟨p.val % 128, by omega⟩ s := by
  rw [pay16_at T hT]
  unfold Sees
  by_cases h : (p.val % 128 ≤ s.val ∧ s.val ≤ p.val % 128 + 128) ∧ (T = 0 → 128 ≤ s.val)
  · rw [decide_eq_true h]; exact ⟨fun _ => ⟨h.1.1, h.1.2, fun e => h.2 (by omega)⟩, fun _ => rfl⟩
  · rw [decide_eq_false h]; exact ⟨fun e => absurd e (by decide), fun e => absurd ⟨⟨e.1, e.2.1⟩, fun f => e.2.2 (by omega)⟩ h⟩

variable (m : (ℓ : Loc nD τ sig) → Buf (Elt Ideal) ℓ) (c : Dev nD)

/-- A run of rows of a buffer of keys or values. -/
theorem rows_keys (o : Nat) (inb : ∀ a, ![0, o, 0] a + S1x128x128.size a ≤ S1x512x128.size a) (X : Vec Ideal S1x512x128 .f32)
    (r l : Fin 128) (p : Fin 512) (hp : p.val = o + r.val) :
    View.ld X (Rect.unit (s := S1x512x128) ![0, o, 0] S1x128x128.size inb) (ix3 (0 : Fin 1) r l) = X (ix3 (0 : Fin 1) p l) :=
  congrArg X (funext fun a => Fin.ext (by
    match a with
    | ⟨0, _⟩ => rfl
    | ⟨1, _⟩ => show o + 1 * r.val = p.val; omega
    | ⟨2, _⟩ => show 0 + 1 * l.val = l.val; omega))

/-- A run of rows of the buffer of queries. -/
theorem rows_queries (o : Nat) (inb : ∀ a, ![0, o, 0] a + S1x128x512.size a ≤ S1x512x512.size a) (X : Vec Ideal S1x512x512 .f32)
    (r : Fin 128) (l : Fin 512) (p : Fin 512) (hp : p.val = o + r.val) :
    View.ld X (Rect.unit (s := S1x512x512) ![0, o, 0] S1x128x512.size inb) (ix3 (0 : Fin 1) r l) = X (ix3 (0 : Fin 1) p l) :=
  congrArg X (funext fun a => Fin.ext (by
    match a with
    | ⟨0, _⟩ => rfl
    | ⟨1, _⟩ => show o + 1 * r.val = p.val; omega
    | ⟨2, _⟩ => show 0 + 1 * l.val = l.val; omega))

/-- The sinks of a window are the buffer's. -/
theorem sinks_at (t : Fin cfg0.N) (p : Fin 1024) :
    View.ld (Val := Elt Ideal) (e' := .f32) (iblk m c 5 t) r0_0 (ix2 (0 : Fin 1) p) = sinks m c ⟨p.val / 128, by omega⟩ :=
  (congrArg (iblk m c 5 t) (funext fun a => Fin.ext (by
    match a with
    | ⟨0, _⟩ => rfl
    | ⟨1, _⟩ => show 0 + 1 * p.val = p.val; omega))).trans (sink_at m c t p)

/-- A window after the first of a grid point: its keys are two runs of rows of the point's own. -/
theorem later_out (t : Fin cfg0.N) (w : Nat) (hw : w < 3) (op oc : Nat) (hop : op = 128 * w) (hoc : oc = 128 * (w + 1))
    (ip : ∀ a, ![0, op, 0] a + S1x128x128.size a ≤ S1x512x128.size a)
    (ic : ∀ a, ![0, oc, 0] a + S1x128x128.size a ≤ S1x512x128.size a)
    (iq : ∀ a, ![0, oc, 0] a + S1x128x512.size a ≤ S1x512x512.size a)
    (r : Fin 128) (j : Fin 2) (g : Fin 4) (d : Fin 64) (z : ℝ)
    (n : Fin 16) (hn : n.val = 4 * (t.val % 4) + (w + 1))
    (hz : sinks m c ⟨4 * j.val + g.val, by omega⟩ = (z : EReal))
    (hs : ∀ s, score (qs m c) (ks m c) (seqOf t) n j g r s ≠ ⊤) :
    block k0_pay2 (View.ld (iblk m c 5 t) r0_0)
        (View.ld (iblk m c 2 t) (Rect.unit (s := S1x512x128) ![0, op, 0] S1x128x128.size ip))
        (View.ld (iblk m c 2 t) (Rect.unit (s := S1x512x128) ![0, oc, 0] S1x128x128.size ic))
        (View.ld (iblk m c 4 t) (Rect.unit (s := S1x512x128) ![0, op, 0] S1x128x128.size ip))
        (View.ld (iblk m c 4 t) (Rect.unit (s := S1x512x128) ![0, oc, 0] S1x128x128.size ic))
        (View.ld (iblk m c 0 t) (Rect.unit (s := S1x512x512) ![0, oc, 0] S1x128x512.size iq)) (ix3 0 r (qlane j g d))
      = out (qs m c) (ks m c) (vs m c) (sinks m c) (seqOf t) n j g r d := by
  refine block_out (qs m c) (ks m c) (vs m c) (sinks m c) (seqOf t) n _ _ _ _ _ _ _ (later_mask n (by omega)) (sinks_at m c t)
    (fun p l => ?_) (fun _ p l => ?_) (fun p l => ?_) (fun _ p l => ?_) (fun p l => ?_) r j g d z hz hs
  · refine (rows_queries oc iq _ p l ⟨oc + p.val, by omega⟩ rfl).trans ((queries_at m c t _ l).trans (congrArg _ ?_))
    exact congrArg (ix3 _ · _) (Fin.ext (by simp only; omega))
  · refine (rows_keys op ip _ p l ⟨op + p.val, by omega⟩ rfl).trans ((keys_at m c t _ l).trans (congrArg _ ?_))
    exact congrArg (ix3 _ · _) (Fin.ext (by simp only; omega))
  · refine (rows_keys oc ic _ p l ⟨oc + p.val, by omega⟩ rfl).trans ((keys_at m c t _ l).trans (congrArg _ ?_))
    exact congrArg (ix3 _ · _) (Fin.ext (by simp only; omega))
  · refine (rows_keys op ip _ p l ⟨op + p.val, by omega⟩ rfl).trans ((values_at m c t _ l).trans (congrArg _ ?_))
    exact congrArg (ix3 _ · _) (Fin.ext (by simp only; omega))
  · refine (rows_keys oc ic _ p l ⟨oc + p.val, by omega⟩ rfl).trans ((values_at m c t _ l).trans (congrArg _ ?_))
    exact congrArg (ix3 _ · _) (Fin.ext (by simp only; omega))

/-- The first window of a grid point: its earlier keys are in a buffer of their own. -/
theorem first_out (t : Fin cfg0.N) (r : Fin 128) (j : Fin 2) (g : Fin 4) (d : Fin 64) (z : ℝ)
    (n : Fin 16) (hn : n.val = 4 * (t.val % 4))
    (hz : sinks m c ⟨4 * j.val + g.val, by omega⟩ = (z : EReal))
    (hs : ∀ s, score (qs m c) (ks m c) (seqOf t) n j g r s ≠ ⊤) :
    block (k0_pay16 (BitVec.ofNat 32 (t.val % 4)) (iota .tc S256x1024 32 [0] iota_S256x1024_d0_w32) k0_pay2)
        (View.ld (iblk m c 5 t) r0_0) (View.ld (iblk m c 1 t) r0_1) (View.ld (iblk m c 2 t) r0_2)
        (View.ld (iblk m c 3 t) r0_1) (View.ld (iblk m c 4 t) r0_2) (View.ld (iblk m c 0 t) r0_6) (ix3 0 r (qlane j g d))
      = out (qs m c) (ks m c) (vs m c) (sinks m c) (seqOf t) n j g r d := by
  have whole : ∀ (X : Vec Ideal S1x128x128 .f32) (p l : Fin 128), View.ld X r0_1 (ix3 (0 : Fin 1) p l) = X (ix3 (0 : Fin 1) p l) :=
    fun X p l => congrArg X (funext fun a => Fin.ext (by
      match a with
      | ⟨0, _⟩ => rfl
      | ⟨1, _⟩ => show 0 + 1 * p.val = p.val; omega
      | ⟨2, _⟩ => show 0 + 1 * l.val = l.val; omega))
  refine block_out (qs m c) (ks m c) (vs m c) (sinks m c) (seqOf t) n _ _ _ _ _ _ _ (first_mask _ (by omega) n hn) (sinks_at m c t)
    (fun p l => ?_) (fun _ p l => ?_) (fun p l => ?_) (fun _ p l => ?_) (fun p l => ?_) r j g d z hz hs
  · refine (rows_queries 0 _ _ p l ⟨p.val, by omega⟩ (by simp)).trans ((queries_at m c t _ l).trans (congrArg _ ?_))
    exact congrArg (ix3 _ · _) (Fin.ext (by simp only; omega))
  · refine (whole _ p l).trans ((keys_before m c t p l).trans (congrArg _ ?_))
    exact congrArg (ix3 _ · _) (Fin.ext (by simp only; omega))
  · refine (rows_keys 0 _ _ p l ⟨p.val, by omega⟩ (by simp)).trans ((keys_at m c t _ l).trans (congrArg _ ?_))
    exact congrArg (ix3 _ · _) (Fin.ext (by simp only; omega))
  · refine (whole _ p l).trans ((values_before m c t p l).trans (congrArg _ ?_))
    exact congrArg (ix3 _ · _) (Fin.ext (by simp only; omega))
  · refine (rows_keys 0 _ _ p l ⟨p.val, by omega⟩ (by simp)).trans ((values_at m c t _ l).trans (congrArg _ ?_))
    exact congrArg (ix3 _ · _) (Fin.ext (by simp only; omega))

/-- What a grid point stores at row `128 w + r`: the attention of query `r` of block `4 T + w`. -/
theorem stored_out (t : Fin cfg0.N) (w : Fin 4) (r : Fin 128) (j : Fin 2) (g : Fin 4) (d : Fin 64) (z : ℝ)
    (n : Fin 16) (hn : n.val = 4 * (t.val % 4) + w.val)
    (hz : sinks m c ⟨4 * j.val + g.val, by omega⟩ = (z : EReal))
    (hs : ∀ s, score (qs m c) (ks m c) (seqOf t) n j g r s ≠ ⊤) :
    out0_6 (grid0.coords t) (iblk m c 0 t) (iblk m c 1 t) (iblk m c 2 t) (iblk m c 3 t) (iblk m c 4 t) (iblk m c 5 t)
        (ix3 (0 : Fin 1) ⟨128 * w.val + r.val, by omega⟩ (qlane j g d))
      = out (qs m c) (ks m c) (vs m c) (sinks m c) (seqOf t) n j g r d := by
  have hT : (grid0.coords t 1).val = t.val % 4 := (places t).2.2.2.2.2.2.2
  rw [out_eq, hT]
  have key : ∀ (w' : Nat) (x : S1x128x512.Idx) (f : S1x128x512.Idx → EReal), 128 * w.val + r.val = 128 * w' + (x 1).val →
      (x 2).val = (qlane j g d).val → (w.val = w' → f (ix3 0 r (qlane j g d)) = out (qs m c) (ks m c) (vs m c) (sinks m c) (seqOf t) n j g r d) →
      f x = out (qs m c) (ks m c) (vs m c) (sinks m c) (seqOf t) n j g r d := by
    intro w' x f h1 h2 h
    have b0 : (x 0).val < 1 := (x 0).isLt
    have b1 : (x 1).val < 128 := (x 1).isLt
    have e : x = ix3 0 r (qlane j g d) := funext fun a => Fin.ext (by
      match a with
      | ⟨0, _⟩ => show (x 0).val = 0; omega
      | ⟨1, _⟩ => show (x 1).val = r.val; omega
      | ⟨2, _⟩ => exact h2)
    rw [e]
    exact h (by omega)
  canon_tiles x h
  · refine key 3 x _ (by simpa using h1) (by simpa using h2.symm) fun hw => ?_
    exact later_out m c t 2 (by omega) 256 384 rfl rfl _ _ _ r j g d z n (by omega) hz hs
  · refine key 2 x _ (by simpa using h1) (by simpa using h2.symm) fun hw => ?_
    exact later_out m c t 1 (by omega) 128 256 rfl rfl _ _ _ r j g d z n (by omega) hz hs
  · refine key 1 x _ (by simpa using h1) (by simpa using h2.symm) fun hw => ?_
    exact later_out m c t 0 (by omega) 0 128 rfl rfl _ _ _ r j g d z n (by omega) hz hs
  · refine key 0 x _ (by simpa using h1) (by simpa using h2.symm) fun hw => ?_
    exact first_out m c t r j g d z n (by omega) hz hs

/-- Where an index of the result's window lies in the result. -/
theorem result_emb (t : Fin cfg0.N) (r l : Fin 512) :
    ((cfg0.win 6).blk t).view.emb (ix3 (0 : Fin 1) r l) = ix3 (seqOf t) (⟨512 * (t.val % 4) + r.val, by omega⟩ : Fin 2048) l := by
  obtain ⟨-, -, -, -, -, -, ⟨e0, e1, e2⟩, -⟩ := places t
  refine funext fun a => Fin.ext ?_
  match a with
  | ⟨0, _⟩ => show win0_6.index t (0 : Fin 3) * 1 + 1 * 0 = t.val / 4; omega
  | ⟨1, _⟩ => show win0_6.index t (1 : Fin 3) * 512 + 1 * r.val = 512 * (t.val % 4) + r.val; omega
  | ⟨2, _⟩ => show win0_6.index t (2 : Fin 3) * 512 + 1 * l.val = l.val; omega

/-- The result array after the run, at the position of query `r` of block `n`, lane `d` of head `4 j + g`. -/
theorem array_at (b : Fin 8) (n : Fin 16) (j : Fin 2) (g : Fin 4) (r : Fin 128) (d : Fin 64) (z : ℝ)
    (hz : sinks m c ⟨4 * j.val + g.val, by omega⟩ = (z : EReal))
    (hs : ∀ s, score (qs m c) (ks m c) b n j g r s ≠ ⊤) :
    (dats m 0 c).arrAt 6 cfg0.N (ix3 b (pos n r) (qlane j g d)) = out (qs m c) (ks m c) (vs m c) (sinks m c) b n j g r d := by
  let t : Fin cfg0.N := (⟨4 * b.val + n.val / 4, by omega⟩ : Fin 32)
  have ht : t.val = 4 * b.val + n.val / 4 := rfl
  have hb : seqOf t = b := Fin.ext (show t.val / 4 = b.val by omega)
  let y : Fin 512 := ⟨128 * (⟨n.val % 4, by omega⟩ : Fin 4).val + r.val, by simp only; omega⟩
  have he : ix3 b (pos n r) (qlane j g d) = ((cfg0.win 6).blk t).view.emb (ix3 (0 : Fin 1) y (qlane j g d)) := by
    rw [result_emb, hb]
    exact congrArg (ix3 _ · _) (Fin.ext (show 128 * n.val + r.val = 512 * (t.val % 4) + (128 * (n.val % 4) + r.val) by omega))
  have hblk := congrFun (Value.blocks6 m c t (flush0_6 t)) (ix3 (0 : Fin 1) y (qlane j g d))
  rw [Value.flushed6] at hblk
  rw [he]
  refine hblk.trans ?_
  have h := stored_out m c t ⟨n.val % 4, by omega⟩ r j g d z n (by simp only; omega) hz (hb.symm ▸ hs)
  rw [hb] at h
  exact h

end Cert.KernelIdeal.Window

end
-- ==== Proof.WindowFinite.lean ====
/-
  What the precondition gives: the queries, the keys and the sinks are real numbers, and so no score is infinite from
  above.
-/
module

public import proofs.«01_k».proof.Proof.WindowArray
public import proofs.«01_k».proof.Defs

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- A conjunction along a list is true only if every member is. -/
theorem all_of_fold {α : Type} (f : α → BitVec 1) : ∀ (l : List α) (b : BitVec 1),
    l.foldl (fun r n => IntOp.andi r (f n)) b = 1#1 → b = 1#1 ∧ ∀ n ∈ l, f n = 1#1
  | [], b, h => ⟨h, fun _ hn => absurd hn (by simp)⟩
  | a :: l, b, h => by
    obtain ⟨h1, h2⟩ := all_of_fold f l (IntOp.andi b (f a)) h
    have h3 : b = 1#1 ∧ f a = 1#1 := by
      have key : ∀ p q : BitVec 1, IntOp.andi p q = 1#1 → p = 1#1 ∧ q = 1#1 := by decide
      exact key _ _ h1
    refine ⟨h3.1, fun n hn => ?_⟩
    rcases List.mem_cons.1 hn with rfl | hn
    · exact h3.2
    · exact h2 n hn

/-- A conjunction over a whole array is true only if every entry is. -/
theorem all_of_reduce {s : Shape} {axes : List (Fin s.rank)} {u : Shape} (x : s.Idx → BitVec 1) (init : u.Idx → BitVec 1)
    (h : s.ReducesTo axes (⟨0, ![]⟩ : Shape)) (hu : 0 < u.numel) (j : (⟨0, ![]⟩ : Shape).Idx)
    (e : Host.reduce IntOp.andi x init h hu j = 1#1) (i : s.Idx) : x i = 1#1 := by
  have := (all_of_fold (fun n => x (s.rowMajor.symm n)) _ _ e).2 (s.rowMajor i)
    (List.mem_filter.2 ⟨List.mem_finRange _, decide_eq_true (funext fun a => a.elim0)⟩)
  simpa using this

/-- A number whose absolute value is below infinity is real. -/
theorem real_of_abs {s : Shape} (x : FVec Ideal s .f32) (b : FVec Ideal s .f32) (i : s.Idx)
    (hb : b i = Ideal.ofBits .f32 0x7F800000#32) (e : cmpf .olt (Host.absf x) b i = 1#1) : ∃ r : ℝ, x i = (r : EReal) := by
  have hb' : b i = (⊤ : EReal) := hb.trans (by simp [Ideal.ofBits, Ideal.ieee])
  have h : BitVec.ofBool (decide (max (x i : EReal) (-(x i : EReal)) < b i)) = 1#1 := e
  rw [hb'] at h
  have hlt : max (x i : EReal) (-(x i : EReal)) < ⊤ := by
    by_contra hc
    rw [decide_eq_false hc] at h
    exact absurd h (by decide)
  rw [max_lt_iff] at hlt
  refine ⟨(x i : EReal).toReal, (EReal.coe_toReal hlt.1.ne ?_).symm⟩
  intro hbot
  rw [hbot] at hlt
  exact absurd hlt.2 (by simp)

variable (m : (ℓ : Loc nD τ sig) → Buf (Elt Ideal) ℓ) (c : Dev nD)

/-- Under the precondition every query, key and sink is real. -/
theorem all_real [Cert.Pre_finite.Facts] (hp : Cert.Pre_KernelIdeal_finite m) :
    (∀ i, ∃ r : ℝ, qs m c i = (r : EReal)) ∧ (∀ i, ∃ r : ℝ, ks m c i = (r : EReal)) ∧ ∀ h, ∃ r : ℝ, sinks m c h = (r : EReal) := by
  have h := congrFun (hp c) (fun a => a.elim0)
  unfold Cert.Pre_finite.fn at h
  have key : ∀ p q : BitVec 1, IntOp.andi p q = 1#1 → p = 1#1 ∧ q = 1#1 := by decide
  obtain ⟨h12, h3⟩ := key _ _ h
  obtain ⟨h1, h2⟩ := key _ _ h12
  exact ⟨fun i => real_of_abs _ _ i rfl (all_of_reduce _ _ _ _ _ h1 i), fun i => real_of_abs _ _ i rfl (all_of_reduce _ _ _ _ _ h2 i),
    fun i => real_of_abs _ _ (ix1 i) rfl (all_of_reduce _ _ _ _ _ h3 (ix1 i))⟩

/-- A key a block looks at is real if all are. -/
theorem keyAt_real (x : Keys) (hx : ∀ i, ∃ r : ℝ, x i = (r : EReal)) (b : Fin 8) (n : Fin 16) (s : Fin 256) (d : Fin 128) :
    ∃ r : ℝ, keyAt x b n s d = (r : EReal) := by
  unfold keyAt
  split_ifs
  · exact ⟨0, rfl⟩
  · exact hx _
  · exact hx _

/-- Scores of real queries against real keys are not infinite from above. -/
theorem score_ne_top (q : Queries) (k : Keys) (hq : ∀ i, ∃ r : ℝ, q i = (r : EReal)) (hk : ∀ i, ∃ r : ℝ, k i = (r : EReal))
    (b : Fin 8) (n : Fin 16) (j : Fin 2) (g : Fin 4) (t : Fin 128) (s : Fin 256) : score q k b n j g t s ≠ ⊤ := by
  unfold score
  split_ifs
  · choose f hf using hq
    choose f' hf' using fun d => keyAt_real k hk b n s (lane j d)
    simp only [hf, hf', ← EReal.coe_mul, scale_eq, ← Softmax.coe_sum]
    exact EReal.coe_ne_top _
  · exact bot_ne_top

end Cert.KernelIdeal.Window

end
-- ==== Proof.WindowKeys.lean ====
/-
  The reference of the windowed attention, read element by element: which keys a block looks at and which of them each query sees.
-/
module

public import proofs.«01_k».proof.Proof.Gen.ReferenceIdeal.Run
public import proofs.«01_k».proof.Proof.WindowSpec
public import Idealize.ShloMosaic.Lib.Pointwise
public import Idealize.ShloMosaic.Lib.WordCmp

@[expose] public section

set_option maxRecDepth 16384

noncomputable section

namespace Cert.ReferenceIdeal.Window

open Cert.ReferenceIdeal Cert.ReferenceIdeal.Gen Cert.Window Idealize.ShloMosaic Idealize.ShloMosaic.TcCoe Idealize.SL.Sem

/-- The 256 keys (or values) each block looks at: the block before it, zero before the first, then its own. -/
def both (x : FVec Ideal S8x2048x128 .f32) : FVec Ideal S8x16x256x2x64 .f32 :=
  concatenate S8x16x256x2x64 2 [⟨S8x16x128x2x64, (concatenate S8x16x128x2x64 1 [⟨S8x1x128x2x64, (broadcastInDim S8x1x128x2x64 ![] bcast_S_S8x1x128x2x64 (constant S_ .f32 0x00000000#32))⟩, ⟨S8x15x128x2x64, (extractStridedSlice S8x15x128x2x64 ![0, 0, 0, 0, 0] (shapeCast _ x shapeCasts_S8x2048x128_S8x16x128x2x64) slices_S8x16x128x2x64_S8x15x128x2x64_0_0_0_0_0)⟩] concatenates_S8x1x128x2x64_S8x15x128x2x64_S8x16x128x2x64_d1)⟩, ⟨S8x16x128x2x64, (shapeCast _ x shapeCasts_S8x2048x128_S8x16x128x2x64)⟩] concatenates_S8x16x128x2x64_S8x16x128x2x64_S8x16x256x2x64_d2

theorem both_at (x : FVec Ideal S8x2048x128 .f32) (b : Fin 8) (n : Fin 16) (s : Fin 256) (j : Fin 2) (d : Fin 64) :
    both x (ix5 b n s j d) = keyAt x b n s (lane j d) := by
  unfold both keyAt
  pointwise
  by_cases h1 : s.val < 128
  · by_cases h2 : n.val < 1
    · have h3 : n.val = 0 := by omega
      rw [dif_pos h1, dif_pos h2, if_pos h1, if_pos h3]
    · have h3 : ¬ n.val = 0 := by omega
      rw [dif_pos h1, dif_neg h2, if_pos h1]
      refine Eq.trans ?_ (if_neg h3).symm
      exact congrArg x (by idx_ext)
  · rw [dif_neg h1, if_neg h1]
    exact congrArg x (by idx_ext)

/-- The distance from a query to a key, as the words give it. -/
theorem dist_word (n : Fin 16) (t : Fin 128) (s : Fin 256) :
    (IntOp.subi (IntOp.addi (IntOp.muli (BitVec.ofNat 32 n.val) 128#32) (BitVec.ofNat 32 t.val))
      (IntOp.addi (IntOp.subi (IntOp.muli (BitVec.ofNat 32 n.val) 128#32) 128#32) (BitVec.ofNat 32 s.val))).toInt
      = (t.val : ℤ) + 128 - s.val := by
  simp only [IntOp.subi, IntOp.addi, IntOp.muli, BitVec.toInt_eq_toNat_cond, BitVec.toNat_sub, BitVec.toNat_add,
    BitVec.toNat_mul, BitVec.toNat_ofNat]
  split <;> omega

/-- A key's position, as the words give it. -/
theorem pos_word (n : Fin 16) (s : Fin 256) :
    (IntOp.addi (IntOp.subi (IntOp.muli (BitVec.ofNat 32 n.val) 128#32) 128#32) (BitVec.ofNat 32 s.val)).toInt
      = 128 * (n.val : ℤ) - 128 + s.val := by
  simp only [IntOp.subi, IntOp.addi, IntOp.muli, BitVec.toInt_eq_toNat_cond, BitVec.toNat_sub, BitVec.toNat_add,
    BitVec.toNat_mul, BitVec.toNat_ofNat]
  split <;> omega

/-- Which of its 256 keys each query sees: those at distance 0 to 128 before it, at a position that exists. -/
def seen : IVec S16x128x256 1 :=
  andi (andi (cmpi .sge (subi (broadcastInDim S16x128x256 ![0, 1, 2] bcast_S16x128x1_S16x128x256_0_1_2 (addi (broadcastInDim S16x128x1 ![0, 1, 2] bcast_S16x1x1_S16x128x1_0_1_2 (muli (broadcastInDim S16x1x1 ![0] bcast_S16_S16x1x1_0 (iotaInDim S16 32 0)) (broadcastInDim S16x1x1 ![] bcast_S_S16x1x1 (constantI S_ 32 128#32)))) (broadcastInDim S16x128x1 ![0, 1, 2] bcast_S1x128x1_S16x128x1_0_1_2 (broadcastInDim S1x128x1 ![1] bcast_S128_S1x128x1_1 (iotaInDim S128 32 0))))) (broadcastInDim S16x128x256 ![0, 1, 2] bcast_S16x1x256_S16x128x256_0_1_2 (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![2] bcast_S256_S1x1x256_2 (iotaInDim S256 32 0)))))) (broadcastInDim S16x128x256 ![] bcast_S_S16x128x256 (constantI S_ 32 0#32))) (cmpi .sle (subi (broadcastInDim S16x128x256 ![0, 1, 2] bcast_S16x128x1_S16x128x256_0_1_2 (addi (broadcastInDim S16x128x1 ![0, 1, 2] bcast_S16x1x1_S16x128x1_0_1_2 (muli (broadcastInDim S16x1x1 ![0] bcast_S16_S16x1x1_0 (iotaInDim S16 32 0)) (broadcastInDim S16x1x1 ![] bcast_S_S16x1x1 (constantI S_ 32 128#32)))) (broadcastInDim S16x128x1 ![0, 1, 2] bcast_S1x128x1_S16x128x1_0_1_2 (broadcastInDim S1x128x1 ![1] bcast_S128_S1x128x1_1 (iotaInDim S128 32 0))))) (broadcastInDim S16x128x256 ![0, 1, 2] bcast_S16x1x256_S16x128x256_0_1_2 (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![2] bcast_S256_S1x1x256_2 (iotaInDim S256 32 0)))))) (broadcastInDim S16x128x256 ![] bcast_S_S16x128x256 (constantI S_ 32 128#32)))) (broadcastInDim S16x128x256 ![0, 1, 2] bcast_S16x1x256_S16x128x256_0_1_2 (cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![2] bcast_S256_S1x1x256_2 (iotaInDim S256 32 0)))) (broadcastInDim S16x1x256 ![] bcast_S_S16x1x256 (constantI S_ 32 0#32))))

theorem seen_at (n : Fin 16) (t : Fin 128) (s : Fin 256) : seen (ix3 n t s) = BitVec.ofBool (decide (Sees n t s)) := by
  unfold seen
  pointwise
  rw [WordCmp.cmpi_sge_eq, WordCmp.cmpi_sle_eq, WordCmp.cmpi_sge_eq, dist_word, pos_word, WordCmp.andi_ofBool,
    WordCmp.andi_ofBool, ← Bool.decide_and, ← Bool.decide_and]
  congr 1
  refine decide_eq_decide.mpr ?_
  have e0 : (0#32).toInt = 0 := rfl
  have e1 : (128#32).toInt = 128 := rfl
  rw [e0, e1, Sees]
  omega

end Cert.ReferenceIdeal.Window

end
-- ==== Proof.LastAxis.lean ====
/-
  Reductions of an array of six axes along the last one, at an index.
-/
module

public import Idealize.ShloMosaic.Lib.Pointwise

@[expose] public section

noncomputable section

namespace Cert.LastAxis

open Idealize.ShloMosaic

variable {n0 n1 n2 n3 n4 n5 : Nat}

/-- The entries of an array that drop to an index on the last of six axes. -/
theorem fiber_last (h : (⟨6, ![n0, n1, n2, n3, n4, n5]⟩ : Shape).ReducesTo [5] ⟨5, ![n0, n1, n2, n3, n4]⟩) (b : Fin n0) (n : Fin n1) (j : Fin n2) (g : Fin n3)
    (t : Fin n4) (i : (⟨6, ![n0, n1, n2, n3, n4, n5]⟩ : Shape).Idx) :
    h.drop i = ix5 b n j g t ↔ ∃ x : Fin n5, ix6 b n j g t x = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨x, rfl⟩
    funext a; apply Fin.ext
    match a with
    | ⟨0, _⟩ => rfl
    | ⟨1, _⟩ => rfl
    | ⟨2, _⟩ => rfl
    | ⟨3, _⟩ => rfl
    | ⟨4, _⟩ => rfl

/-- The largest entry along the last axis, at an index. -/
theorem max_last (h : (⟨6, ![n0, n1, n2, n3, n4, n5]⟩ : Shape).ReducesTo [5] ⟨5, ![n0, n1, n2, n3, n4]⟩)
    {u : Shape} (hu : 0 < u.numel) (f : FVec Ideal ⟨6, ![n0, n1, n2, n3, n4, n5]⟩ .f32) (init : FVec Ideal u .f32) (b : Fin n0) (n : Fin n1) (j : Fin n2)
    (g : Fin n3) (t : Fin n4) :
    Host.reduce FloatOps.maximumf f init h hu (ix5 b n j g t)
      = (Finset.univ : Finset (Fin n5)).fold max (init (Shape.Idx.first hu)) fun x => f (ix6 b n j g t x) := by
  rw [Host.reduce_eq_fold]
  exact Finset.fold_filter_eq_fold_of_fiber max _ (fun x : Fin n5 => ix6 b n j g t x)
    (fun _ _ e => congrFun e 5) (fiber_last h b n j g t) _ f

/-- The sum along the last axis, at an index. -/
theorem sum_last (h : (⟨6, ![n0, n1, n2, n3, n4, n5]⟩ : Shape).ReducesTo [5] ⟨5, ![n0, n1, n2, n3, n4]⟩)
    (f : (⟨6, ![n0, n1, n2, n3, n4, n5]⟩ : Shape).Idx → EReal) (z : EReal) (b : Fin n0) (n : Fin n1) (j : Fin n2)
    (g : Fin n3) (t : Fin n4) :
    Ideal.hostReduceAdd h f z (ix5 b n j g t)
      = z + ∑ x : Fin n5, f (ix6 b n j g t x) :=
  congrArg (z + ·) (Finset.sum_filter_eq_sum_of_fiber _ (fun x : Fin n5 => ix6 b n j g t x)
    (fun _ _ e => congrFun e 5) (fiber_last h b n j g t) f)

end Cert.LastAxis

end
-- ==== Proof.WindowReference.lean ====
/-
  The reference of the window attention: its scores, weights and result at an index, and that the result is the
  attention's output.
-/
module

public import proofs.«01_k».proof.Proof.WindowKeys
public import proofs.«01_k».proof.Proof.LastAxis

@[expose] public section

set_option maxRecDepth 16384

noncomputable section

namespace Cert.ReferenceIdeal.Window

open Cert.ReferenceIdeal Cert.ReferenceIdeal.Gen Cert.Window Idealize.ShloMosaic Idealize.ShloMosaic.TcCoe Idealize.SL.Sem

/-- The scores against the 256 keys, then the sink. -/
def scores (q : FVec Ideal S8x2048x512 .f32) (k : FVec Ideal S8x2048x128 .f32) (sink : FVec Ideal S8 .f32) : FVec Ideal S8x16x2x4x128x257 .f32 :=
  concatenate S8x16x2x4x128x257 5 [⟨S8x16x2x4x128x256, (select (broadcastInDim S8x16x2x4x128x256 ![0, 1, 2, 3, 4, 5] bcast_S1x16x1x1x128x256_S8x16x2x4x128x256_0_1_2_3_4_5 (broadcastInDim S1x16x1x1x128x256 ![1, 4, 5] bcast_S16x128x256_S1x16x1x1x128x256_1_4_5 seen)) (mulf (transpose S8x16x2x4x128x256 [0, 1, 2, 5, 4, 3] (Host.dotGeneral dot_S8x16x256x2x64_S8x16x128x2x4x64_S8x16x2x256x128x4_4_5_2_24_013_013 none (both k) (shapeCast _ q shapeCasts_S8x2048x512_S8x16x128x2x4x64)) transposes_S8x16x2x256x128x4_S8x16x2x4x128x256_0_1_2_5_4_3) (broadcastInDim S8x16x2x4x128x256 ![] bcast_S_S8x16x2x4x128x256 (constant S_ .f32 0x3E000000#32))) (broadcastInDim S8x16x2x4x128x256 ![] bcast_S_S8x16x2x4x128x256 (id (constant S_ .f32 0xFF800000#32))))⟩, ⟨S8x16x2x4x128x1, (broadcastInDim S8x16x2x4x128x1 ![2, 3, 4, 5] bcast_S2x4x1x1_S8x16x2x4x128x1_2_3_4_5 (broadcastInDim S2x4x1x1 ![0, 1] bcast_S2x4_S2x4x1x1_0_1 (shapeCast _ sink shapeCasts_S8_S2x4)))⟩] concatenates_S8x16x2x4x128x256_S8x16x2x4x128x1_S8x16x2x4x128x257_d5

/-- The largest score of each query. -/
def tops (q : FVec Ideal S8x2048x512 .f32) (k : FVec Ideal S8x2048x128 .f32) (sink : FVec Ideal S8 .f32) : FVec Ideal S8x16x2x4x128 .f32 :=
  maximumf (broadcastInDim S8x16x2x4x128 ![] bcast_S_S8x16x2x4x128 (constant S_ .f32 0xFF800000#32)) (Host.reduce FloatOps.maximumf (scores q k sink) (constant S_ .f32 0xFF800000#32) reducesTo_S8x16x2x4x128x257_S8x16x2x4x128_d5 h_S_)

/-- The unnormalised weights. -/
def weights (q : FVec Ideal S8x2048x512 .f32) (k : FVec Ideal S8x2048x128 .f32) (sink : FVec Ideal S8 .f32) : FVec Ideal S8x16x2x4x128x257 .f32 :=
  Host.exp (subf (scores q k sink) (broadcastInDim S8x16x2x4x128x257 ![0, 1, 2, 3, 4, 5] bcast_S8x16x2x4x128x1_S8x16x2x4x128x257_0_1_2_3_4_5 (broadcastInDim S8x16x2x4x128x1 ![0, 1, 2, 3, 4] bcast_S8x16x2x4x128_S8x16x2x4x128x1_0_1_2_3_4 (tops q k sink))))

/-- The weights over their totals. -/
def shares (f : FVec Ideal S8x16x2x4x128x257 .f32) : FVec Ideal S8x16x2x4x128x256 .f32 :=
  extractStridedSlice S8x16x2x4x128x256 ![0, 0, 0, 0, 0, 0] (Host.divf f (broadcastInDim S8x16x2x4x128x257 ![0, 1, 2, 3, 4, 5] bcast_S8x16x2x4x128x1_S8x16x2x4x128x257_0_1_2_3_4_5 (broadcastInDim S8x16x2x4x128x1 ![0, 1, 2, 3, 4] bcast_S8x16x2x4x128_S8x16x2x4x128x1_0_1_2_3_4 (Host.reduceAdd f (constant S_ .f32 0x00000000#32) reducesTo_S8x16x2x4x128x257_S8x16x2x4x128_d5 h_S_)))) slices_S8x16x2x4x128x257_S8x16x2x4x128x256_0_0_0_0_0_0

/-- A block of outputs from the values and the weights' shares. -/
def mix (v : FVec Ideal S8x2048x128 .f32) (f : FVec Ideal S8x16x2x4x128x256 .f32) : FVec Ideal S8x2048x512 .bf16 :=
  truncf .bf16 (shapeCast S8x2048x512 (transpose S8x16x128x2x4x64 [0, 1, 5, 2, 4, 3] (Host.dotGeneral dot_S8x16x256x2x64_S8x16x2x4x128x256_S8x16x2x64x4x128_2_5_4_34_013_012 none (both v) f) transposes_S8x16x2x64x4x128_S8x16x128x2x4x64_0_1_5_2_4_3) shapeCasts_S8x16x128x2x4x64_S8x2048x512) bitsLt_bf16_f32

/-- The reference's result. -/
def result (q : FVec Ideal S8x2048x512 .f32) (k v : FVec Ideal S8x2048x128 .f32) (sink : FVec Ideal S8 .f32) : FVec Ideal S8x2048x512 .bf16 :=
  mix v (shares (weights q k sink))

/-- The reference's program computes it. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := rfl

/-- A score against a key. -/
theorem scores_key (q : FVec Ideal S8x2048x512 .f32) (k : FVec Ideal S8x2048x128 .f32) (sink : FVec Ideal S8 .f32)
    (b : Fin 8) (n : Fin 16) (j : Fin 2) (g : Fin 4) (t : Fin 128) (x : Fin 257) (h : x.val < 256) :
    scores q k sink (ix6 b n j g t x) = score q k b n j g t ⟨x.val, h⟩ := by
  unfold scores
  pointwise [seen_at, both_at]
  rw [dif_pos h, score]
  refine if_congr Iff.rfl ?_ ?_
  · refine congrArg (· * scale) (Finset.sum_congr rfl fun y _ => congrArg (_ * q ·) (by idx_ext))
  · show Ideal.ofBits .f32 0xFF800000#32 = ⊥
    simp [Ideal.ofBits, Ideal.ieee]

/-- The last score is the sink. -/
theorem scores_sink (q : FVec Ideal S8x2048x512 .f32) (k : FVec Ideal S8x2048x128 .f32) (sink : FVec Ideal S8 .f32)
    (b : Fin 8) (n : Fin 16) (j : Fin 2) (g : Fin 4) (t : Fin 128) (x : Fin 257) (h : ¬ x.val < 256) :
    scores q k sink (ix6 b n j g t x) = sink (ix1 ⟨4 * j.val + g.val, by omega⟩) := by
  unfold scores
  pointwise
  rw [dif_neg h]
  exact congrArg sink (by idx_ext)

/-- The larger of two arrays, at an index. -/
theorem max_at (x y : FVec Ideal S8x16x2x4x128 .f32) (i : S8x16x2x4x128.Idx) : maximumf x y i = max (x i) (y i) := rfl

/-- The least score, at an index. -/
theorem bottom_at (i : S8x16x2x4x128.Idx) :
    broadcastInDim S8x16x2x4x128 ![] bcast_S_S8x16x2x4x128 (constant (F := Ideal) S_ .f32 0xFF800000#32) i = ⊥ := by
  pointwise
  simp [Ideal.ofBits, Ideal.ieee]

/-- The least score as an initial value. -/
theorem bottom_first : constant (F := Ideal) S_ .f32 0xFF800000#32 (Shape.Idx.first h_S_) = ⊥ := by
  pointwise
  simp [Ideal.ofBits, Ideal.ieee]

/-- The largest score of a query. -/
theorem tops_at (q : FVec Ideal S8x2048x512 .f32) (k : FVec Ideal S8x2048x128 .f32) (sink : FVec Ideal S8 .f32)
    (b : Fin 8) (n : Fin 16) (j : Fin 2) (g : Fin 4) (t : Fin 128) :
    tops q k sink (ix5 b n j g t)
      = (Finset.univ : Finset (Fin 257)).fold max ⊥ fun x => scores q k sink (ix6 b n j g t x) := by
  unfold tops
  generalize scores q k sink = f
  rw [max_at, LastAxis.max_last, bottom_at, bottom_first]
  exact max_eq_right bot_le

/-- An unnormalised weight. -/
theorem weights_at (q : FVec Ideal S8x2048x512 .f32) (k : FVec Ideal S8x2048x128 .f32) (sink : FVec Ideal S8 .f32)
    (b : Fin 8) (n : Fin 16) (j : Fin 2) (g : Fin 4) (t : Fin 128) (x : Fin 257) :
    weights q k sink (ix6 b n j g t x)
      = Ideal.exp (scores q k sink (ix6 b n j g t x) - tops q k sink (ix5 b n j g t)) := by
  unfold weights
  generalize scores q k sink = f
  generalize tops q k sink = f'
  pointwise

/-- A weight over the total. -/
theorem shares_at (f : FVec Ideal S8x16x2x4x128x257 .f32) (b : Fin 8) (n : Fin 16) (j : Fin 2) (g : Fin 4) (t : Fin 128)
    (s : Fin 256) : shares f (ix6 b n j g t s)
      = Ideal.div (f (ix6 b n j g t ⟨s.val, by omega⟩)) (∑ x : Fin 257, f (ix6 b n j g t x)) := by
  unfold shares
  pointwise
  rw [LastAxis.sum_last, zero_add]

/-- The values mixed by the shares, at an index. -/
theorem mix_at (v : FVec Ideal S8x2048x128 .f32) (f : FVec Ideal S8x16x2x4x128x256 .f32)
    (b : Fin 8) (n : Fin 16) (j : Fin 2) (g : Fin 4) (t : Fin 128) (d : Fin 64) (i : Fin 2048) (l : Fin 512)
    (hn : (⟨i.val / 128, by omega⟩ : Fin 16) = n) (ht : (⟨i.val % 128, by omega⟩ : Fin 128) = t)
    (hj : (⟨l.val / 256, by omega⟩ : Fin 2) = j) (hg : (⟨l.val / 64 % 4, by omega⟩ : Fin 4) = g)
    (hd : (⟨l.val % 64, by omega⟩ : Fin 64) = d) :
    mix v f (ix3 b i l) = ∑ s : Fin 256, keyAt v b n s (lane j d) * f (ix6 b n j g t s) := by
  unfold mix
  pointwise [both_at]
  subst hn ht hj hg hd
  rfl

/-- The reference's result is the attention's output. -/
theorem result_at (q : FVec Ideal S8x2048x512 .f32) (k v : FVec Ideal S8x2048x128 .f32) (sink : FVec Ideal S8 .f32)
    (b : Fin 8) (n : Fin 16) (j : Fin 2) (g : Fin 4) (t : Fin 128) (d : Fin 64) (z : ℝ)
    (hz : sink (ix1 ⟨4 * j.val + g.val, by omega⟩) = (z : EReal)) (hs : ∀ s, score q k b n j g t s ≠ ⊤) :
    result q k v sink (ix3 b (pos n t) (qlane j g d)) = out q k v (fun h => sink (ix1 h)) b n j g t d := by
  have hk : ∀ s : Fin 256, scores q k sink (ix6 b n j g t ⟨s.val, by omega⟩) = score q k b n j g t s := fun s =>
    scores_key q k sink b n j g t ⟨s.val, by omega⟩ s.isLt
  have hl : scores q k sink (ix6 b n j g t (Fin.last 256)) = (z : EReal) :=
    (scores_sink q k sink b n j g t (Fin.last 256) (lt_irrefl _)).trans hz
  have hm : tops q k sink (ix5 b n j g t) = Softmax.top (score q k b n j g t) z := by
    rw [tops_at, Softmax.fold_max_succ, hl]
    exact congrArg (fun f => max (Finset.fold max ⊥ f Finset.univ) (z : EReal)) (funext hk)
  have hw : ∀ s : Fin 256, weights q k sink (ix6 b n j g t ⟨s.val, by omega⟩)
      = Softmax.weight (score q k b n j g t) z s := fun s => by
    rw [weights_at, hk, hm]; rfl
  have hd : ∑ x : Fin 257, weights q k sink (ix6 b n j g t x) = Softmax.total (score q k b n j g t) z := by
    rw [Fin.sum_univ_castSucc]
    refine congrArg₂ (· + ·) (Finset.sum_congr rfl fun s _ => hw s) ?_
    rw [weights_at, hl, hm]
  rw [out, hz, Softmax.attend_eq _ _ _ hs, result]
  refine (mix_at v _ b n j g t d (pos n t) (qlane j g d) (Fin.ext (by simp only; omega)) (Fin.ext (by simp only; omega))
    (Fin.ext (by simp only; omega)) (Fin.ext (by simp only; omega)) (Fin.ext (by simp only; omega))).trans ?_
  refine Finset.sum_congr rfl fun s _ => ?_
  rw [shares_at, hw, hd]

end Cert.ReferenceIdeal.Window

end
-- ==== Proof.WindowEqual.lean ====
/-
  The attention kernel and its reference leave the same result.
-/
module

public import proofs.«01_k».proof.Proof.WindowFinite
public import proofs.«01_k».proof.Proof.WindowReference

@[expose] public section

set_option maxRecDepth 16384

noncomputable section

namespace Cert.KernelIdeal.Window

open Cert.KernelIdeal Cert.KernelIdeal.Gen Cert.Window Idealize.ShloMosaic Idealize.ShloMosaic.TcCoe Idealize.SL.Sem

/-- Every index of the result is a lane of a head of a query of a block. -/
theorem index_eq (i : S8x2048x512.Idx) : ∃ (b : Fin 8) (n : Fin 16) (t : Fin 128) (j : Fin 2) (g : Fin 4) (d : Fin 64),
    i = ix3 b (pos n t) (qlane j g d) := by
  have h1 : (i 1).val < 2048 := (i 1).isLt
  have h2 : (i 2).val < 512 := (i 2).isLt
  refine ⟨i 0, ⟨(i 1).val / 128, by omega⟩, ⟨(i 1).val % 128, by omega⟩, ⟨(i 2).val / 256, by omega⟩,
    ⟨(i 2).val / 64 % 4, by omega⟩, ⟨(i 2).val % 64, by omega⟩, funext fun a => Fin.ext ?_⟩
  match a with
  | ⟨0, _⟩ => rfl
  | ⟨1, _⟩ => show (i 1).val = 128 * ((i 1).val / 128) + (i 1).val % 128; omega
  | ⟨2, _⟩ => show (i 2).val = 64 * (4 * ((i 2).val / 256) + (i 2).val / 64 % 4) + (i 2).val % 64; omega

/-- The kernel's result array is the reference's function of the arguments. -/
theorem array_eq [Cert.Pre_finite.Facts] (m : (ℓ : Loc nD τ sig) → Buf (Elt Ideal) ℓ) (hp : Cert.Pre_KernelIdeal_finite m) (c : Dev nD) :
    (dats m 0 c).arrAt 6 cfg0.N = Cert.ReferenceIdeal.Window.result (qs m c) (ks m c) (vs m c) (m ((c : Thread nD τ).loc main_arg3)) := by
  obtain ⟨hq, hk, hz⟩ := all_real m c hp
  funext i
  obtain ⟨b, n, t, j, g, d, rfl⟩ := index_eq i
  obtain ⟨z, hz⟩ := hz ⟨4 * j.val + g.val, by omega⟩
  have hs := score_ne_top (qs m c) (ks m c) hq hk b n j g t
  exact (array_at m c b n j g t d z hz hs).trans
    (Cert.ReferenceIdeal.Window.result_at (qs m c) (ks m c) (vs m c) (m ((c : Thread nD τ).loc main_arg3)) b n j g t d z hz hs).symm

/-- The attention kernel and its reference, run from the same arguments, leave the same result. -/
theorem algebraic [Cert.Pre_finite.Facts] : Cert.algebraic_KernelIdeal_ReferenceIdeal_pre_finite := by
  intro m g m' g' hp hargs
  refine ⟨fun c => (dats m 0 c).arrAt 6 cfg0.N, Value.run_blocks m g, ?_⟩
  refine (θ_run _ _ _).mono (fun r h c => ⟨(h c).1.trans ?_, (h c).2⟩) (Cert.ReferenceIdeal.Value.run (F := Ideal) m' g')
  obtain ⟨e0, e1, e2, e3⟩ := hargs c
  refine (Cert.ReferenceIdeal.Window.res_eq m' c).trans ?_
  rw [e0, e1, e2, e3]
  exact (array_eq m hp c).symm

end Cert.KernelIdeal.Window

end
-- ==== Proof.FeedSpec.lean ====
/-
  The feed-forward block's mathematics for one sequence: a gate product that sees the two rows before it through a
  convolution of three taps, the exact GELU of that times a second product, a product back, and a layer norm of the sum
  with the scaled input.
-/
module

public import Idealize.ShloMosaic.PureOps.Ideal.Laws
public import Idealize.ShloMosaic.Lib.Pointwise

@[expose] public section

noncomputable section

namespace Cert.Feed

open Idealize.ShloMosaic

/-- One sequence's rows, the two rows of the gate product before it, and one layer's weights. -/
structure Feed where
  x : Fin 2048 → Fin 1024 → EReal
  h : Fin 2 → Fin 2816 → EReal
  wg : Fin 1024 → Fin 2816 → EReal
  wu : Fin 1024 → Fin 2816 → EReal
  wd : Fin 2816 → Fin 1024 → EReal
  wc : Fin 3 → Fin 2816 → EReal
  bc : Fin 2816 → EReal
  g : Fin 1024 → EReal
  b : Fin 1024 → EReal

/-- A number that a program writes by its bits. -/
abbrev lit (n : BitVec 32) : EReal := Ideal.ofBits .f32 n

namespace Feed

variable (S : Feed)

/-- A row's product with a weight into the hidden lanes. -/
def product (w : Fin 1024 → Fin 2816 → EReal) (l : Fin 2048) (c : Fin 2816) : EReal := ∑ k, S.x l k * w k c

/-- The gate product's rows, after the two rows before them. -/
def rows (i : Fin 2050) (c : Fin 2816) : EReal :=
  if h : i.val < 2 then S.h ⟨i.val, h⟩ c else S.product S.wg ⟨i.val - 2, by omega⟩ c

/-- The convolution over a row and the two before it. -/
def conv (l : Fin 2048) (c : Fin 2816) : EReal :=
  S.wc 0 c * S.rows ⟨l.val, by omega⟩ c + S.wc 1 c * S.rows ⟨l.val + 1, by omega⟩ c
    + S.wc 2 c * S.rows ⟨l.val + 2, by omega⟩ c + S.bc c

/-- The exact GELU, by the error function. -/
def gelu (v : EReal) : EReal := lit 0x3F000000#32 * v * (1 + Ideal.erf (v * lit 0x3F3504F3#32))

/-- The hidden lanes. -/
def hidden (l : Fin 2048) (c : Fin 2816) : EReal := gelu (S.conv l c) * S.product S.wu l c

/-- The scaled input and the product back, added. -/
def summed (l : Fin 2048) (o : Fin 1024) : EReal := lit 0x3FD744FD#32 * S.x l o + ∑ c, S.hidden l c * S.wd c o

/-- The mean of a row. -/
def mean (y : Fin 1024 → EReal) : EReal := Ideal.div (∑ k, y k) (lit 0x44800000#32)

/-- The layer norm of a row. -/
def norm (y : Fin 1024 → EReal) (g b : EReal) (o : Fin 1024) : EReal :=
  (y o - mean y) * Ideal.rsqrt (mean (fun k => (y k - mean y) * (y k - mean y)) + lit 0x3727C5AC#32) * g + b

/-- The block's output. -/
def out (l : Fin 2048) (o : Fin 1024) : EReal := norm (S.summed l) (S.g o) (S.b o) o

end Feed

/-- A sum over the hidden lanes, run by run. -/
theorem sum_runs (f : Fin 2816 → EReal) : ∑ c, f c = ∑ n : Fin 11, ∑ q : Fin 256, f ⟨256 * n.val + q.val, by omega⟩ := by
  rw [← Fintype.sum_prod_type' (f := fun (n : Fin 11) (q : Fin 256) => f ⟨256 * n.val + q.val, by omega⟩)]
  refine (Fintype.sum_equiv (finProdFinEquiv (m := 11) (n := 256)) _ _ fun p => congrArg f (Fin.ext ?_)).symm
  show 256 * p.1.val + p.2.val = p.2.val + 256 * p.1.val
  omega

/-- The arrays the block is given: eight sequences, the rows before them, and four layers' weights. -/
structure Arrays where
  x : (⟨3, ![8, 2048, 1024]⟩ : Shape).Idx → EReal
  h : (⟨3, ![8, 2, 2816]⟩ : Shape).Idx → EReal
  wg : (⟨3, ![4, 1024, 2816]⟩ : Shape).Idx → EReal
  wu : (⟨3, ![4, 1024, 2816]⟩ : Shape).Idx → EReal
  wd : (⟨3, ![4, 2816, 1024]⟩ : Shape).Idx → EReal
  wc : (⟨3, ![4, 3, 2816]⟩ : Shape).Idx → EReal
  bc : (⟨2, ![4, 2816]⟩ : Shape).Idx → EReal
  g : (⟨2, ![4, 1024]⟩ : Shape).Idx → EReal
  b : (⟨2, ![4, 1024]⟩ : Shape).Idx → EReal

/-- Sequence `n` with the last layer's weights. -/
def Arrays.feed (A : Arrays) (n : Fin 8) : Feed where
  x l k := A.x (ix3 n l k)
  h j c := A.h (ix3 n j c)
  wg k c := A.wg (ix3 3 k c)
  wu k c := A.wu (ix3 3 k c)
  wd c o := A.wd (ix3 3 c o)
  wc j c := A.wc (ix3 3 j c)
  bc c := A.bc (ix2 3 c)
  g o := A.g (ix2 3 o)
  b o := A.b (ix2 3 o)

end Cert.Feed

end
-- ==== Proof.FeedStages.lean ====
/-
  The feed-forward kernel's run over one block of rows, told in stages: the eleven runs of 256 hidden lanes are the
  same stage at eleven places, summed, and the sum is added to the input and normalized.
-/
module

public import proofs.«01_k».proof.Proof.Gen.Kernel2Ideal.Value

@[expose] public section

set_option maxRecDepth 16384

noncomputable section

namespace Cert.Kernel2Ideal.Feed

open Cert.Kernel2Ideal Cert.Kernel2Ideal.Gen Idealize.ShloMosaic Idealize.ShloMosaic.TcCoe Idealize.SL.Sem

variable {F : FTy → Type} [FloatOps F]

theorem fits3 (n : Fin 11) : ∀ a, ![0, 0, 256 * n.val] a + S1x1024x256.size a ≤ S1x1024x2816.size a := fun a => by
  match a with
  | ⟨0, _⟩ => exact Nat.le_refl _
  | ⟨1, _⟩ => exact Nat.le_refl _
  | ⟨2, _⟩ => show 256 * n.val + 256 ≤ 2816; omega

theorem fitsD (n : Fin 11) : ∀ a, ![0, 256 * n.val, 0] a + S1x256x1024.size a ≤ S1x2816x1024.size a := fun a => by
  match a with
  | ⟨0, _⟩ => exact Nat.le_refl _
  | ⟨1, _⟩ => show 256 * n.val + 256 ≤ 2816; omega
  | ⟨2, _⟩ => exact Nat.le_refl _

theorem fitsK (j : Fin 3) (n : Fin 11) : ∀ a, ![j.val, 256 * n.val] a + S1x256.size a ≤ S3x2816.size a := fun a => by
  match a with
  | ⟨0, _⟩ => show j.val + 1 ≤ 3; omega
  | ⟨1, _⟩ => show 256 * n.val + 256 ≤ 2816; omega

theorem fitsB (n : Fin 11) : ∀ a, ![0, 256 * n.val] a + S1x256.size a ≤ S1x2816.size a := fun a => by
  match a with
  | ⟨0, _⟩ => exact Nat.le_refl _
  | ⟨1, _⟩ => show 256 * n.val + 256 ≤ 2816; omega

theorem fitsH (j : Fin 2) (n : Fin 11) : ∀ a, ![j.val, 256 * n.val] a + S1x256.size a ≤ S2x2816.size a := fun a => by
  match a with
  | ⟨0, _⟩ => show j.val + 1 ≤ 2; omega
  | ⟨1, _⟩ => show 256 * n.val + 256 ≤ 2816; omega

theorem fitsT (n : Fin 11) : ∀ a, ![0, 256 * n.val] a + S2x256.size a ≤ S2x2816.size a := fun a => by
  match a with
  | ⟨0, _⟩ => exact Nat.le_refl _
  | ⟨1, _⟩ => show 256 * n.val + 256 ≤ 2816; omega

theorem fitsS (n : Fin 11) : ∀ a, ![0, 0, 256 * n.val] a + S1x2x256.size a ≤ S1x2x2816.size a := fun a => by
  match a with
  | ⟨0, _⟩ => exact Nat.le_refl _
  | ⟨1, _⟩ => exact Nat.le_refl _
  | ⟨2, _⟩ => show 256 * n.val + 256 ≤ 2816; omega

/-- Run `n` of the columns of a weight into the hidden lanes. -/
def rC (n : Fin 11) : Rect S1x1024x2816 := Rect.unit ![0, 0, 256 * n.val] S1x1024x256.size (fits3 n)
/-- Run `n` of the rows of the weight out of the hidden lanes. -/
def rD (n : Fin 11) : Rect S1x2816x1024 := Rect.unit ![0, 256 * n.val, 0] S1x256x1024.size (fitsD n)
/-- Run `n` of tap `j` of the convolution. -/
def rK (j : Fin 3) (n : Fin 11) : Rect S3x2816 := Rect.unit ![j.val, 256 * n.val] S1x256.size (fitsK j n)
/-- Run `n` of the convolution's bias. -/
def rB (n : Fin 11) : Rect S1x2816 := Rect.unit ![0, 256 * n.val] S1x256.size (fitsB n)
/-- Run `n` of row `j` of the carried rows. -/
def rH (j : Fin 2) (n : Fin 11) : Rect S2x2816 := Rect.unit ![j.val, 256 * n.val] S1x256.size (fitsH j n)
/-- Run `n` of both carried rows. -/
def rT (n : Fin 11) : Rect S2x2816 := Rect.unit ![0, 256 * n.val] S2x256.size (fitsT n)
/-- Run `n` of the state's two rows. -/
def rS (n : Fin 11) : Rect S1x2x2816 := Rect.unit ![0, 0, 256 * n.val] S1x2x256.size (fitsS n)

/-- What run `n` of the hidden lanes adds to the block's product. -/
def part (x : Vec F S1x1024x1024 .f32) (h0 h1 : Vec F S1x256 .f32) (x2 x3 : Vec F S1x1024x2816 .bf16)
    (x4 : Vec F S1x2816x1024 .bf16) (x5 : Vec F S3x2816 .f32) (x6 : Vec F S1x2816 .f32) (n : Fin 11) : FVec F S1024x1024 .f32 :=
  k0_pay12 (k0_pay3 x) (k0_pay6 x (View.ld x2 (rC n))) (k0_pay7 x (View.ld x2 (rC n)) h1) (k0_pay8 x (View.ld x2 (rC n)) h0 h1)
    (View.ld x5 (rK 0 n)) (View.ld x5 (rK 1 n)) (View.ld x5 (rK 2 n)) (View.ld x6 (rB n)) (View.ld x3 (rC n)) (View.ld x4 (rD n))

/-- The runs' sum, in the kernel's order. -/
def total (d : Fin 11 → FVec F S1024x1024 .f32) : FVec F S1024x1024 .f32 :=
  addf (addf (addf (addf (addf (addf (addf (addf (addf (addf (addf k0_pay5 (d 0)) (d 1)) (d 2)) (d 3)) (d 4)) (d 5)) (d 6))
    (d 7)) (d 8)) (d 9)) (d 10)

/-- The mean of each row, as a column. -/
def mean (y : FVec F S1024x1024 .f32) : FVec F S1024x1 .f32 :=
  divf (shapeCast S1024x1 (multiReduction .add [1] S1024 y 0x00000000#32 reduces_S1024x1024_S1024 (.inl rfl) rfl) shapeCasts_S1024_S1024x1)
    (broadcast S1024x1 (Scalar.ofBits .f32 0x44800000#32))

/-- Each row less its mean. -/
def centred (y : FVec F S1024x1024 .f32) : FVec F S1024x1024 .f32 :=
  subf y (broadcastTo S1024x1024 (mean y) broadcasts_S1024x1_S1024x1024)

/-- A row's layer norm. -/
def normed (y : FVec F S1024x1024 .f32) (g b : Vec F S1x1024 .f32) : FVec F S1024x1024 .f32 :=
  addf (mulf (mulf (centred y)
      (broadcastTo S1024x1024 (rsqrt (addf (mean (mulf (centred y) (centred y))) (broadcast S1024x1 (Scalar.ofBits .f32 0x3727C5AC#32))))
        broadcasts_S1024x1_S1024x1024))
      (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)

/-- The sum added to the scaled input. -/
def added (x : Vec F S1x1024x1024 .f32) (acc : FVec F S1024x1024 .f32) : FVec F S1024x1024 .f32 :=
  addf (mulf (broadcast S1024x1024 (Scalar.ofBits .f32 0x3FD744FD#32)) (k0_pay2 x)) acc

/-- The block the kernel writes, from the rows it carries. -/
def feed (h : Fin 2 → Fin 11 → Vec F S1x256 .f32) (x : Vec F S1x1024x1024 .f32) (x2 x3 : Vec F S1x1024x2816 .bf16)
    (x4 : Vec F S1x2816x1024 .bf16) (x5 : Vec F S3x2816 .f32) (x6 : Vec F S1x2816 .f32) (x7 x8 : Vec F S1x1024 .f32) :
    FVec F S1x1024x1024 .f32 :=
  k0_pay1 (normed (added x (total fun n => part x (h 0 n) (h 1 n) x2 x3 x4 x5 x6 n)) x7 x8)

/-- The whole of a block, as a rectangle of it. -/
abbrev wholeX : Rect S1x1024x1024 := Rect.unit ![0, 0, 0] S1x1024x1024.size inb_S1x1024x1024_S1x1024x1024_0_0_0
abbrev wholeG : Rect S1x1024 := Rect.unit ![0, 0] S1x1024.size inb_S1x1024_S1x1024_0_0

/-- Pieces written one run after another over those there before, the last first. -/
def pieces {s : Shape} {e : EltTy} (base : List (View.Piece (Elt F) s e)) (w : Fin 11 → View.Piece (Elt F) s e) :
    (n : Nat) → n ≤ 11 → List (View.Piece (Elt F) s e)
  | 0, _ => base
  | n + 1, h => w ⟨n, h⟩ :: pieces base w n (Nat.le_of_succ_le h)

/-- The last two rows of run `n`, put into the carried rows. -/
def carry (x : Vec F S1x1024x1024 .f32) (x2 : Vec F S1x1024x2816 .bf16) (n : Fin 11) : View.Piece (Elt F) S2x2816 .f32 :=
  ⟨rT n, k0_pay9 x (View.ld x2 (rC n))⟩

/-- The last two rows of run `n`, put into the state. -/
def leave (x : Vec F S1x1024x1024 .f32) (x2 : Vec F S1x1024x2816 .bf16) (n : Fin 11) : View.Piece (Elt F) S1x2x2816 .f32 :=
  ⟨rS n, k0_pay11 (k0_pay10 x (View.ld x2 (rC n)))⟩

/-- The given state's rows, put into the carried rows. -/
def begun (x1 : Vec F S1x2x2816 .f32) : List (View.Piece (Elt F) S2x2816 .f32) :=
  [⟨Rect.unit ![0, 0] S2x2816.size inb_S2x2816_S2x2816_0_0,
    k0_pay4 (View.ld x1 (Rect.unit ![0, 0, 0] S1x2x2816.size inb_S1x2x2816_S1x2x2816_0_0_0))⟩]

/-- The one piece the run leaves of its output when it carries on from the rows before. -/
theorem pieces_later (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : ¬cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) (xs0 : Vec F S2x2816 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1
      = [⟨wholeX, feed (fun j n => View.ld (arg13.view.read (Elt F) (harg13.unread xs0)) (rH j n)) (View.ld (arg2.view.read (Elt F) (harg2.unread x0)) wholeX)
          (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (View.ld (arg9.view.read (Elt F) (harg9.unread x7)) wholeG) (View.ld (arg10.view.read (Elt F) (harg10.unread x8)) wholeG)⟩] := by
  sl_kernel_rfl

/-- The pieces that run leaves of the state. -/
theorem state_later (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : ¬cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) (xs0 : Vec F S2x2816 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).2.1
      = pieces [] (leave (View.ld (arg2.view.read (Elt F) (harg2.unread x0)) wholeX) (arg4.view.read (Elt F) (harg4.unread x2))) 11 (Nat.le_refl _) := by
  sl_kernel_rfl

/-- The pieces that run leaves of the carried rows. -/
theorem carried_later (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : ¬cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) (xs0 : Vec F S2x2816 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).2.2.1
      = pieces [] (carry (View.ld (arg2.view.read (Elt F) (harg2.unread x0)) wholeX) (arg4.view.read (Elt F) (harg4.unread x2))) 11 (Nat.le_refl _) := by
  sl_kernel_rfl

/-- The one piece the run leaves of its output when it starts from the given state. -/
theorem pieces_first (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1
      = [⟨wholeX, feed (fun j n => arg13.view.readCov (pieces (begun (arg3.view.read (Elt F) (harg3.unread x1))) (carry (View.ld (arg2.view.read (Elt F) (harg2.unread x0)) wholeX) (arg4.view.read (Elt F) (harg4.unread x2))) n.val (Nat.le_of_lt n.isLt)) (rH j n).toLoadRect) (View.ld (arg2.view.read (Elt F) (harg2.unread x0)) wholeX)
          (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (View.ld (arg9.view.read (Elt F) (harg9.unread x7)) wholeG) (View.ld (arg10.view.read (Elt F) (harg10.unread x8)) wholeG)⟩] := by
  sl_kernel_rfl

/-- The pieces that run leaves of the carried rows. -/
theorem carried_first (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1
      = pieces (begun (arg3.view.read (Elt F) (harg3.unread x1))) (carry (View.ld (arg2.view.read (Elt F) (harg2.unread x0)) wholeX) (arg4.view.read (Elt F) (harg4.unread x2))) 11 (Nat.le_refl _) := by
  sl_kernel_rfl

end Cert.Kernel2Ideal.Feed

end
-- ==== Proof.FeedCarry.lean ====
/-
  What the feed-forward kernel's run over one block leaves: the block of the result, the carried rows and the state.
-/
module

public import proofs.«01_k».proof.Proof.FeedStages
public import proofs.«01_k».proof.Proof.Gen.Kernel2Ideal.Value
public import Idealize.ShloMosaic.Lib.Pointwise

@[expose] public section

set_option maxRecDepth 16384

noncomputable section

namespace Cert.Kernel2Ideal.Feed

open Cert.Kernel2Ideal Cert.Kernel2Ideal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The run of 256 that holds a hidden lane. -/
def runOf (l : Fin 2816) : Fin 11 := ⟨l.val / 256, by omega⟩
/-- A hidden lane's place in its run. -/
def laneOf (l : Fin 2816) : Fin 256 := ⟨l.val % 256, by omega⟩

/-- The carried rows a block leaves: the last two rows of its gate product. -/
def lastRows (x : Vec F S1x1024x1024 .f32) (x2 : Vec F S1x1024x2816 .bf16) : Vec F S2x2816 .f32 := fun y =>
  k0_pay9 x (View.ld x2 (rC (runOf (y 1)))) (ix2 (y 0) (laneOf (y 1)))

/-- The state a block leaves: the same rows. -/
def lastState (x : Vec F S1x1024x1024 .f32) (x2 : Vec F S1x1024x2816 .bf16) : Vec F S1x2x2816 .f32 := fun y =>
  k0_pay11 (k0_pay10 x (View.ld x2 (rC (runOf (y 2))))) (ix3 (y 0) (y 1) (laneOf (y 2)))

/-- A lane of run `n` is under that run's piece of the carried rows, at its place in the run. -/
theorem emb_rT (n : Fin 11) (y : S2x2816.Idx) (h : runOf (y 1) = n) : (rT n).emb (ix2 (y 0) (laneOf (y 1))) = y := by
  subst h
  funext a
  apply Fin.ext
  match a with
  | ⟨0, _⟩ => show 0 + 1 * (y 0).val = (y 0).val; omega
  | ⟨1, _⟩ => show 256 * ((y 1).val / 256) + 1 * ((y 1).val % 256) = (y 1).val; omega

/-- No other lane is under it. -/
theorem not_mem_rT (n : Fin 11) (y : S2x2816.Idx) (h : runOf (y 1) ≠ n) : y ∉ (rT n).set := by
  intro hm
  have h1 := Rect.mem_set_unit.mp hm 1
  have h2 : 256 * n.val ≤ (y 1).val ∧ (y 1).val < 256 * n.val + 256 := h1
  exact h (Fin.ext (show (y 1).val / 256 = n.val by omega))

/-- A lane of run `n` is under that run's piece of the state, at its place in the run. -/
theorem emb_rS (n : Fin 11) (y : S1x2x2816.Idx) (h : runOf (y 2) = n) :
    (rS n).emb (ix3 (y 0) (y 1) (laneOf (y 2))) = y := by
  subst h
  funext a
  apply Fin.ext
  match a with
  | ⟨0, _⟩ => show 0 + 1 * (y 0).val = (y 0).val; omega
  | ⟨1, _⟩ => show 0 + 1 * (y 1).val = (y 1).val; omega
  | ⟨2, _⟩ => show 256 * ((y 2).val / 256) + 1 * ((y 2).val % 256) = (y 2).val; omega

/-- No other lane is under it. -/
theorem not_mem_rS (n : Fin 11) (y : S1x2x2816.Idx) (h : runOf (y 2) ≠ n) : y ∉ (rS n).set := by
  intro hm
  have h1 := Rect.mem_set_unit.mp hm 2
  have h2 : 256 * n.val ≤ (y 2).val ∧ (y 2).val < 256 * n.val + 256 := h1
  exact h (Fin.ext (show (y 2).val / 256 = n.val by omega))

/-- A run's lanes hold what its piece put there, whatever pieces follow. -/
theorem carried_at (base : List (View.Piece (Elt F) S2x2816 .f32)) (x : Vec F S1x1024x1024 .f32) (x2 : Vec F S1x1024x2816 .bf16)
    (y : S2x2816.Idx) :
    ∀ (n : Nat) (h : n ≤ 11), (y 1).val < 256 * n →
      View.canon (pieces base (carry x x2) n h) y = lastRows x x2 y := by
  intro n
  induction n with
  | zero => intro _ hy; omega
  | succ n ih =>
    intro h hy
    by_cases e : runOf (y 1) = ⟨n, h⟩
    · have := View.canon_cons_emb (Val := Elt F) (rT ⟨n, h⟩) (k0_pay9 x (View.ld x2 (rC ⟨n, h⟩)))
        (pieces base (carry x x2) n (Nat.le_of_succ_le h)) (ix2 (y 0) (laneOf (y 1)))
      rw [emb_rT _ y e] at this
      refine this.trans ?_
      unfold lastRows
      rw [e]
    · refine (View.canon_cons_of_not_mem (carry x x2 ⟨n, h⟩) (pieces base (carry x x2) n (Nat.le_of_succ_le h)) (not_mem_rT ⟨n, h⟩ y e)).trans (ih _ ?_)
      have : (y 1).val / 256 ≠ n := fun f => e (Fin.ext f)
      omega

/-- The lanes of the runs still to come hold what was there before. -/
theorem before_at (base : List (View.Piece (Elt F) S2x2816 .f32)) (x : Vec F S1x1024x1024 .f32) (x2 : Vec F S1x1024x2816 .bf16)
    (y : S2x2816.Idx) : ∀ (n : Nat) (h : n ≤ 11), 256 * n ≤ (y 1).val →
      View.canon (pieces base (carry x x2) n h) y = View.canon base y := by
  intro n
  induction n with
  | zero => intro _ _; rfl
  | succ n ih =>
    intro h hy
    have e : runOf (y 1) ≠ ⟨n, h⟩ := fun f => by have : (y 1).val / 256 = n := congrArg Fin.val f; omega
    exact (View.canon_cons_of_not_mem (carry x x2 ⟨n, h⟩) (pieces base (carry x x2) n (Nat.le_of_succ_le h)) (not_mem_rT ⟨n, h⟩ y e)).trans (ih _ (by omega))

/-- The state's lanes hold what their runs put there. -/
theorem state_at (base : List (View.Piece (Elt F) S1x2x2816 .f32)) (x : Vec F S1x1024x1024 .f32) (x2 : Vec F S1x1024x2816 .bf16)
    (y : S1x2x2816.Idx) :
    ∀ (n : Nat) (h : n ≤ 11), (y 2).val < 256 * n →
      View.canon (pieces base (leave x x2) n h) y = lastState x x2 y := by
  intro n
  induction n with
  | zero => intro _ hy; omega
  | succ n ih =>
    intro h hy
    by_cases e : runOf (y 2) = ⟨n, h⟩
    · have := View.canon_cons_emb (Val := Elt F) (rS ⟨n, h⟩) (k0_pay11 (k0_pay10 x (View.ld x2 (rC ⟨n, h⟩))))
        (pieces base (leave x x2) n (Nat.le_of_succ_le h)) (ix3 (y 0) (y 1) (laneOf (y 2)))
      rw [emb_rS _ y e] at this
      refine this.trans ?_
      unfold lastState
      rw [e]
    · refine (View.canon_cons_of_not_mem (leave x x2 ⟨n, h⟩) (pieces base (leave x x2) n (Nat.le_of_succ_le h)) (not_mem_rS ⟨n, h⟩ y e)).trans (ih _ ?_)
      have : (y 2).val / 256 ≠ n := fun f => e (Fin.ext f)
      omega

/-- The given state read as the carried rows. -/
theorem begun_at (x1 : Vec F S1x2x2816 .f32) : View.canon (begun x1) = k0_pay4 x1 := by
  unfold begun
  rw [View.canon_unit_zero zero2, View.ld_unit_zero zero3]

/-- The block of the result, when the run carries on from the rows before. -/
theorem out_later (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : ¬cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) (xs0 : Vec F S2x2816 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = feed (fun j n => View.ld xs0 (rH j n)) x0 x2 x3 x4 x5 x6 x7 x8 := by
  unfold out0_B_9
  rw [View.read_writes_junk_eq_canon, pieces_later, harg13.read_unread, harg2.read_unread, harg4.read_unread, harg5.read_unread,
    harg6.read_unread, harg7.read_unread, harg8.read_unread, harg9.read_unread, harg10.read_unread,
    View.ld_unit_zero zero3, View.ld_unit_zero zero2, View.ld_unit_zero zero2, View.canon_unit_zero zero3]

/-- The state, when the run carries on from the rows before. -/
theorem state_left (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : ¬cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) (xs0 : Vec F S2x2816 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = lastState x0 x2 := by
  unfold out0_B_10
  rw [View.read_writes_junk_eq_canon, state_later, harg2.read_unread, harg4.read_unread, View.ld_unit_zero zero3]
  funext y
  exact state_at _ _ _ y 11 _ (y 2).isLt

/-- The carried rows a run from the given state leaves. -/
theorem rows_left (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = lastRows x0 x2 := by
  unfold sout0_A_0
  rw [View.read_writes_junk_eq_canon, carried_first, harg2.read_unread, harg4.read_unread, View.ld_unit_zero zero3]
  funext y
  exact carried_at _ _ _ y 11 _ (y 1).isLt

/-- The block of the result, when the run starts from the given state. -/
theorem out_first (c : Dev nD) (i : grid0.Coords) (arg2 : Memref sig .tc .vmem S1x1024x1024 .f32) (harg2 : arg2.IsWhole) (arg3 : Memref sig .tc .vmem S1x2x2816 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1x2x2816 .f32) (harg12 : arg12.IsWhole) (arg13 : Memref sig .tc .vmem S2x2816 .f32) (harg13 : arg13.IsWhole) (hc0 : cond0_0 i)
    (x0 : Vec F S1x1024x1024 .f32) (x1 : Vec F S1x2x2816 .f32) (x2 : Vec F S1x1024x2816 .bf16) (x3 : Vec F S1x1024x2816 .bf16) (x4 : Vec F S1x2816x1024 .bf16) (x5 : Vec F S3x2816 .f32) (x6 : Vec F S1x2816 .f32) (x7 : Vec F S1x1024 .f32) (x8 : Vec F S1x1024 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = feed (fun j n => View.ld (k0_pay4 x1) (rH j n)) x0 x2 x3 x4 x5 x6 x7 x8 := by
  unfold out0_A_9
  rw [View.read_writes_junk_eq_canon, pieces_first, harg2.read_unread, harg3.read_unread, harg4.read_unread, harg5.read_unread,
    harg6.read_unread, harg7.read_unread, harg8.read_unread, harg9.read_unread, harg10.read_unread,
    View.ld_unit_zero zero3, View.ld_unit_zero zero2, View.ld_unit_zero zero2, View.canon_unit_zero zero3]
  refine congrArg (fun h => feed h x0 x2 x3 x4 x5 x6 x7 x8) (funext fun j => funext fun n => ?_)
  rw [View.readCov_eq_canon']
  funext q
  refine (before_at _ _ _ _ n.val _ ?_).trans (congrFun (begun_at x1) _)
  show 256 * n.val ≤ 256 * n.val + 1 * (q 1).val
  omega

end Cert.Kernel2Ideal.Feed

end
-- ==== Proof.FeedBlock.lean ====
/-
  The feed-forward kernel's block, at an index: the mathematics of its rows of the sequence.
-/
module

public import proofs.«01_k».proof.Proof.FeedSpec
public import proofs.«01_k».proof.Proof.FeedCarry
public import Idealize.ShloMosaic.Lib.WordCmp

@[expose] public section

set_option maxRecDepth 16384

noncomputable section

namespace Cert.Kernel2Ideal.Feed

open Cert.Kernel2Ideal Cert.Kernel2Ideal.Gen Cert.Feed Idealize.ShloMosaic Idealize.ShloMosaic.TcCoe Idealize.SL.Sem

/-- A run of a product into the hidden lanes. -/
theorem pay6_at (x : Vec Ideal S1x1024x1024 .f32) (w : Vec Ideal S1x1024x256 .bf16) (r : Fin 1024) (q : Fin 256) :
    k0_pay6 x w (ix2 r q) = ∑ k : Fin 1024, x (ix3 0 r k) * w (ix3 0 k q) := by
  unfold k0_pay6 k0_pay3 k0_pay2
  pointwise

theorem pay3_at (x : Vec Ideal S1x1024x1024 .f32) (r k : Fin 1024) : k0_pay3 x (ix2 r k) = x (ix3 0 r k) := by
  unfold k0_pay3 k0_pay2
  pointwise

/-- Whether a row is row `n`. -/
theorem row_is (r : Fin 1024) (n : Nat) (hn : n < 1024) (a b : EReal) :
    Scalar.select (IntOp.cmpi CmpIPredicate.eq (BitVec.ofNat 32 r.val) (BitVec.ofNat 32 n)) a b = if r.val = n then a else b := by
  rw [WordCmp.cmpi_eq_ofNat (by omega) (by omega), WordCmp.select_decide]

/-- The row before, or the carried row where there is none. -/
theorem pay7_at (x : Vec Ideal S1x1024x1024 .f32) (w : Vec Ideal S1x1024x256 .bf16) (h1 : Vec Ideal S1x256 .f32)
    (r : Fin 1024) (q : Fin 256) :
    k0_pay7 x w h1 (ix2 r q) = if h : r.val = 0 then h1 (ix2 0 q) else k0_pay6 x w (ix2 ⟨r.val - 1, by omega⟩ q) := by
  unfold k0_pay7
  generalize k0_pay6 x w = y
  pointwise
  rw [row_is r 0 (by omega)]
  split_ifs with h
  · rfl
  · exact congrArg y (by idx_ext)

/-- The row two before, or a carried row where there is none. -/
theorem pay8_at (x : Vec Ideal S1x1024x1024 .f32) (w : Vec Ideal S1x1024x256 .bf16) (h0 h1 : Vec Ideal S1x256 .f32)
    (r : Fin 1024) (q : Fin 256) :
    k0_pay8 x w h0 h1 (ix2 r q) = if h : r.val = 0 then h0 (ix2 0 q) else if h' : r.val = 1 then h1 (ix2 0 q)
      else k0_pay6 x w (ix2 ⟨r.val - 2, by omega⟩ q) := by
  unfold k0_pay8
  generalize k0_pay6 x w = y
  pointwise
  rw [row_is r 0 (by omega), row_is r 1 (by omega)]
  split_ifs with h h'
  · rfl
  · rfl
  · exact congrArg y (by idx_ext)

/-- Lane `q` of run `n`. -/
abbrev lane (n : Fin 11) (q : Fin 256) : Fin 2816 := ⟨256 * n.val + q.val, by omega⟩

/-- Row `r` of half `T` of the sequence. -/
abbrev row (T : Fin 2) (r : Fin 1024) : Fin 2048 := ⟨1024 * T.val + r.val, by omega⟩

theorem ld_wide (w : Vec Ideal S1x1024x2816 .bf16) (n : Fin 11) (k : Fin 1024) (q : Fin 256) :
    View.ld w (rC n) (ix3 0 k q) = w (ix3 0 k (lane n q)) :=
  congrArg w (funext fun a => Fin.ext (by
    match a with
    | ⟨0, _⟩ => rfl
    | ⟨1, _⟩ => show 0 + 1 * k.val = k.val; omega
    | ⟨2, _⟩ => show 256 * n.val + 1 * q.val = 256 * n.val + q.val; omega))

theorem ld_tall (w : Vec Ideal S1x2816x1024 .bf16) (n : Fin 11) (q : Fin 256) (o : Fin 1024) :
    View.ld w (rD n) (ix3 0 q o) = w (ix3 0 (lane n q) o) :=
  congrArg w (funext fun a => Fin.ext (by
    match a with
    | ⟨0, _⟩ => rfl
    | ⟨1, _⟩ => show 256 * n.val + 1 * q.val = 256 * n.val + q.val; omega
    | ⟨2, _⟩ => show 0 + 1 * o.val = o.val; omega))

theorem ld_tap (w : Vec Ideal S3x2816 .f32) (j : Fin 3) (n : Fin 11) (q : Fin 256) :
    View.ld w (rK j n) (ix2 0 q) = w (ix2 j (lane n q)) :=
  congrArg w (funext fun a => Fin.ext (by
    match a with
    | ⟨0, _⟩ => show j.val + 1 * 0 = j.val; omega
    | ⟨1, _⟩ => show 256 * n.val + 1 * q.val = 256 * n.val + q.val; omega))

theorem ld_bias (w : Vec Ideal S1x2816 .f32) (n : Fin 11) (q : Fin 256) :
    View.ld w (rB n) (ix2 0 q) = w (ix2 0 (lane n q)) :=
  congrArg w (funext fun a => Fin.ext (by
    match a with
    | ⟨0, _⟩ => rfl
    | ⟨1, _⟩ => show 256 * n.val + 1 * q.val = 256 * n.val + q.val; omega))

theorem ld_held (w : Vec Ideal S2x2816 .f32) (j : Fin 2) (n : Fin 11) (q : Fin 256) :
    View.ld w (rH j n) (ix2 0 q) = w (ix2 j (lane n q)) :=
  congrArg w (funext fun a => Fin.ext (by
    match a with
    | ⟨0, _⟩ => show j.val + 1 * 0 = j.val; omega
    | ⟨1, _⟩ => show 256 * n.val + 1 * q.val = 256 * n.val + q.val; omega))

/-- The buffers a block is computed from hold half `T` of a sequence, the two rows before it and the layer's weights. -/
structure Holds (S : Feed) (T : Fin 2) (H : Vec Ideal S2x2816 .f32) (x : Vec Ideal S1x1024x1024 .f32)
    (x2 x3 : Vec Ideal S1x1024x2816 .bf16) (x4 : Vec Ideal S1x2816x1024 .bf16) (x5 : Vec Ideal S3x2816 .f32)
    (x6 : Vec Ideal S1x2816 .f32) (x7 x8 : Vec Ideal S1x1024 .f32) : Prop where
  before : ∀ (j : Fin 2) (c : Fin 2816), H (ix2 j c) = S.rows ⟨1024 * T.val + j.val, by omega⟩ c
  input : ∀ r k : Fin 1024, x (ix3 0 r k) = S.x (row T r) k
  gate : ∀ k c, x2 (ix3 0 k c) = S.wg k c
  up : ∀ k c, x3 (ix3 0 k c) = S.wu k c
  down : ∀ c o, x4 (ix3 0 c o) = S.wd c o
  taps : ∀ j c, x5 (ix2 j c) = S.wc j c
  bias : ∀ c, x6 (ix2 0 c) = S.bc c
  scale : ∀ o, x7 (ix2 0 o) = S.g o
  shift : ∀ o, x8 (ix2 0 o) = S.b o

section

variable {S : Feed} {T : Fin 2} {H : Vec Ideal S2x2816 .f32} {x : Vec Ideal S1x1024x1024 .f32}
  {x2 x3 : Vec Ideal S1x1024x2816 .bf16} {x4 : Vec Ideal S1x2816x1024 .bf16} {x5 : Vec Ideal S3x2816 .f32}
  {x6 : Vec Ideal S1x2816 .f32} {x7 x8 : Vec Ideal S1x1024 .f32}

/-- A row of the gate product, at its place among the sequence's rows. -/
theorem rows_at (hx : ∀ r k : Fin 1024, x (ix3 0 r k) = S.x (row T r) k) (hw : ∀ k c, x2 (ix3 0 k c) = S.wg k c)
    (n : Fin 11) (r : Fin 1024) (q : Fin 256) (i : Fin 2050) (hi : i.val = 1024 * T.val + r.val + 2) :
    k0_pay6 x (View.ld x2 (rC n)) (ix2 r q) = S.rows i (lane n q) := by
  refine (pay6_at x (View.ld x2 (rC n)) r q).trans ?_
  rw [Feed.rows, dif_neg (by omega)]
  unfold Feed.product
  refine Finset.sum_congr rfl fun k _ => ?_
  rw [hx, ld_wide, hw]
  exact congrArg (fun l => S.x l k * S.wg k (lane n q)) (Fin.ext (by simp only; omega))

variable (h : Holds S T H x x2 x3 x4 x5 x6 x7 x8)
include h

/-- The row before. -/
theorem prev_at (n : Fin 11) (r : Fin 1024) (q : Fin 256) (i : Fin 2050) (hi : i.val = 1024 * T.val + r.val + 1) :
    k0_pay7 x (View.ld x2 (rC n)) (View.ld H (rH 1 n)) (ix2 r q) = S.rows i (lane n q) := by
  refine (pay7_at x (View.ld x2 (rC n)) (View.ld H (rH 1 n)) r q).trans ?_
  split_ifs with h0
  · rw [ld_held, h.before]
    exact congrArg (S.rows · _) (Fin.ext (by show 1024 * T.val + 1 = i.val; omega))
  · exact rows_at h.input h.gate n _ q i (by simp only; omega)

/-- The row two before. -/
theorem prev2_at (n : Fin 11) (r : Fin 1024) (q : Fin 256) (i : Fin 2050) (hi : i.val = 1024 * T.val + r.val) :
    k0_pay8 x (View.ld x2 (rC n)) (View.ld H (rH 0 n)) (View.ld H (rH 1 n)) (ix2 r q) = S.rows i (lane n q) := by
  refine (pay8_at x (View.ld x2 (rC n)) (View.ld H (rH 0 n)) (View.ld H (rH 1 n)) r q).trans ?_
  split_ifs with h0 h1
  · rw [ld_held, h.before]
    exact congrArg (S.rows · _) (Fin.ext (by show 1024 * T.val + 0 = i.val; omega))
  · rw [ld_held, h.before]
    exact congrArg (S.rows · _) (Fin.ext (by show 1024 * T.val + 1 = i.val; omega))
  · exact rows_at h.input h.gate n _ q i (by simp only; omega)

/-- What a run adds. -/
theorem part_at (n : Fin 11) (r o : Fin 1024) :
    part x (View.ld H (rH 0 n)) (View.ld H (rH 1 n)) x2 x3 x4 x5 x6 n (ix2 r o)
      = ∑ q : Fin 256, S.hidden (row T r) (lane n q) * S.wd (lane n q) o := by
  have e0 : ∀ q, k0_pay6 x (View.ld x2 (rC n)) (ix2 r q) = _ := fun q => rows_at h.input h.gate n r q ⟨1024 * T.val + r.val + 2, by omega⟩ rfl
  have e1 : ∀ q, k0_pay7 x (View.ld x2 (rC n)) (View.ld H (rH 1 n)) (ix2 r q) = _ := fun q => prev_at h n r q ⟨1024 * T.val + r.val + 1, by omega⟩ rfl
  have e2 : ∀ q, k0_pay8 x (View.ld x2 (rC n)) (View.ld H (rH 0 n)) (View.ld H (rH 1 n)) (ix2 r q) = _ := fun q => prev2_at h n r q ⟨1024 * T.val + r.val, by omega⟩ rfl
  have ex : ∀ k, k0_pay3 x (ix2 r k) = S.x (row T r) k := fun k => (pay3_at x r k).trans (h.input r k)
  unfold part
  generalize k0_pay6 x (View.ld x2 (rC n)) = y0 at e0
  generalize k0_pay7 x (View.ld x2 (rC n)) (View.ld H (rH 1 n)) = y1 at e1
  generalize k0_pay8 x (View.ld x2 (rC n)) (View.ld H (rH 0 n)) (View.ld H (rH 1 n)) = y2 at e2
  have t0 := fun q => (ld_tap x5 0 n q).trans (h.taps 0 _)
  have t1 := fun q => (ld_tap x5 1 n q).trans (h.taps 1 _)
  have t2 := fun q => (ld_tap x5 2 n q).trans (h.taps 2 _)
  have tb := fun q => (ld_bias x6 n q).trans (h.bias _)
  have tu := fun k q => (ld_wide x3 n k q).trans (h.up k _)
  have td := fun q => (ld_tall x4 n q o).trans (h.down _ o)
  generalize View.ld x5 (rK 0 n) = k0 at t0
  generalize View.ld x5 (rK 1 n) = k1 at t1
  generalize View.ld x5 (rK 2 n) = k2 at t2
  generalize View.ld x6 (rB n) = kb at tb
  generalize View.ld x3 (rC n) = ku at tu
  generalize View.ld x4 (rD n) = kd at td
  generalize k0_pay3 x = xb at ex
  unfold k0_pay12
  pointwise
  refine Finset.sum_congr rfl fun q _ => ?_
  rw [t0, t1, t2, tb, td, e0, e1, e2]
  simp only [ex, tu]
  rfl

/-- The runs' sum, with the scaled input. -/
theorem summed_at (r o : Fin 1024) :
    added x (total fun n => part x (View.ld H (rH 0 n)) (View.ld H (rH 1 n)) x2 x3 x4 x5 x6 n) (ix2 r o) = S.summed (row T r) o := by
  have e : ∀ d : Fin 11 → FVec Ideal S1024x1024 .f32, total d (ix2 r o) = ∑ n, d n (ix2 r o) := fun d => by
    unfold total k0_pay5
    pointwise
    simp only [Fin.sum_univ_succ, Fin.sum_univ_zero, add_zero, ← add_assoc]
    rfl
  have e' : ∀ (x : Vec Ideal S1x1024x1024 .f32) (y : FVec Ideal S1024x1024 .f32),
      added x y (ix2 r o) = lit 0x3FD744FD#32 * x (ix3 0 r o) + y (ix2 r o) := fun x y => by
    unfold added k0_pay2
    pointwise
  rw [e', e, h.input, Feed.summed, sum_runs, Finset.sum_congr rfl fun n _ => part_at h n r o]

end

/-- A row's mean. -/
theorem mean_at (y : FVec Ideal S1024x1024 .f32) (r : Fin 1024) (u : Fin 1) : mean y (ix2 r u) = Cert.Feed.Feed.mean fun k => y (ix2 r k) := by
  unfold mean Cert.Feed.Feed.mean
  pointwise

/-- A row less its mean. -/
theorem centred_at (y : FVec Ideal S1024x1024 .f32) (r o : Fin 1024) :
    centred y (ix2 r o) = y (ix2 r o) - Cert.Feed.Feed.mean fun k => y (ix2 r k) := by
  rw [← mean_at y r 0]
  unfold centred
  generalize mean y = z
  pointwise

/-- A row's layer norm. -/
theorem normed_at (y : FVec Ideal S1024x1024 .f32) (g b : Vec Ideal S1x1024 .f32) (r o : Fin 1024) :
    normed y g b (ix2 r o) = Feed.norm (fun k => y (ix2 r k)) (g (ix2 0 o)) (b (ix2 0 o)) o := by
  have e := mean_at (mulf (centred y) (centred y)) r 0
  have e' : ∀ k, mulf (centred y) (centred y) (ix2 r k) = _ := fun k => congrArg₂ (· * ·) (centred_at y r k) (centred_at y r k)
  rw [funext e'] at e
  unfold normed Feed.norm
  rw [← e, ← centred_at y r o]
  generalize centred y = z
  generalize mean (mulf z z) = z'
  pointwise

/-- The block a grid point writes is the mathematics of its rows. -/
theorem feed_at {S : Feed} {T : Fin 2} {H : Vec Ideal S2x2816 .f32} {x : Vec Ideal S1x1024x1024 .f32}
    {x2 x3 : Vec Ideal S1x1024x2816 .bf16} {x4 : Vec Ideal S1x2816x1024 .bf16} {x5 : Vec Ideal S3x2816 .f32}
    {x6 : Vec Ideal S1x2816 .f32} {x7 x8 : Vec Ideal S1x1024 .f32} (h : Holds S T H x x2 x3 x4 x5 x6 x7 x8) (u : Fin 1)
    (r o : Fin 1024) : feed (fun j n => View.ld H (rH j n)) x x2 x3 x4 x5 x6 x7 x8 (ix3 u r o) = S.out (row T r) o := by
  have e : ∀ y : FVec Ideal S1024x1024 .f32, k0_pay1 y (ix3 u r o) = y (ix2 r o) := fun y => by
    unfold k0_pay1
    pointwise
  unfold feed
  rw [e, normed_at, h.scale, h.shift, funext fun k => summed_at h r k]
  rfl

/-- The rows a half leaves are the last two of its gate product. -/
theorem lastRows_at {S : Feed} {T : Fin 2} {x : Vec Ideal S1x1024x1024 .f32} {x2 : Vec Ideal S1x1024x2816 .bf16}
    (hx : ∀ r k : Fin 1024, x (ix3 0 r k) = S.x (row T r) k) (hw : ∀ k c, x2 (ix3 0 k c) = S.wg k c)
    (j : Fin 2) (c : Fin 2816) : lastRows x x2 (ix2 j c) = S.rows ⟨1024 * (T.val + 1) + j.val, by omega⟩ c := by
  have e : ∀ w : Vec Ideal S1x1024x256 .bf16, ∀ q, k0_pay9 x w (ix2 j q) = k0_pay6 x w (ix2 ⟨1022 + j.val, by omega⟩ q) := fun w q => by
    unfold k0_pay9
    generalize k0_pay6 x w = y
    pointwise
  show k0_pay9 x (View.ld x2 (rC (runOf c))) (ix2 j (laneOf c)) = _
  refine (e (View.ld x2 (rC (runOf c))) (laneOf c)).trans ?_
  rw [rows_at hx hw (runOf c) _ (laneOf c) ⟨1024 * (T.val + 1) + j.val, by omega⟩ (by simp only; omega)]
  exact congrArg (S.rows _) (Fin.ext (by show 256 * (c.val / 256) + c.val % 256 = c.val; omega))

/-- So is the state it leaves. -/
theorem lastState_at {S : Feed} {T : Fin 2} {x : Vec Ideal S1x1024x1024 .f32} {x2 : Vec Ideal S1x1024x2816 .bf16}
    (hx : ∀ r k : Fin 1024, x (ix3 0 r k) = S.x (row T r) k) (hw : ∀ k c, x2 (ix3 0 k c) = S.wg k c)
    (u : Fin 1) (j : Fin 2) (c : Fin 2816) : lastState x x2 (ix3 u j c) = S.rows ⟨1024 * (T.val + 1) + j.val, by omega⟩ c := by
  have e : ∀ w : Vec Ideal S1x1024x256 .bf16, ∀ q, k0_pay11 (k0_pay10 x w) (ix3 u j q) = k0_pay6 x w (ix2 ⟨1022 + j.val, by omega⟩ q) := fun w q => by
    unfold k0_pay11 k0_pay10
    generalize k0_pay6 x w = y
    pointwise
  show k0_pay11 (k0_pay10 x (View.ld x2 (rC (runOf c)))) (ix3 u j (laneOf c)) = _
  refine (e (View.ld x2 (rC (runOf c))) (laneOf c)).trans ?_
  rw [rows_at hx hw (runOf c) _ (laneOf c) ⟨1024 * (T.val + 1) + j.val, by omega⟩ (by simp only; omega)]
  exact congrArg (S.rows _) (Fin.ext (by show 256 * (c.val / 256) + c.val % 256 = c.val; omega))

end Cert.Kernel2Ideal.Feed

end
-- ==== Proof.FeedBlocks.lean ====
/-
  The buffers of a grid point of the feed-forward kernel: point `t` is half `t % 2` of sequence `t / 2`, its windows are
  that half's rows, the state before the sequence and the last layer's weights.
-/
module

public import proofs.«01_k».proof.Proof.FeedBlock
public import proofs.«01_k».proof.Proof.Gen.Kernel2Ideal.Value

@[expose] public section

set_option maxRecDepth 16384

noncomputable section

namespace Cert.Kernel2Ideal.Feed

open Cert.Kernel2Ideal Cert.Kernel2Ideal.Gen Cert.Feed Idealize.ShloMosaic Idealize.ShloMosaic.TcCoe Idealize.SL.Sem

/-- Where each window lies at a grid point. -/
theorem places : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = 3 ∧ win0_2.index t (1 : Fin 3) = 0 ∧ win0_2.index t (2 : Fin 3) = 0)
    ∧ (win0_3.index t (0 : Fin 3) = 3 ∧ win0_3.index t (1 : Fin 3) = 0 ∧ win0_3.index t (2 : Fin 3) = 0)
    ∧ (win0_4.index t (0 : Fin 3) = 3 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val / 2 ∧ win0_9.index t (1 : Fin 3) = t.val % 2 ∧ win0_9.index t (2 : Fin 3) = 0)
    ∧ (win0_10.index t (0 : Fin 3) = t.val / 2 ∧ win0_10.index t (1 : Fin 3) = 0 ∧ win0_10.index t (2 : Fin 3) = 0) :=
  (by decide +kernel : ∀ t : Fin grid0.N, _)

/-- The sequence a grid point works on. -/
def seqOf (t : Fin cfg0.N) : Fin 8 := ⟨t.val / 2, by have h : t.val < 16 := t.isLt; omega⟩

/-- The half of it. -/
def halfOf (t : Fin cfg0.N) : Fin 2 := ⟨t.val % 2, by omega⟩

variable (m : (ℓ : Loc nD τ sig) → Buf (Elt Ideal) ℓ) (c : Dev nD)

/-- The arrays launched on device `c`. -/
def given : Arrays where
  x := m ((c : Thread nD τ).loc main_arg0)
  h := m ((c : Thread nD τ).loc main_arg1)
  wg := m ((c : Thread nD τ).loc main_arg2)
  wu := m ((c : Thread nD τ).loc main_arg3)
  wd := m ((c : Thread nD τ).loc main_arg4)
  wc := m ((c : Thread nD τ).loc main_arg5)
  bc := m ((c : Thread nD τ).loc main_arg6)
  g := m ((c : Thread nD τ).loc main_arg7)
  b := m ((c : Thread nD τ).loc main_arg8)

/-- The rows' window. -/
theorem input_at (t : Fin cfg0.N) (r k : Fin 1024) :
    iblk m c 0 t (ix3 (0 : Fin 1) r k) = ((given m c).feed (seqOf t)).x (row (halfOf t) r) k := by
  obtain ⟨⟨e0, e1, e2⟩, -⟩ := places t
  refine Eq.trans ?_ (congrFun (V_main_arg0 m c) _)
  show V m c main_arg0 (((cfg0.win 0).blk t).view.emb (ix3 (0 : Fin 1) r k)) = _
  refine congrArg _ (funext fun a => Fin.ext ?_)
  match a with
  | ⟨0, _⟩ => show win0_0.index t (0 : Fin 3) * 1 + 1 * 0 = t.val / 2; omega
  | ⟨1, _⟩ => show win0_0.index t (1 : Fin 3) * 1024 + 1 * r.val = 1024 * (t.val % 2) + r.val; omega
  | ⟨2, _⟩ => show win0_0.index t (2 : Fin 3) * 1024 + 1 * k.val = k.val; omega

/-- The window of the state before. -/
theorem state_at_start (t : Fin cfg0.N) (j : Fin 2) (q : Fin 2816) :
    iblk m c 1 t (ix3 (0 : Fin 1) j q) = ((given m c).feed (seqOf t)).h j q := by
  obtain ⟨-, ⟨e0, e1, e2⟩, -⟩ := places t
  refine Eq.trans ?_ (congrFun (V_main_arg1 m c) _)
  show V m c main_arg1 (((cfg0.win 1).blk t).view.emb (ix3 (0 : Fin 1) j q)) = _
  refine congrArg _ (funext fun a => Fin.ext ?_)
  match a with
  | ⟨0, _⟩ => show win0_1.index t (0 : Fin 3) * 1 + 1 * 0 = t.val / 2; omega
  | ⟨1, _⟩ => show win0_1.index t (1 : Fin 3) * 2 + 1 * j.val = j.val; omega
  | ⟨2, _⟩ => show win0_1.index t (2 : Fin 3) * 2816 + 1 * q.val = q.val; omega

/-- The window of the gate weight. -/
theorem gate_at (t : Fin cfg0.N) (k : Fin 1024) (q : Fin 2816) :
    iblk m c 2 t (ix3 (0 : Fin 1) k q) = ((given m c).feed (seqOf t)).wg k q := by
  obtain ⟨-, -, ⟨e0, e1, e2⟩, -⟩ := places t
  have e : V m c main_v0 = m ((c : Thread nD τ).loc main_arg2) := by
    show StableHlo.after hostOps0 _ (Proc.devRef .tc main_v0) = _
    after_results
    rfl
  refine Eq.trans ?_ (congrFun e _)
  show V m c main_v0 (((cfg0.win 2).blk t).view.emb (ix3 (0 : Fin 1) k q)) = _
  refine congrArg _ (funext fun a => Fin.ext ?_)
  match a with
  | ⟨0, _⟩ => show win0_2.index t (0 : Fin 3) * 1 + 1 * 0 = 3; omega
  | ⟨1, _⟩ => show win0_2.index t (1 : Fin 3) * 1024 + 1 * k.val = k.val; omega
  | ⟨2, _⟩ => show win0_2.index t (2 : Fin 3) * 2816 + 1 * q.val = q.val; omega

/-- The window of the second weight. -/
theorem up_at (t : Fin cfg0.N) (k : Fin 1024) (q : Fin 2816) :
    iblk m c 3 t (ix3 (0 : Fin 1) k q) = ((given m c).feed (seqOf t)).wu k q := by
  obtain ⟨-, -, -, ⟨e0, e1, e2⟩, -⟩ := places t
  have e : V m c main_v1 = m ((c : Thread nD τ).loc main_arg3) := by
    show StableHlo.after hostOps0 _ (Proc.devRef .tc main_v1) = _
    after_results
    rfl
  refine Eq.trans ?_ (congrFun e _)
  show V m c main_v1 (((cfg0.win 3).blk t).view.emb (ix3 (0 : Fin 1) k q)) = _
  refine congrArg _ (funext fun a => Fin.ext ?_)
  match a with
  | ⟨0, _⟩ => show win0_3.index t (0 : Fin 3) * 1 + 1 * 0 = 3; omega
  | ⟨1, _⟩ => show win0_3.index t (1 : Fin 3) * 1024 + 1 * k.val = k.val; omega
  | ⟨2, _⟩ => show win0_3.index t (2 : Fin 3) * 2816 + 1 * q.val = q.val; omega

/-- The window of the weight back. -/
theorem down_at (t : Fin cfg0.N) (k : Fin 2816) (q : Fin 1024) :
    iblk m c 4 t (ix3 (0 : Fin 1) k q) = ((given m c).feed (seqOf t)).wd k q := by
  obtain ⟨-, -, -, -, ⟨e0, e1, e2⟩, -⟩ := places t
  have e : V m c main_v2 = m ((c : Thread nD τ).loc main_arg4) := by
    show StableHlo.after hostOps0 _ (Proc.devRef .tc main_v2) = _
    after_results
    rfl
  refine Eq.trans ?_ (congrFun e _)
  show V m c main_v2 (((cfg0.win 4).blk t).view.emb (ix3 (0 : Fin 1) k q)) = _
  refine congrArg _ (funext fun a => Fin.ext ?_)
  match a with
  | ⟨0, _⟩ => show win0_4.index t (0 : Fin 3) * 1 + 1 * 0 = 3; omega
  | ⟨1, _⟩ => show win0_4.index t (1 : Fin 3) * 2816 + 1 * k.val = k.val; omega
  | ⟨2, _⟩ => show win0_4.index t (2 : Fin 3) * 1024 + 1 * q.val = q.val; omega

/-- The window of the taps. -/
theorem taps_at (t : Fin cfg0.N) (j : Fin 3) (q : Fin 2816) :
    iblk m c 5 t (ix2 j q) = ((given m c).feed (seqOf t)).wc j q := by
  obtain ⟨-, -, -, -, -, ⟨e0, e1⟩, -⟩ := places t
  have e : V m c main_v4 = shapeCast S3x2816 (extractStridedSlice S1x3x2816 ![3, 0, 0] (m ((c : Thread nD τ).loc main_arg5))
      slices_S4x3x2816_S1x3x2816_3_0_0) shapeCasts_S1x3x2816_S3x2816 := by
    show StableHlo.after hostOps0 _ (Proc.devRef .tc main_v4) = _
    after_results
    rfl
  have e' : iblk m c 5 t (ix2 j q) = V m c main_v4 (ix2 j q) := by
    show V m c main_v4 (((cfg0.win 5).blk t).view.emb (ix2 j q)) = _
    refine congrArg _ (funext fun a => Fin.ext ?_)
    match a with
    | ⟨0, _⟩ => show win0_5.index t (0 : Fin 2) * 3 + 1 * j.val = j.val; omega
    | ⟨1, _⟩ => show win0_5.index t (1 : Fin 2) * 2816 + 1 * q.val = q.val; omega
  rw [e', e]
  pointwise
  exact congrArg (m ((c : Thread nD τ).loc main_arg5)) (by idx_ext)

/-- The window of the convolution's bias. -/
theorem bias_at (t : Fin cfg0.N) (q : Fin 2816) : iblk m c 6 t (ix2 (0 : Fin 1) q) = ((given m c).feed (seqOf t)).bc q := by
  obtain ⟨-, -, -, -, -, -, ⟨e0, e1⟩, -⟩ := places t
  have e : V m c main_v11 = broadcastInDim S1x2816 ![1] bcast_S2816_S1x2816_1 (shapeCast S2816 (extractStridedSlice S1x2816 ![3, 0]
      (m ((c : Thread nD τ).loc main_arg6)) slices_S4x2816_S1x2816_3_0) shapeCasts_S1x2816_S2816) := by
    show StableHlo.after hostOps0 _ (Proc.devRef .tc main_v11) = _
    after_results
    rfl
  have e' : iblk m c 6 t (ix2 (0 : Fin 1) q) = V m c main_v11 (ix2 (0 : Fin 1) q) := by
    show V m c main_v11 (((cfg0.win 6).blk t).view.emb (ix2 (0 : Fin 1) q)) = _
    refine congrArg _ (funext fun a => Fin.ext ?_)
    match a with
    | ⟨0, _⟩ => show win0_6.index t (0 : Fin 2) * 1 + 1 * 0 = 0; omega
    | ⟨1, _⟩ => show win0_6.index t (1 : Fin 2) * 2816 + 1 * q.val = q.val; omega
  rw [e', e]
  pointwise
  exact congrArg (m ((c : Thread nD τ).loc main_arg6)) (by idx_ext)

/-- The window of the norm's scale. -/
theorem scale_at (t : Fin cfg0.N) (q : Fin 1024) : iblk m c 7 t (ix2 (0 : Fin 1) q) = ((given m c).feed (seqOf t)).g q := by
  obtain ⟨-, -, -, -, -, -, -, ⟨e0, e1⟩, -⟩ := places t
  have e : V m c main_v12 = broadcastInDim S1x1024 ![1] bcast_S1024_S1x1024_1 (shapeCast S1024 (extractStridedSlice S1x1024 ![3, 0]
      (m ((c : Thread nD τ).loc main_arg7)) slices_S4x1024_S1x1024_3_0) shapeCasts_S1x1024_S1024) := by
    show StableHlo.after hostOps0 _ (Proc.devRef .tc main_v12) = _
    after_results
    rfl
  have e' : iblk m c 7 t (ix2 (0 : Fin 1) q) = V m c main_v12 (ix2 (0 : Fin 1) q) := by
    show V m c main_v12 (((cfg0.win 7).blk t).view.emb (ix2 (0 : Fin 1) q)) = _
    refine congrArg _ (funext fun a => Fin.ext ?_)
    match a with
    | ⟨0, _⟩ => show win0_7.index t (0 : Fin 2) * 1 + 1 * 0 = 0; omega
    | ⟨1, _⟩ => show win0_7.index t (1 : Fin 2) * 1024 + 1 * q.val = q.val; omega
  rw [e', e]
  pointwise
  exact congrArg (m ((c : Thread nD τ).loc main_arg7)) (by idx_ext)

/-- The window of the norm's shift. -/
theorem shift_at (t : Fin cfg0.N) (q : Fin 1024) : iblk m c 8 t (ix2 (0 : Fin 1) q) = ((given m c).feed (seqOf t)).b q := by
  obtain ⟨-, -, -, -, -, -, -, -, ⟨e0, e1⟩, -⟩ := places t
  have e : V m c main_v13 = broadcastInDim S1x1024 ![1] bcast_S1024_S1x1024_1 (shapeCast S1024 (extractStridedSlice S1x1024 ![3, 0]
      (m ((c : Thread nD τ).loc main_arg8)) slices_S4x1024_S1x1024_3_0) shapeCasts_S1x1024_S1024) := by
    show StableHlo.after hostOps0 _ (Proc.devRef .tc main_v13) = _
    after_results
    rfl
  have e' : iblk m c 8 t (ix2 (0 : Fin 1) q) = V m c main_v13 (ix2 (0 : Fin 1) q) := by
    show V m c main_v13 (((cfg0.win 8).blk t).view.emb (ix2 (0 : Fin 1) q)) = _
    refine congrArg _ (funext fun a => Fin.ext ?_)
    match a with
    | ⟨0, _⟩ => show win0_8.index t (0 : Fin 2) * 1 + 1 * 0 = 0; omega
    | ⟨1, _⟩ => show win0_8.index t (1 : Fin 2) * 1024 + 1 * q.val = q.val; omega
  rw [e', e]
  pointwise
  exact congrArg (m ((c : Thread nD τ).loc main_arg8)) (by idx_ext)

/-- A grid point's buffers hold its half of its sequence, once the rows before it are known. -/
theorem holds (t : Fin cfg0.N) (H : Vec Ideal S2x2816 .f32)
    (hH : ∀ (j : Fin 2) (q : Fin 2816), H (ix2 j q)
      = ((given m c).feed (seqOf t)).rows ⟨1024 * (halfOf t).val + j.val, by have := (halfOf t).isLt; omega⟩ q) :
    Holds ((given m c).feed (seqOf t)) (halfOf t) H (iblk m c 0 t) (iblk m c 2 t) (iblk m c 3 t) (iblk m c 4 t)
      (iblk m c 5 t) (iblk m c 6 t) (iblk m c 7 t) (iblk m c 8 t) where
  before := hH
  input := input_at m c t
  gate := gate_at m c t
  up := up_at m c t
  down := down_at m c t
  taps := taps_at m c t
  bias := bias_at m c t
  scale := scale_at m c t
  shift := shift_at m c t

/-- The rows left behind by an even point are those the next one needs. -/
theorem rows_carried (t : Fin cfg0.N) (h0 : t.val % 2 = 0) (j : Fin 2) (q : Fin 2816) :
    (outsAt0 m c t.val t.isLt).2.2 (ix2 j q) = ((given m c).feed (seqOf t)).rows ⟨1024 + j.val, by omega⟩ q := by
  rw [outsAt0_A m c t h0]
  dsimp only
  rw [rows_left]
  refine (lastRows_at (T := halfOf t) (input_at m c t) (gate_at m c t) j q).trans ?_
  exact congrArg (((given m c).feed (seqOf t)).rows · q) (Fin.ext (by show 1024 * (t.val % 2 + 1) + j.val = 1024 + j.val; omega))

/-- What a grid point leaves in the window of the result. -/
theorem block_at (t : Fin cfg0.N) (r o : Fin 1024) :
    (outsAt0 m c t.val t.isLt).1 (ix3 (0 : Fin 1) r o) = ((given m c).feed (seqOf t)).out (row (halfOf t) r) o := by
  by_cases h0 : t.val % 2 = 0
  · rw [outsAt0_A m c t h0]
    dsimp only
    rw [out_first]
    refine feed_at (holds m c t (k0_pay4 (iblk m c 1 t)) fun j q => ?_) 0 r o
    have e : ∀ y : Vec Ideal S1x2x2816 .f32, k0_pay4 y (ix2 j q) = y (ix3 0 j q) := fun y => by
      unfold k0_pay4
      pointwise
    rw [e, state_at_start, Feed.rows, dif_pos (by have hh : (halfOf t).val = 0 := h0; simp only; omega)]
    exact congrArg (((given m c).feed (seqOf t)).h · q) (Fin.ext (show j.val = 1024 * (t.val % 2) + j.val by omega))
  · have ht : t.val < 16 := t.isLt
    rw [outsAt0_B m c t h0]
    dsimp only
    rw [out_later]
    refine feed_at (holds m c t _ fun j q => ?_) 0 r o
    refine (rows_carried m c (⟨t.val - 1, by show t.val - 1 < 16; omega⟩ : Fin cfg0.N) (by simp only; omega) j q).trans ?_
    have es : seqOf (⟨t.val - 1, by show t.val - 1 < 16; omega⟩ : Fin cfg0.N) = seqOf t := Fin.ext (show (t.val - 1) / 2 = t.val / 2 by omega)
    rw [es]
    exact congrArg (((given m c).feed (seqOf t)).rows · q) (Fin.ext (by show 1024 + j.val = 1024 * (t.val % 2) + j.val; omega))

/-- What an odd point leaves in the window of the state. -/
theorem state_block_at (t : Fin cfg0.N) (h0 : ¬t.val % 2 = 0) (j : Fin 2) (q : Fin 2816) :
    (outsAt0 m c t.val t.isLt).2.1 (ix3 (0 : Fin 1) j q) = ((given m c).feed (seqOf t)).rows ⟨2048 + j.val, by omega⟩ q := by
  rw [outsAt0_B m c t h0]
  dsimp only
  rw [state_left]
  refine (lastState_at (T := halfOf t) (input_at m c t) (gate_at m c t) 0 j q).trans ?_
  exact congrArg (((given m c).feed (seqOf t)).rows · q) (Fin.ext (by show 1024 * (t.val % 2 + 1) + j.val = 2048 + j.val; omega))

/-- The result array after the run. -/
theorem out_array (b : Fin 8) (l : Fin 2048) (o : Fin 1024) :
    (dats m 0 c).arrAt 9 cfg0.N (ix3 b l o) = ((given m c).feed b).out l o := by
  let t : Fin cfg0.N := (⟨2 * b.val + l.val / 1024, by omega⟩ : Fin 16)
  have ht : t.val = 2 * b.val + l.val / 1024 := rfl
  let r : Fin 1024 := ⟨l.val % 1024, by omega⟩
  obtain ⟨-, -, -, -, -, -, -, -, -, ⟨e0, e1, e2⟩, -⟩ := places t
  have hb : seqOf t = b := Fin.ext (show t.val / 2 = b.val by omega)
  have he : ix3 b l o = ((cfg0.win 9).blk t).view.emb (ix3 (0 : Fin 1) r o) := by
    refine funext fun a => Fin.ext ?_
    match a with
    | ⟨0, _⟩ => show b.val = win0_9.index t (0 : Fin 3) * 1 + 1 * 0; omega
    | ⟨1, _⟩ => show l.val = win0_9.index t (1 : Fin 3) * 1024 + 1 * (l.val % 1024); omega
    | ⟨2, _⟩ => show o.val = win0_9.index t (2 : Fin 3) * 1024 + 1 * o.val; omega
  have hblk := congrFun (Value.blocks9 m c t (flush0_9 t)) (ix3 (0 : Fin 1) r o)
  rw [Value.flushed9] at hblk
  rw [he]
  refine hblk.trans ((block_at m c t r o).trans ?_)
  rw [hb]
  exact congrArg (((given m c).feed b).out · o) (Fin.ext (by show 1024 * (t.val % 2) + l.val % 1024 = l.val; omega))

/-- The state array after the run. -/
theorem state_array (b : Fin 8) (j : Fin 2) (q : Fin 2816) :
    (dats m 0 c).arrAt 10 cfg0.N (ix3 b j q) = ((given m c).feed b).rows ⟨2048 + j.val, by omega⟩ q := by
  let t : Fin cfg0.N := (⟨2 * b.val + 1, by omega⟩ : Fin 16)
  have ht : t.val = 2 * b.val + 1 := rfl
  obtain ⟨-, -, -, -, -, -, -, -, -, -, ⟨e0, e1, e2⟩⟩ := places t
  have hb : seqOf t = b := Fin.ext (show t.val / 2 = b.val by omega)
  have he : ix3 b j q = ((cfg0.win 10).blk t).view.emb (ix3 (0 : Fin 1) j q) := by
    refine funext fun a => Fin.ext ?_
    match a with
    | ⟨0, _⟩ => show b.val = win0_10.index t (0 : Fin 3) * 1 + 1 * 0; omega
    | ⟨1, _⟩ => show j.val = win0_10.index t (1 : Fin 3) * 2 + 1 * j.val; omega
    | ⟨2, _⟩ => show q.val = win0_10.index t (2 : Fin 3) * 2816 + 1 * q.val; omega
  have hblk := congrFun (Value.flushed10_eq m c t ((flush0_10 t).mpr (by omega))) (ix3 (0 : Fin 1) j q)
  rw [Value.flushed10] at hblk
  rw [Value.final10, he]
  refine hblk.symm.trans ((state_block_at m c t (by omega) j q).trans ?_)
  rw [hb]

end Cert.Kernel2Ideal.Feed

end
-- ==== Proof.FeedReference.lean ====
/-
  The reference of the feed-forward block: its stages, and that its results are the block's mathematics.
-/
module

public import proofs.«01_k».proof.Proof.FeedSpec
public import proofs.«01_k».proof.Proof.LastAxis
public import proofs.«01_k».proof.Proof.Gen.Reference2Ideal.Run

@[expose] public section

set_option maxRecDepth 16384

noncomputable section

namespace Cert.Reference2Ideal.FeedForward

open Cert.Reference2Ideal Cert.Reference2Ideal.Gen Cert.Feed Idealize.ShloMosaic Idealize.ShloMosaic.TcCoe Idealize.SL.Sem

/-- A row's product with the last layer's weight into the hidden lanes. -/
def product (x : FVec Ideal S8x2048x1024 .f32) (w : FVec Ideal S4x1024x2816 .f32) : FVec Ideal S8x2048x2816 .f32 :=
  Host.dotGeneral dot_S8x2048x1024_S1024x2816_S8x2048x2816_2_0_01_1_n_n none x (shapeCast _ (extractStridedSlice S1x1024x2816 ![3, 0, 0] w slices_S4x1024x2816_S1x1024x2816_3_0_0) shapeCasts_S1x1024x2816_S1024x2816)

/-- The gate product's rows, after the rows before them. -/
def rows (h : FVec Ideal S8x2x2816 .f32) (y : FVec Ideal S8x2048x2816 .f32) : FVec Ideal S8x2050x2816 .f32 :=
  concatenate S8x2050x2816 1 [⟨S8x2x2816, h⟩, ⟨S8x2048x2816, y⟩] concatenates_S8x2x2816_S8x2048x2816_S8x2050x2816_d1

/-- The last layer's taps. -/
def taps (w : FVec Ideal S4x3x2816 .f32) : FVec Ideal S3x2816 .f32 :=
  shapeCast _ (extractStridedSlice S1x3x2816 ![3, 0, 0] w slices_S4x3x2816_S1x3x2816_3_0_0) shapeCasts_S1x3x2816_S3x2816

/-- A tap's row, beside every row of every sequence. -/
def beside (w : FVec Ideal S1x2816 .f32) : FVec Ideal S8x2048x2816 .f32 :=
  broadcastInDim S8x2048x2816 ![0, 1, 2] bcast_S1x1x2816_S8x2048x2816_0_1_2 (broadcastInDim S1x1x2816 ![2] bcast_S2816_S1x1x2816_2 (shapeCast _ w shapeCasts_S1x2816_S2816))

/-- The convolution. -/
def conv (gp : FVec Ideal S8x2050x2816 .f32) (w : FVec Ideal S3x2816 .f32) (b : FVec Ideal S4x2816 .f32) : FVec Ideal S8x2048x2816 .f32 :=
  addf (addf (addf (addf (broadcastInDim S8x2048x2816 ![] bcast_S_S8x2048x2816 (constant S_ .f32 0x00000000#32))
    (mulf (extractStridedSlice S8x2048x2816 ![0, 0, 0] gp slices_S8x2050x2816_S8x2048x2816_0_0_0) (beside (extractStridedSlice S1x2816 ![0, 0] w slices_S3x2816_S1x2816_0_0))))
    (mulf (extractStridedSlice S8x2048x2816 ![0, 1, 0] gp slices_S8x2050x2816_S8x2048x2816_0_1_0) (beside (extractStridedSlice S1x2816 ![1, 0] w slices_S3x2816_S1x2816_1_0))))
    (mulf (extractStridedSlice S8x2048x2816 ![0, 2, 0] gp slices_S8x2050x2816_S8x2048x2816_0_2_0) (beside (extractStridedSlice S1x2816 ![2, 0] w slices_S3x2816_S1x2816_2_0))))
    (beside (extractStridedSlice S1x2816 ![3, 0] b slices_S4x2816_S1x2816_3_0))

/-- The exact GELU. -/
def gelu (v : FVec Ideal S8x2048x2816 .f32) : FVec Ideal S8x2048x2816 .f32 :=
  mulf (mulf (broadcastInDim S8x2048x2816 ![] bcast_S_S8x2048x2816 (constant S_ .f32 0x3F000000#32)) v)
    (Host.erfc (mulf (Host.negf v) (broadcastInDim S8x2048x2816 ![] bcast_S_S8x2048x2816 (constant S_ .f32 0x3F3504F3#32))))

/-- The product back, added to the scaled input. -/
def summed (x : FVec Ideal S8x2048x1024 .f32) (v : FVec Ideal S8x2048x2816 .f32) (w : FVec Ideal S4x2816x1024 .f32) : FVec Ideal S8x2048x1024 .f32 :=
  addf (mulf (broadcastInDim S8x2048x1024 ![] bcast_S_S8x2048x1024 (constant S_ .f32 0x3FD744FD#32)) x)
    (Host.dotGeneral dot_S8x2048x2816_S2816x1024_S8x2048x1024_2_0_01_1_n_n none v (shapeCast _ (extractStridedSlice S1x2816x1024 ![3, 0, 0] w slices_S4x2816x1024_S1x2816x1024_3_0_0) shapeCasts_S1x2816x1024_S2816x1024))

/-- Every row's mean. -/
def mean (y : FVec Ideal S8x2048x1024 .f32) : FVec Ideal S8x2048x1 .f32 :=
  Host.divf (broadcastInDim S8x2048x1 ![0, 1] bcast_S8x2048_S8x2048x1_0_1 (Host.reduceAdd y (constant S_ .f32 0x00000000#32) reducesTo_S8x2048x1024_S8x2048_d2 h_S_))
    (broadcastInDim S8x2048x1 ![] bcast_S_S8x2048x1 (constant S_ .f32 0x44800000#32))

/-- A number for each row, along the row. -/
def along (y : FVec Ideal S8x2048x1 .f32) : FVec Ideal S8x2048x1024 .f32 :=
  broadcastInDim S8x2048x1024 ![0, 1, 2] bcast_S8x2048x1_S8x2048x1024_0_1_2 y

/-- Every row less its mean. -/
def centred (y : FVec Ideal S8x2048x1024 .f32) : FVec Ideal S8x2048x1024 .f32 := subf y (along (mean y))

/-- The last layer's row of the norm, beside every row. -/
def aside (g : FVec Ideal S4x1024 .f32) : FVec Ideal S8x2048x1024 .f32 :=
  broadcastInDim S8x2048x1024 ![0, 1, 2] bcast_S1x1x1024_S8x2048x1024_0_1_2 (broadcastInDim S1x1x1024 ![2] bcast_S1024_S1x1x1024_2 (shapeCast _ (extractStridedSlice S1x1024 ![3, 0] g slices_S4x1024_S1x1024_3_0) shapeCasts_S1x1024_S1024))

/-- The layer norm. -/
def normed (y : FVec Ideal S8x2048x1024 .f32) (g b : FVec Ideal S4x1024 .f32) : FVec Ideal S8x2048x1024 .f32 :=
  addf (mulf (mulf (centred y) (along (Host.rsqrt (addf (mean (mulf (centred y) (centred y)))
    (broadcastInDim S8x2048x1 ![] bcast_S_S8x2048x1 (constant S_ .f32 0x3727C5AC#32)))))) (aside g)) (aside b)

/-- The reference's first result. -/
def result (A : Arrays) : FVec Ideal S8x2048x1024 .f32 :=
  normed (summed A.x (mulf (gelu (conv (rows A.h (product A.x A.wg)) (taps A.wc) A.bc)) (product A.x A.wu)) A.wd) A.g A.b

/-- The reference's second result. -/
def state (A : Arrays) : FVec Ideal S8x2x2816 .f32 :=
  extractStridedSlice S8x2x2816 ![0, 2048, 0] (rows A.h (product A.x A.wg)) slices_S8x2050x2816_S8x2x2816_0_2048_0

/-- The arrays launched on device `c`. -/
def given (m : (ℓ : Loc nD τ sig) → Buf (Elt Ideal) ℓ) (c : Dev nD) : Arrays where
  x := m ((c.tc : Thread nD τ).loc main_arg0)
  h := m ((c.tc : Thread nD τ).loc main_arg1)
  wg := m ((c.tc : Thread nD τ).loc main_arg2)
  wu := m ((c.tc : Thread nD τ).loc main_arg3)
  wd := m ((c.tc : Thread nD τ).loc main_arg4)
  wc := m ((c.tc : Thread nD τ).loc main_arg5)
  bc := m ((c.tc : Thread nD τ).loc main_arg6)
  g := m ((c.tc : Thread nD τ).loc main_arg7)
  b := m ((c.tc : Thread nD τ).loc main_arg8)

/-- The reference's program computes its first result. -/
theorem res_eq (m : (ℓ : Loc nD τ sig) → Buf (Elt Ideal) ℓ) (c : Dev nD) : Value.res_main_v77 m c = result (given m c) := rfl

variable (A : Arrays) (n : Fin 8)

/-- The gate product, at an index. -/
theorem gate_at (l : Fin 2048) (c : Fin 2816) : product A.x A.wg (ix3 n l c) = (A.feed n).product (A.feed n).wg l c := by
  unfold product Feed.product
  pointwise
  refine Finset.sum_congr rfl fun k _ => congrArg₂ (· * ·) rfl (congrArg A.wg (by idx_ext))

/-- The second product, at an index. -/
theorem up_at (l : Fin 2048) (c : Fin 2816) : product A.x A.wu (ix3 n l c) = (A.feed n).product (A.feed n).wu l c := by
  unfold product Feed.product
  pointwise
  refine Finset.sum_congr rfl fun k _ => congrArg₂ (· * ·) rfl (congrArg A.wu (by idx_ext))

/-- The rows, at an index. -/
theorem rows_at (i : Fin 2050) (c : Fin 2816) : rows A.h (product A.x A.wg) (ix3 n i c) = (A.feed n).rows i c := by
  have e := gate_at A n
  generalize product A.x A.wg = y at e
  unfold rows Feed.rows
  pointwise
  by_cases h : i.val < 2
  · rw [dif_pos h, dif_pos h]
    rfl
  · rw [dif_neg h, dif_neg h]
    exact e _ c

/-- A tap. -/
theorem taps_at (j : Fin 3) (c : Fin 2816) : taps A.wc (ix2 j c) = (A.feed n).wc j c := by
  unfold taps
  pointwise
  exact congrArg A.wc (by idx_ext)

/-- The convolution, at an index. -/
theorem conv_at (l : Fin 2048) (c : Fin 2816) :
    conv (rows A.h (product A.x A.wg)) (taps A.wc) A.bc (ix3 n l c) = (A.feed n).conv l c := by
  have e := rows_at A n
  have et := taps_at A n
  generalize rows A.h (product A.x A.wg) = y at e
  generalize taps A.wc = w at et
  unfold conv beside Feed.conv
  pointwise
  refine congrArg₂ (· + ·) (congrArg₂ (· + ·) (congrArg₂ (· + ·) ?_ ?_) ?_) rfl
  · rw [e, et, mul_comm]
  · rw [e, et, mul_comm]
    exact congrArg (fun i => (A.feed n).wc 1 c * (A.feed n).rows i c) (Fin.ext (Nat.add_comm 1 l.val))
  · rw [e, et, mul_comm]
    exact congrArg (fun i => (A.feed n).wc 2 c * (A.feed n).rows i c) (Fin.ext (Nat.add_comm 2 l.val))

/-- The GELU, at an index: the complementary error function of the negative is one plus the error function. -/
theorem gelu_at (v : FVec Ideal S8x2048x2816 .f32) (l : Fin 2048) (c : Fin 2816) : gelu v (ix3 n l c) = Feed.gelu (v (ix3 n l c)) := by
  unfold gelu Feed.gelu
  pointwise
  rw [neg_mul, Ideal.erfc_neg]

/-- The sum, at an index. -/
theorem summed_at (l : Fin 2048) (o : Fin 1024) :
    summed A.x (mulf (gelu (conv (rows A.h (product A.x A.wg)) (taps A.wc) A.bc)) (product A.x A.wu)) A.wd (ix3 n l o)
      = (A.feed n).summed l o := by
  have eu := up_at A n
  have ec := conv_at A n
  generalize product A.x A.wu = u at eu
  generalize conv (rows A.h (product A.x A.wg)) (taps A.wc) A.bc = v at ec
  have eg := fun l c => (gelu_at n v l c).trans (congrArg Feed.gelu (ec l c))
  generalize gelu v = w at eg
  unfold summed Feed.summed Feed.hidden
  pointwise
  simp only [eg, eu]
  rfl

/-- A row's mean. -/
theorem mean_at (y : FVec Ideal S8x2048x1024 .f32) (l : Fin 2048) (u : Fin 1) :
    mean y (ix3 n l u) = Feed.mean fun k => y (ix3 n l k) := by
  unfold mean Feed.mean
  pointwise

/-- A row less its mean. -/
theorem centred_at (y : FVec Ideal S8x2048x1024 .f32) (l : Fin 2048) (o : Fin 1024) :
    centred y (ix3 n l o) = y (ix3 n l o) - Feed.mean fun k => y (ix3 n l k) := by
  rw [← mean_at n y l 0]
  unfold centred along
  generalize mean y = z
  pointwise

/-- A row's layer norm. -/
theorem normed_at (y : FVec Ideal S8x2048x1024 .f32) (l : Fin 2048) (o : Fin 1024) :
    normed y A.g A.b (ix3 n l o) = Feed.norm (fun k => y (ix3 n l k)) ((A.feed n).g o) ((A.feed n).b o) o := by
  have e := mean_at n (mulf (centred y) (centred y)) l 0
  have e' : ∀ k : Fin 1024, mulf (centred y) (centred y) (ix3 n l k) = _ := fun k => congrArg₂ (· * ·) (centred_at n y l k) (centred_at n y l k)
  rw [funext e'] at e
  unfold normed Feed.norm along aside
  rw [← e, ← centred_at n y l o]
  generalize centred y = z
  generalize mean (mulf z z) = z'
  pointwise
  rfl

/-- The reference's first result is the block's output. -/
theorem result_at (l : Fin 2048) (o : Fin 1024) : result A (ix3 n l o) = (A.feed n).out l o := by
  unfold result Feed.out
  rw [normed_at, funext fun k => summed_at A n l k]

/-- The reference's second result is the last two rows of the gate product. -/
theorem state_at (j : Fin 2) (c : Fin 2816) : state A (ix3 n j c) = (A.feed n).rows ⟨2048 + j.val, by omega⟩ c := by
  rw [← rows_at A n]
  unfold state
  generalize rows A.h (product A.x A.wg) = y
  pointwise

end Cert.Reference2Ideal.FeedForward

end
-- ==== Proof.FeedEqual.lean ====
/-
  The feed-forward kernel and its reference leave the same results.
-/
module

public import proofs.«01_k».proof.Proof.FeedBlocks
public import proofs.«01_k».proof.Proof.FeedReference
public import proofs.«01_k».proof.Defs

@[expose] public section

set_option maxRecDepth 16384

noncomputable section

namespace Cert.Kernel2Ideal.Feed

open Cert.Kernel2Ideal Cert.Kernel2Ideal.Gen Cert.Feed Idealize.ShloMosaic Idealize.ShloMosaic.TcCoe Idealize.SL.Sem

variable (m : (ℓ : Loc nD τ sig) → Buf (Elt Ideal) ℓ) (c : Dev nD)

/-- The kernel's result array is the reference's function of the arguments. -/
theorem out_eq : (dats m 0 c).arrAt 9 cfg0.N = Cert.Reference2Ideal.FeedForward.result (given m c) := by
  funext i
  have e : i = ix3 (i 0) (i 1) (i 2) := by idx_ext
  rw [e]
  exact (out_array m c (i 0) (i 1) (i 2)).trans (Cert.Reference2Ideal.FeedForward.result_at (given m c) (i 0) (i 1) (i 2)).symm

/-- So is its state array. -/
theorem state_eq : (dats m 0 c).arrAt 10 cfg0.N = Cert.Reference2Ideal.FeedForward.state (given m c) := by
  funext i
  have e : i = ix3 (i 0) (i 1) (i 2) := by idx_ext
  rw [e]
  exact (state_array m c (i 0) (i 1) (i 2)).trans (Cert.Reference2Ideal.FeedForward.state_at (given m c) (i 0) (i 1) (i 2)).symm

/-- The feed-forward kernel and its reference, run from the same arguments, leave the same results. -/
theorem algebraic : Cert.algebraic_Kernel2Ideal_Reference2Ideal := by
  intro m g m' g' _ hargs
  refine ⟨fun c => (dats m 0 c).arrAt 9 cfg0.N, fun c => (dats m 0 c).arrAt 10 cfg0.N, Value.run_blocks m g, ?_⟩
  refine (θ_run _ _ _).mono (fun r h c => ?_) (Cert.Reference2Ideal.Value.run (F := Ideal) m' g')
  obtain ⟨h1, h2, h3⟩ := h c
  obtain ⟨e0, e1, e2, e3, e4, e5, e6, e7, e8⟩ := hargs c
  have ea : Cert.Reference2Ideal.FeedForward.given m' c = given m c := by
    unfold Cert.Reference2Ideal.FeedForward.given given
    rw [e0, e1, e2, e3, e4, e5, e6, e7, e8]
  refine ⟨h1.trans ?_, h2.trans ?_, h3⟩
  · refine (Cert.Reference2Ideal.FeedForward.res_eq m' c).trans ?_
    rw [ea]
    exact (out_eq m c).symm
  · refine Eq.trans (b := Cert.Reference2Ideal.FeedForward.state (Cert.Reference2Ideal.FeedForward.given m' c)) rfl ?_
    rw [ea]
    exact (state_eq m c).symm

end Cert.Kernel2Ideal.Feed

end
-- ==== Proof.Project.lean ====
/-
  The input projections' mathematics for one row: the product with the weight, and the rotary embedding of a head's first
  sixteen lanes, which the kernel writes over two heads at once with three tables and two rotations of the lanes.
-/
module

public import Idealize.ShloMosaic.PureOps.Ideal.Laws
public import Idealize.ShloMosaic.Lib.Pointwise
public import proofs.«01_k».proof.Proof.FeedSpec
public import proofs.«01_k».proof.Proof.Gen.Kernel3Ideal
public import proofs.«01_k».proof.Proof.Gen.Reference3Ideal

@[expose] public section

set_option maxRecDepth 16384

noncomputable section

namespace Cert.Project

open Cert.Feed Idealize.ShloMosaic

/-- A row's sequence. -/
abbrev seqOf (R : Fin 16384) : Fin 8 := ⟨R.val / 2048, by omega⟩

/-- A row's position in its sequence. -/
abbrev posOf (R : Fin 16384) : Fin 2048 := ⟨R.val % 2048, by omega⟩

/-- A whole number among the extended reals, as a program converts a word to it. -/
def whole (n : Nat) : EReal := FloatOps.sitofp (F := Ideal) .f32 (BitVec.ofNat 32 n)

/-- The angle that lane `j` of a head turns by at position `l`. -/
def angle (l : Fin 2048) (j : Fin 8) : EReal :=
  whole l.val * Ideal.pow (lit 0x48F42400#32) (Ideal.div (-whole j.val * lit 0x40000000#32) (lit 0x41800000#32))

/-- A head turned by the angles of a position: lanes `d` and `d + 8`, for `d < 8`, turn together, and the lanes from the sixteenth
    on stay. -/
def turned (z : Fin 64 → EReal) (l : Fin 2048) (d : Fin 64) : EReal :=
  if h : d.val < 8 then z d * Ideal.cos (angle l ⟨d.val, h⟩) - z ⟨d.val + 8, by omega⟩ * Ideal.sin (angle l ⟨d.val, h⟩)
  else if h' : d.val < 16 then
    z d * Ideal.cos (angle l ⟨d.val - 8, by omega⟩) + z ⟨d.val - 8, by omega⟩ * Ideal.sin (angle l ⟨d.val - 8, by omega⟩)
  else z d

/-- The table of cosines. -/
def tableC (l : Fin 2048) (d : Fin 64) : EReal :=
  if h : d.val < 8 then Ideal.cos (angle l ⟨d.val, h⟩)
  else if h' : d.val < 16 then Ideal.cos (angle l ⟨d.val - 8, by omega⟩) else 1

/-- The table of sines for the lanes that take from eight lanes on. -/
def tableA (l : Fin 2048) (d : Fin 64) : EReal := if h : d.val < 8 then -Ideal.sin (angle l ⟨d.val, h⟩) else 0

/-- The table of sines for the lanes that take from eight lanes before. -/
def tableB (l : Fin 2048) (d : Fin 64) : EReal :=
  if h : d.val < 8 then 0 else if h' : d.val < 16 then Ideal.sin (angle l ⟨d.val - 8, by omega⟩) else 0

/-- The place of a lane in its head. -/
abbrev inHead (p : Fin 128) : Fin 64 := ⟨p.val % 64, by omega⟩

/-- Two heads side by side, turned by tables: the same as each head turned. -/
theorem turned_pair (z : Fin 128 → EReal) (l : Fin 2048) (p : Fin 128) :
    z p * tableC l (inHead p) + z ⟨(p.val + 8) % 128, by omega⟩ * tableA l (inHead p)
        + z ⟨(p.val + 120) % 128, by omega⟩ * tableB l (inHead p)
      = turned (fun d => z ⟨64 * (p.val / 64) + d.val, by omega⟩) l (inHead p) := by
  have e : (⟨64 * (p.val / 64) + p.val % 64, by omega⟩ : Fin 128) = p := Fin.ext (by simp only; omega)
  unfold tableC tableA tableB turned
  dsimp only
  rw [e]
  by_cases h : p.val % 64 < 8
  · simp only [dif_pos h, mul_zero, add_zero]
    have e' : (⟨(p.val + 8) % 128, by omega⟩ : Fin 128) = ⟨64 * (p.val / 64) + (p.val % 64 + 8), by omega⟩ := Fin.ext (by simp only; omega)
    rw [e', mul_neg, sub_eq_add_neg]
  · by_cases h' : p.val % 64 < 16
    · simp only [dif_neg h, dif_pos h', mul_zero, add_zero]
      have e' : (⟨(p.val + 120) % 128, by omega⟩ : Fin 128) = ⟨64 * (p.val / 64) + (p.val % 64 - 8), by omega⟩ := Fin.ext (by simp only; omega)
      rw [e']
    · simp only [dif_neg h, dif_neg h', mul_zero, add_zero, mul_one]

/-- A row's product with a weight. -/
def product {W : Nat} (x : Fin 8 → Fin 2048 → Fin 1024 → EReal) (w : Fin 1024 → Fin W → EReal) (R : Fin 16384) (c : Fin W) : EReal :=
  ∑ k, x (seqOf R) (posOf R) k * w k c

/-- A row's queries or keys: the heads that begin at lane `o` of the product, turned by the row's position. -/
def heads {W : Nat} (x : Fin 8 → Fin 2048 → Fin 1024 → EReal) (w : Fin 1024 → Fin W → EReal) (o n : Nat) (ho : o + 64 * n ≤ W)
    (R : Fin 16384) (c : Fin (64 * n)) : EReal :=
  turned (fun d => product x w R ⟨o + 64 * (c.val / 64) + d.val, by omega⟩) (posOf R) ⟨c.val % 64, by omega⟩

end Cert.Project

namespace Cert.Kernel3Ideal.Project

open Cert.Kernel3Ideal Cert.Kernel3Ideal.Gen Cert.Project Cert.Feed Idealize.ShloMosaic Idealize.ShloMosaic.TcCoe Idealize.SL.Sem

/-- The angles, as the host computes them. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

theorem angles_at (l : Fin 2048) (j : Fin 8) : angles (ix2 l j) = angle l j := by
  unfold angles angle
  pointwise
  rfl

/-- One head's lanes of a table, for two heads side by side. -/
def paired (y : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 y shapeCasts_S2048x64_S1x2048x1x64)) shapeCasts_S1x2048x2x64_S2048x128

theorem paired_at (y : FVec Ideal S2048x64 .f32) (l : Fin 2048) (p : Fin 128) : paired y (ix2 l p) = y (ix2 l (inHead p)) := by
  unfold paired
  pointwise

/-- The host's table of cosines. -/
def cosines : FVec Ideal S2048x64 .f32 :=
  concatenate S2048x64 1 [⟨S2048x8, Host.cos angles⟩, ⟨S2048x8, Host.cos angles⟩, ⟨S2048x48, broadcastInDim S2048x48 ![] bcast_S_S2048x48 (constant S_ .f32 0x3F800000#32)⟩]
    concatenates_S2048x8_S2048x8_S2048x48_S2048x64_d1

theorem cosines_at (l : Fin 2048) (d : Fin 64) : cosines (ix2 l d) = tableC l d := by
  have e := angles_at
  unfold cosines tableC
  generalize angles = y at e
  pointwise
  simp only [e]
  by_cases h : d.val < 8
  · rw [dif_pos h, dif_pos h]
  · rw [dif_neg h, dif_neg h]
    by_cases h' : d.val - 8 < 8
    · rw [dif_pos h', dif_pos (by omega)]
    · rw [dif_neg h', dif_neg (by omega)]

/-- The host's table of negative sines. -/
def negativeSines : FVec Ideal S2048x64 .f32 :=
  concatenate S2048x64 1 [⟨S2048x8, Host.negf (Host.sin angles)⟩, ⟨S2048x8, broadcastInDim S2048x8 ![] bcast_S_S2048x8 (constant S_ .f32 0x00000000#32)⟩, ⟨S2048x48, broadcastInDim S2048x48 ![] bcast_S_S2048x48 (constant S_ .f32 0x00000000#32)⟩]
    concatenates_S2048x8_S2048x8_S2048x48_S2048x64_d1

theorem negativeSines_at (l : Fin 2048) (d : Fin 64) : negativeSines (ix2 l d) = tableA l d := by
  have e := angles_at
  unfold negativeSines tableA
  generalize angles = y at e
  pointwise
  simp only [e, ite_self, dite_eq_ite]

/-- The host's table of sines. -/
def sines : FVec Ideal S2048x64 .f32 :=
  concatenate S2048x64 1 [⟨S2048x8, broadcastInDim S2048x8 ![] bcast_S_S2048x8 (constant S_ .f32 0x00000000#32)⟩, ⟨S2048x8, Host.sin angles⟩, ⟨S2048x48, broadcastInDim S2048x48 ![] bcast_S_S2048x48 (constant S_ .f32 0x00000000#32)⟩]
    concatenates_S2048x8_S2048x8_S2048x48_S2048x64_d1

theorem sines_at (l : Fin 2048) (d : Fin 64) : sines (ix2 l d) = tableB l d := by
  have e := angles_at
  unfold sines tableB
  generalize angles = y at e
  pointwise
  simp only [e]
  by_cases h : d.val < 8
  · rw [dif_pos h, dif_pos h]
  · rw [dif_neg h, dif_neg h]
    by_cases h' : d.val - 8 < 8
    · rw [dif_pos h', dif_pos (by omega)]
    · rw [dif_neg h', dif_neg (by omega)]

/-- Two heads side by side, turned by the tables, as the kernel writes it. -/
def rotated (z c a b : FVec Ideal S512x128 .f32) : FVec Ideal S512x128 .f32 :=
  addf (addf (mulf z c) (mulf (dynamicRotate 1 120#32 none z rotates_S512x128_d1) a)) (mulf (dynamicRotate 1 8#32 none z rotates_S512x128_d1) b)

theorem rotated_at (z c a b : FVec Ideal S512x128 .f32) (r : Fin 512) (p : Fin 128) :
    rotated z c a b (ix2 r p) = z (ix2 r p) * c (ix2 r p) + z (ix2 r ⟨(p.val + 8) % 128, by omega⟩) * a (ix2 r p)
      + z (ix2 r ⟨(p.val + 120) % 128, by omega⟩) * b (ix2 r p) := by
  have e : (⟨(p.val + 128 - 120) % 128, by omega⟩ : Fin 128) = ⟨(p.val + 8) % 128, by omega⟩ := Fin.ext (by simp only; omega)
  have e' : (⟨(p.val + 128 - 8) % 128, by omega⟩ : Fin 128) = ⟨(p.val + 120) % 128, by omega⟩ := Fin.ext (by simp only; omega)
  rw [← e, ← e']
  unfold rotated
  pointwise

/-- The tables beside the rows of a block turn each pair of heads. -/
theorem rotated_tables {z c a b : FVec Ideal S512x128 .f32} {l : Fin 2048} {r : Fin 512}
    (hc : ∀ p, c (ix2 r p) = tableC l (inHead p)) (ha : ∀ p, a (ix2 r p) = tableA l (inHead p))
    (hb : ∀ p, b (ix2 r p) = tableB l (inHead p)) (p : Fin 128) :
    rotated z c a b (ix2 r p) = turned (fun d => z (ix2 r ⟨64 * (p.val / 64) + d.val, by omega⟩)) l (inHead p) := by
  rw [rotated_at, hc, ha, hb]
  exact turned_pair (fun q => z (ix2 r q)) l p

/-- Two heads of the product, turned by the tables beside a row of a block. -/
theorem slab_at {W : Nat} {x : Fin 8 → Fin 2048 → Fin 1024 → EReal} {w : Fin 1024 → Fin W → EReal} {z c a b : FVec Ideal S512x128 .f32}
    {R : Fin 16384} {r : Fin 512} (o m n : Nat) (ho : o + 64 * m ≤ W) (hn : 128 * n + 128 ≤ 64 * m)
    (hc : ∀ p, c (ix2 r p) = tableC (posOf R) (inHead p)) (ha : ∀ p, a (ix2 r p) = tableA (posOf R) (inHead p))
    (hb : ∀ p, b (ix2 r p) = tableB (posOf R) (inHead p))
    (hz : ∀ p : Fin 128, z (ix2 r p) = product x w R ⟨o + 128 * n + p.val, by omega⟩) (p : Fin 128) (q : Fin (64 * m))
    (hq : q.val = 128 * n + p.val) :
    rotated z c a b (ix2 r p) = heads x w o m ho R q := by
  rw [rotated_tables hc ha hb]
  unfold heads
  have e : (⟨q.val % 64, by omega⟩ : Fin 64) = inHead p := Fin.ext (by simp only; omega)
  rw [e]
  refine congrArg (turned · (posOf R) (inHead p)) (funext fun d => ?_)
  rw [hz]
  exact congrArg (product x w R) (Fin.ext (by simp only; omega))

end Cert.Kernel3Ideal.Project

end
-- ==== Proof.ProjectBlock.lean ====
/-
  A block of the even layers' input projection, at an index: the queries and keys turned, the values and the gated lanes.
-/
module

public import proofs.«01_k».proof.Proof.Project
public import proofs.«01_k».proof.Proof.Gen.Kernel3Ideal.Value

@[expose] public section

set_option maxRecDepth 16384

noncomputable section

namespace Cert.Kernel3Ideal.Project

open Cert.Kernel3Ideal Cert.Kernel3Ideal.Gen Cert.Project Cert.Feed Idealize.ShloMosaic Idealize.ShloMosaic.TcCoe Idealize.SL.Sem

theorem zero2 : (![0, 0] : Fin 2 → Nat) = fun _ => 0 := by decide

/-- The lanes gated: a product times the logistic of another. -/
def gated (x : Fin 8 → Fin 2048 → Fin 1024 → EReal) (w : Fin 1024 → Fin 1792 → EReal) (R : Fin 16384) (c : Fin 512) : EReal :=
  product x w R ⟨768 + c.val, by omega⟩ * Ideal.logistic (product x w R ⟨1280 + c.val, by omega⟩)

/-- Row `r` of block `T`. -/
abbrev row (T : Fin 32) (r : Fin 512) : Fin 16384 := ⟨512 * T.val + r.val, by omega⟩

theorem pay6_at (x : Vec Ideal S512x1024 .f32) (w : Vec Ideal S1x1024x512 .bf16) (r q : Fin 512) :
    k0_pay6 x w (ix2 r q) = ∑ k : Fin 1024, x (ix2 r k) * w (ix3 0 k q) := by
  unfold k0_pay6 k0_pay2
  pointwise

theorem pay13_at (x : Vec Ideal S512x1024 .f32) (w : Vec Ideal S1x1024x256 .bf16) (r : Fin 512) (q : Fin 256) :
    k0_pay13 (k0_pay2 x) w (ix2 r q) = ∑ k : Fin 1024, x (ix2 r k) * w (ix3 0 k q) := by
  unfold k0_pay13 k0_pay2
  pointwise

theorem pay1_at (x : Vec Ideal S512x1024 .f32) (w w' : Vec Ideal S1x1024x512 .bf16) (r q : Fin 512) :
    k0_pay1 (k0_pay2 x) (k0_pay16 (k0_pay2 x) w) (k0_pay17 w') (constant S512x512 .f32 0x00000000#32) (ix2 r q)
      = (∑ k : Fin 1024, x (ix2 r k) * w (ix3 0 k q)) * Ideal.logistic (∑ k : Fin 1024, x (ix2 r k) * w' (ix3 0 k q)) := by
  unfold k0_pay1 k0_pay16 k0_pay17 k0_pay2
  pointwise

theorem pay3_eq (y : Vec Ideal S512x128 .f32) : k0_pay3 y = y := by
  funext i
  have e : i = ix2 (i 0) (i 1) := by idx_ext
  rw [e]
  unfold k0_pay3
  pointwise

theorem pay4_eq (y : Vec Ideal S512x128 .f32) : k0_pay4 y = y := pay3_eq y
theorem pay5_eq (y : Vec Ideal S512x128 .f32) : k0_pay5 y = y := pay3_eq y

theorem pay7_eq (x0 : Vec Ideal S512x1024 .f32) (c a b : Vec Ideal S512x128 .f32) (w : Vec Ideal S1x1024x512 .bf16) :
    k0_pay7 x0 c a b w = rotated (extractStridedSlice S512x128 ![0, 0] (k0_pay6 x0 w) slices_S512x512_o0_0_S512x128) c a b :=
  (rfl : _ = rotated _ (k0_pay3 c) (k0_pay4 a) (k0_pay5 b)).trans (by rw [pay3_eq, pay4_eq, pay5_eq])

theorem pay8_eq (x0 : Vec Ideal S512x1024 .f32) (c a b : Vec Ideal S512x128 .f32) (w : Vec Ideal S1x1024x512 .bf16) :
    k0_pay8 x0 c a b w = rotated (extractStridedSlice S512x128 ![0, 128] (k0_pay6 x0 w) slices_S512x512_o0_128_S512x128) c a b :=
  (rfl : _ = rotated _ (k0_pay3 c) (k0_pay4 a) (k0_pay5 b)).trans (by rw [pay3_eq, pay4_eq, pay5_eq])

theorem pay11_eq (x0 : Vec Ideal S512x1024 .f32) (c a b : Vec Ideal S512x128 .f32) (w : Vec Ideal S1x1024x512 .bf16) :
    k0_pay11 (k0_pay5 b) (k0_pay9 x0 w) (k0_pay10 x0 c a w) 8#32
      = rotated (extractStridedSlice S512x128 ![0, 256] (k0_pay6 x0 w) slices_S512x512_o0_256_S512x128) c a b :=
  (rfl : _ = rotated _ (k0_pay3 c) (k0_pay4 a) (k0_pay5 b)).trans (by rw [pay3_eq, pay4_eq, pay5_eq]; rfl)

theorem pay12_eq (x0 : Vec Ideal S512x1024 .f32) (c a b : Vec Ideal S512x128 .f32) (w : Vec Ideal S1x1024x512 .bf16) :
    k0_pay12 (k0_pay3 c) (k0_pay4 a) (k0_pay5 b) (k0_pay6 x0 w)
      = rotated (extractStridedSlice S512x128 ![0, 384] (k0_pay6 x0 w) slices_S512x512_o0_384_S512x128) c a b :=
  (rfl : _ = rotated _ (k0_pay3 c) (k0_pay4 a) (k0_pay5 b)).trans (by rw [pay3_eq, pay4_eq, pay5_eq])

theorem pay14_eq (x0 : Vec Ideal S512x1024 .f32) (c a b : Vec Ideal S512x128 .f32) (w : Vec Ideal S1x1024x256 .bf16) :
    k0_pay14 (k0_pay2 x0) (k0_pay3 c) (k0_pay4 a) (k0_pay5 b) w
      = rotated (extractStridedSlice S512x128 ![0, 0] (k0_pay13 (k0_pay2 x0) w) slices_S512x256_o0_0_S512x128) c a b :=
  (rfl : _ = rotated _ (k0_pay3 c) (k0_pay4 a) (k0_pay5 b)).trans (by rw [pay3_eq, pay4_eq, pay5_eq])

theorem ld_queries (w : Vec Ideal S1x1024x1792 .bf16) (k : Fin 1024) (q : Fin 512) :
    View.ld w r0_2 (ix3 0 k q) = w (ix3 0 k ⟨q.val, by omega⟩) :=
  congrArg w (funext fun a => Fin.ext (by
    match a with
    | ⟨0, _⟩ => rfl
    | ⟨1, _⟩ => show 0 + 1 * k.val = k.val; omega
    | ⟨2, _⟩ => show 0 + 1 * q.val = q.val; omega))

theorem ld_keys (w : Vec Ideal S1x1024x1792 .bf16) (k : Fin 1024) (q : Fin 256) :
    View.ld w r0_7 (ix3 0 k q) = w (ix3 0 k ⟨512 + q.val, by omega⟩) :=
  congrArg w (funext fun a => Fin.ext (by
    match a with
    | ⟨0, _⟩ => rfl
    | ⟨1, _⟩ => show 0 + 1 * k.val = k.val; omega
    | ⟨2, _⟩ => show 512 + 1 * q.val = 512 + q.val; omega))

theorem ld_gated (w : Vec Ideal S1x1024x1792 .bf16) (k : Fin 1024) (q : Fin 512) :
    View.ld w r0_8 (ix3 0 k q) = w (ix3 0 k ⟨768 + q.val, by omega⟩) :=
  congrArg w (funext fun a => Fin.ext (by
    match a with
    | ⟨0, _⟩ => rfl
    | ⟨1, _⟩ => show 0 + 1 * k.val = k.val; omega
    | ⟨2, _⟩ => show 768 + 1 * q.val = 768 + q.val; omega))

theorem ld_gate (w : Vec Ideal S1x1024x1792 .bf16) (k : Fin 1024) (q : Fin 512) :
    View.ld w r0_9 (ix3 0 k q) = w (ix3 0 k ⟨1280 + q.val, by omega⟩) :=
  congrArg w (funext fun a => Fin.ext (by
    match a with
    | ⟨0, _⟩ => rfl
    | ⟨1, _⟩ => show 0 + 1 * k.val = k.val; omega
    | ⟨2, _⟩ => show 1280 + 1 * q.val = 1280 + q.val; omega))

/-- The buffers of block `T`: its rows, the layer's weight and the tables at its rows' positions. -/
structure Holds (x : Fin 8 → Fin 2048 → Fin 1024 → EReal) (w : Fin 1024 → Fin 1792 → EReal) (T : Fin 32) (x0 : Vec Ideal S512x1024 .f32)
    (x1 : Vec Ideal S1x1024x1792 .bf16) (x2 x3 x4 : Vec Ideal S512x128 .f32) : Prop where
  input : ∀ r k, x0 (ix2 r k) = x (seqOf (row T r)) (posOf (row T r)) k
  weight : ∀ k c, x1 (ix3 0 k c) = w k c
  cosines : ∀ r p, x2 (ix2 r p) = tableC (posOf (row T r)) (inHead p)
  before : ∀ r p, x3 (ix2 r p) = tableA (posOf (row T r)) (inHead p)
  after : ∀ r p, x4 (ix2 r p) = tableB (posOf (row T r)) (inHead p)

variable {x : Fin 8 → Fin 2048 → Fin 1024 → EReal} {w : Fin 1024 → Fin 1792 → EReal} {T : Fin 32} {x0 : Vec Ideal S512x1024 .f32}
  {x1 : Vec Ideal S1x1024x1792 .bf16} {x2 x3 x4 : Vec Ideal S512x128 .f32} (h : Holds x w T x0 x1 x2 x3 x4)
include h

/-- The product's lanes of the queries. -/
theorem query_lanes (r q : Fin 512) : k0_pay6 x0 (View.ld x1 r0_2) (ix2 r q) = product x w (row T r) ⟨q.val, by omega⟩ := by
  refine (pay6_at x0 (View.ld x1 r0_2) r q).trans (Finset.sum_congr rfl fun k _ => ?_)
  rw [h.input, ld_queries, h.weight]

/-- The product's lanes of the keys and the values. -/
theorem key_lanes (r : Fin 512) (q : Fin 256) :
    k0_pay13 (k0_pay2 x0) (View.ld x1 r0_7) (ix2 r q) = product x w (row T r) ⟨512 + q.val, by omega⟩ := by
  refine (pay13_at x0 (View.ld x1 r0_7) r q).trans (Finset.sum_congr rfl fun k _ => ?_)
  rw [h.input, ld_keys, h.weight]

/-- The gated lanes of a block. -/
theorem gated_block (r q : Fin 512) : out0_8 x0 x1 x2 x3 x4 (ix2 r q) = gated x w (row T r) q := by
  unfold out0_8 k0_pay18
  rw [View.ld_unit_zero zero2, View.canon_unit_zero zero2]
  refine (pay1_at x0 (View.ld x1 r0_8) (View.ld x1 r0_9) r q).trans ?_
  unfold gated
  refine congrArg₂ (fun a b => a * Ideal.logistic b) (Finset.sum_congr rfl fun k _ => ?_) (Finset.sum_congr rfl fun k _ => ?_)
  · rw [h.input, ld_gated, h.weight]
  · rw [h.input, ld_gate, h.weight]

/-- The values of a block. -/
theorem value_block (r : Fin 512) (q : Fin 128) : out0_7 x0 x1 x2 x3 x4 (ix2 r q) = product x w (row T r) ⟨640 + q.val, by omega⟩ := by
  unfold out0_7 k0_pay18
  rw [View.ld_unit_zero zero2, View.canon_unit_zero zero2]
  have e := key_lanes h r ⟨128 + q.val, by omega⟩
  unfold k0_pay15
  generalize k0_pay13 (k0_pay2 x0) (View.ld x1 r0_7) = y at e
  pointwise
  refine Eq.trans (congrArg y (by idx_ext)) (e.trans (congrArg (product x w (row T r)) (Fin.ext (by simp only; omega))))

/-- The keys of a block. -/
theorem key_block (r : Fin 512) (q : Fin 128) : out0_6 x0 x1 x2 x3 x4 (ix2 r q) = heads x w 512 2 (by omega) (row T r) q := by
  have e := key_lanes h r
  unfold out0_6 k0_pay18 k0_pay19 k0_pay20 k0_pay21
  rw [View.ld_unit_zero zero2, View.ld_unit_zero zero2, View.ld_unit_zero zero2, View.ld_unit_zero zero2, View.canon_unit_zero zero2,
    pay14_eq]
  refine slab_at 512 2 0 (by omega) (by omega) (h.cosines r) (h.before r) (h.after r) (fun p => ?_) q q (by omega)
  generalize k0_pay13 (k0_pay2 x0) (View.ld x1 r0_7) = y at e
  exact Eq.trans (b := y (ix2 r ⟨p.val, by omega⟩)) (by pointwise) (e _)

/-- Two heads of a block's queries: their lanes of the product, turned. -/
theorem query_strip (n : Nat) (hn : n < 4) {z : FVec Ideal S512x128 .f32}
    (hz : ∀ r p, z (ix2 r p) = k0_pay6 x0 (View.ld x1 r0_2) (ix2 r ⟨128 * n + p.val, by omega⟩)) (i : S512x128.Idx) (j : S512x512.Idx)
    (h0 : (j 0).val = (i 0).val) (h1 : (j 1).val = 128 * n + (i 1).val) :
    rotated z x2 x3 x4 i = heads x w 0 8 (by omega) (row T (j 0)) (j 1) := by
  have ei : i = ix2 (i 0) (i 1) := by idx_ext
  have e0 : j 0 = i 0 := Fin.ext h0
  rw [ei, e0]
  refine slab_at 0 8 n (by omega) (by omega) (h.cosines _) (h.before _) (h.after _) (fun p => ?_) (i 1) (j 1) h1
  refine (hz (i 0) p).trans ((query_lanes h (i 0) _).trans ?_)
  exact congrArg (product x w _) (Fin.ext (by simp only; omega))

/-- The queries of a block. -/
theorem query_block (r q : Fin 512) : out0_5 x0 x1 x2 x3 x4 (ix2 r q) = heads x w 0 8 (by omega) (row T r) q := by
  unfold out0_5 k0_pay19 k0_pay20 k0_pay21
  rw [View.ld_unit_zero zero2, View.ld_unit_zero zero2, View.ld_unit_zero zero2, View.ld_unit_zero zero2, pay7_eq, pay8_eq, pay11_eq, pay12_eq]
  have s := @query_strip x w T x0 x1 x2 x3 x4 h
  generalize k0_pay6 x0 (View.ld x1 r0_2) = y at s
  refine View.canon_apply_of_pieces (Val := Elt Ideal) (e := .f32) (fun j : S512x512.Idx => heads x w 0 8 (by omega) (row T (j 0)) (j 1)) _ ?_ (ix2 r q)
    (cover0_5 _ _ _ _ _)
  intro pc hpc
  simp only [List.mem_cons, List.not_mem_nil, or_false] at hpc
  rcases hpc with rfl | rfl | rfl | rfl
  · exact fun i => s 3 (by omega) (fun r p => by pointwise) i _ (by show 0 + 1 * _ = _; omega) (by show 384 + 1 * _ = _; omega)
  · exact fun i => s 2 (by omega) (fun r p => by pointwise) i _ (by show 0 + 1 * _ = _; omega) (by show 256 + 1 * _ = _; omega)
  · exact fun i => s 1 (by omega) (fun r p => by pointwise) i _ (by show 0 + 1 * _ = _; omega) (by show 128 + 1 * _ = _; omega)
  · exact fun i => s 0 (by omega) (fun r p => by pointwise) i _ (by show 0 + 1 * _ = _; omega) (by show 0 + 1 * _ = _; omega)

end Cert.Kernel3Ideal.Project

end
-- ==== Proof.ProjectBlocks.lean ====
/-
  The buffers of a grid point of the even layers' input projection, and the arrays the call leaves: point `t` projects rows
  512·t to 512·t + 511 of the sequences one after another.
-/
module

public import proofs.«01_k».proof.Proof.ProjectBlock

@[expose] public section

set_option maxRecDepth 16384

noncomputable section

namespace Cert.Kernel3Ideal.Project

open Cert.Kernel3Ideal Cert.Kernel3Ideal.Gen Cert.Project Cert.Feed Idealize.ShloMosaic Idealize.ShloMosaic.TcCoe Idealize.SL.Sem

/-- Where each window lies at a grid point. -/
theorem places : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = t.val % 4 ∧ win0_2.index t (1 : Fin 2) = 0)
    ∧ (win0_3.index t (0 : Fin 2) = t.val % 4 ∧ win0_3.index t (1 : Fin 2) = 0)
    ∧ (win0_4.index t (0 : Fin 2) = t.val % 4 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (m : (ℓ : Loc nD τ sig) → Buf (Elt Ideal) ℓ) (c : Dev nD)

/-- The rows launched on device `c`. -/
def rows : FVec Ideal S8x2048x1024 .f32 := m ((c : Thread nD τ).loc main_arg0)

/-- The weights launched on device `c`. -/
def weights : FVec Ideal S2x1024x1792 .f32 := m ((c : Thread nD τ).loc main_arg1)

/-- The rows, by sequence, position and lane. -/
def xs : Fin 8 → Fin 2048 → Fin 1024 → EReal := fun b l k => rows m c (ix3 b l k)

/-- The first even layer's weight. -/
def ws : Fin 1024 → Fin 1792 → EReal := fun k q => weights m c (ix3 0 k q)

/-- The window of the rows. -/
theorem input_at (t : Fin cfg0.N) (r : Fin 512) (k : Fin 1024) : iblk m c 0 t (ix2 r k) = xs m c (seqOf (row t r)) (posOf (row t r)) k := by
  obtain ⟨⟨e0, e1⟩, -⟩ := places t
  have e : V m c main_v0 = shapeCast S16384x1024 (rows m c) shapeCasts_S8x2048x1024_S16384x1024 := by
    show StableHlo.after hostOps0 _ (Proc.devRef .tc main_v0) = _
    after_results
    rfl
  have e' : iblk m c 0 t (ix2 r k) = V m c main_v0 (ix2 (row t r) k) := by
    show V m c main_v0 (((cfg0.win 0).blk t).view.emb (ix2 r k)) = _
    refine congrArg _ (funext fun a => Fin.ext ?_)
    match a with
    | ⟨0, _⟩ => show win0_0.index t (0 : Fin 2) * 512 + 1 * r.val = 512 * t.val + r.val; omega
    | ⟨1, _⟩ => show win0_0.index t (1 : Fin 2) * 1024 + 1 * k.val = k.val; omega
  rw [e', e]
  unfold xs
  generalize rows m c = y
  pointwise

/-- The window of the weight. -/
theorem weight_at (t : Fin cfg0.N) (k : Fin 1024) (q : Fin 1792) : iblk m c 1 t (ix3 0 k q) = ws m c k q := by
  obtain ⟨-, ⟨e0, e1, e2⟩, -⟩ := places t
  have e : V m c main_v1 = weights m c := by
    show StableHlo.after hostOps0 _ (Proc.devRef .tc main_v1) = _
    after_results
    rfl
  refine Eq.trans ?_ (congrFun e _)
  show V m c main_v1 (((cfg0.win 1).blk t).view.emb (ix3 (0 : Fin 1) k q)) = _
  refine congrArg _ (funext fun a => Fin.ext ?_)
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1792 + 1 * q.val = q.val; omega

/-- The window of the cosines. -/
theorem cosines_window (t : Fin cfg0.N) (r : Fin 512) (p : Fin 128) : iblk m c 2 t (ix2 r p) = tableC (posOf (row t r)) (inHead p) := by
  obtain ⟨-, -, ⟨e0, e1⟩, -⟩ := places t
  have e : V m c main_v28 = paired cosines := by
    show StableHlo.after hostOps0 _ (Proc.devRef .tc main_v28) = _
    after_results
    rfl
  have e' : iblk m c 2 t (ix2 r p) = V m c main_v28 (ix2 (posOf (row t r)) p) := by
    show V m c main_v28 (((cfg0.win 2).blk t).view.emb (ix2 r p)) = _
    refine congrArg _ (funext fun a => Fin.ext ?_)
    match a with
    | ⟨0, _⟩ => show win0_2.index t (0 : Fin 2) * 512 + 1 * r.val = (512 * t.val + r.val) % 2048; omega
    | ⟨1, _⟩ => show win0_2.index t (1 : Fin 2) * 128 + 1 * p.val = p.val; omega
  rw [e', e, paired_at, cosines_at]

/-- The window of the negative sines. -/
theorem before_window (t : Fin cfg0.N) (r : Fin 512) (p : Fin 128) : iblk m c 3 t (ix2 r p) = tableA (posOf (row t r)) (inHead p) := by
  obtain ⟨-, -, -, ⟨e0, e1⟩, -⟩ := places t
  have e : V m c main_v31 = paired negativeSines := by
    show StableHlo.after hostOps0 _ (Proc.devRef .tc main_v31) = _
    after_results
    rfl
  have e' : iblk m c 3 t (ix2 r p) = V m c main_v31 (ix2 (posOf (row t r)) p) := by
    show V m c main_v31 (((cfg0.win 3).blk t).view.emb (ix2 r p)) = _
    refine congrArg _ (funext fun a => Fin.ext ?_)
    match a with
    | ⟨0, _⟩ => show win0_3.index t (0 : Fin 2) * 512 + 1 * r.val = (512 * t.val + r.val) % 2048; omega
    | ⟨1, _⟩ => show win0_3.index t (1 : Fin 2) * 128 + 1 * p.val = p.val; omega
  rw [e', e, paired_at, negativeSines_at]

/-- The window of the sines. -/
theorem after_window (t : Fin cfg0.N) (r : Fin 512) (p : Fin 128) : iblk m c 4 t (ix2 r p) = tableB (posOf (row t r)) (inHead p) := by
  obtain ⟨-, -, -, -, ⟨e0, e1⟩, -⟩ := places t
  have e : V m c main_v34 = paired sines := by
    show StableHlo.after hostOps0 _ (Proc.devRef .tc main_v34) = _
    after_results
    rfl
  have e' : iblk m c 4 t (ix2 r p) = V m c main_v34 (ix2 (posOf (row t r)) p) := by
    show V m c main_v34 (((cfg0.win 4).blk t).view.emb (ix2 r p)) = _
    refine congrArg _ (funext fun a => Fin.ext ?_)
    match a with
    | ⟨0, _⟩ => show win0_4.index t (0 : Fin 2) * 512 + 1 * r.val = (512 * t.val + r.val) % 2048; omega
    | ⟨1, _⟩ => show win0_4.index t (1 : Fin 2) * 128 + 1 * p.val = p.val; omega
  rw [e', e, paired_at, sines_at]

theorem holds (t : Fin cfg0.N) :
    Holds (xs m c) (ws m c) t (iblk m c 0 t) (iblk m c 1 t) (iblk m c 2 t) (iblk m c 3 t) (iblk m c 4 t) where
  input := input_at m c t
  weight := weight_at m c t
  cosines := cosines_window m c t
  before := before_window m c t
  after := after_window m c t

/-- The grid point that projects a row. -/
abbrev pointOf (R : Fin 16384) : Fin 32 := ⟨R.val / 512, by omega⟩

/-- The row's place in that point's block. -/
abbrev inBlock (R : Fin 16384) : Fin 512 := ⟨R.val % 512, by omega⟩

theorem row_point (R : Fin 16384) : row (pointOf R) (inBlock R) = R :=
  Fin.ext (by show 512 * (R.val / 512) + R.val % 512 = R.val; omega)

/-- The queries after the run. -/
theorem queries_array (R : Fin 16384) (q : Fin 512) :
    (dats m 0 c).arrAt 5 cfg0.N (ix2 R q) = heads (xs m c) (ws m c) 0 8 (by omega) R q := by
  let t : Fin cfg0.N := pointOf R
  have ht : t.val = R.val / 512 := rfl
  obtain ⟨-, -, -, -, -, ⟨e0, e1⟩, -⟩ := places t
  have he : ix2 R q = ((cfg0.win 5).blk t).view.emb (ix2 (inBlock R) q) := by
    refine funext fun a => Fin.ext ?_
    match a with
    | ⟨0, _⟩ => show R.val = win0_5.index t (0 : Fin 2) * 512 + 1 * (R.val % 512); omega
    | ⟨1, _⟩ => show q.val = win0_5.index t (1 : Fin 2) * 512 + 1 * q.val; omega
  have hblk := congrFun (Value.blocks5 m c t (flush0_5 t)) (ix2 (inBlock R) q)
  rw [Value.flushed5] at hblk
  rw [he]
  refine hblk.trans ((query_block (holds m c t) (inBlock R) q).trans ?_)
  rw [row_point]

/-- The keys after the run. -/
theorem keys_array (R : Fin 16384) (q : Fin 128) :
    (dats m 0 c).arrAt 6 cfg0.N (ix2 R q) = heads (xs m c) (ws m c) 512 2 (by omega) R q := by
  let t : Fin cfg0.N := pointOf R
  have ht : t.val = R.val / 512 := rfl
  obtain ⟨-, -, -, -, -, -, ⟨e0, e1⟩, -⟩ := places t
  have he : ix2 R q = ((cfg0.win 6).blk t).view.emb (ix2 (inBlock R) q) := by
    refine funext fun a => Fin.ext ?_
    match a with
    | ⟨0, _⟩ => show R.val = win0_6.index t (0 : Fin 2) * 512 + 1 * (R.val % 512); omega
    | ⟨1, _⟩ => show q.val = win0_6.index t (1 : Fin 2) * 128 + 1 * q.val; omega
  have hblk := congrFun (Value.blocks6 m c t (flush0_6 t)) (ix2 (inBlock R) q)
  rw [Value.flushed6] at hblk
  rw [he]
  refine hblk.trans ((key_block (holds m c t) (inBlock R) q).trans ?_)
  rw [row_point]

/-- The values after the run. -/
theorem values_array (R : Fin 16384) (q : Fin 128) :
    (dats m 0 c).arrAt 7 cfg0.N (ix2 R q) = product (xs m c) (ws m c) R ⟨640 + q.val, by omega⟩ := by
  let t : Fin cfg0.N := pointOf R
  have ht : t.val = R.val / 512 := rfl
  obtain ⟨-, -, -, -, -, -, -, ⟨e0, e1⟩, -⟩ := places t
  have he : ix2 R q = ((cfg0.win 7).blk t).view.emb (ix2 (inBlock R) q) := by
    refine funext fun a => Fin.ext ?_
    match a with
    | ⟨0, _⟩ => show R.val = win0_7.index t (0 : Fin 2) * 512 + 1 * (R.val % 512); omega
    | ⟨1, _⟩ => show q.val = win0_7.index t (1 : Fin 2) * 128 + 1 * q.val; omega
  have hblk := congrFun (Value.blocks7 m c t (flush0_7 t)) (ix2 (inBlock R) q)
  rw [Value.flushed7] at hblk
  rw [he]
  refine hblk.trans ((value_block (holds m c t) (inBlock R) q).trans ?_)
  rw [row_point]

/-- The gated lanes after the run. -/
theorem gated_array (R : Fin 16384) (q : Fin 512) : (dats m 0 c).arrAt 8 cfg0.N (ix2 R q) = gated (xs m c) (ws m c) R q := by
  let t : Fin cfg0.N := pointOf R
  have ht : t.val = R.val / 512 := rfl
  obtain ⟨-, -, -, -, -, -, -, -, ⟨e0, e1⟩⟩ := places t
  have he : ix2 R q = ((cfg0.win 8).blk t).view.emb (ix2 (inBlock R) q) := by
    refine funext fun a => Fin.ext ?_
    match a with
    | ⟨0, _⟩ => show R.val = win0_8.index t (0 : Fin 2) * 512 + 1 * (R.val % 512); omega
    | ⟨1, _⟩ => show q.val = win0_8.index t (1 : Fin 2) * 512 + 1 * q.val; omega
  have hblk := congrFun (Value.blocks8 m c t (flush0_8 t)) (ix2 (inBlock R) q)
  rw [Value.flushed8] at hblk
  rw [he]
  refine hblk.trans ((gated_block (holds m c t) (inBlock R) q).trans ?_)
  rw [row_point]

end Cert.Kernel3Ideal.Project

end
-- ==== Proof.ProjectTurn.lean ====
/-
  The references' rotary turn of every head, at an index.
-/
module

public import proofs.«01_k».proof.Proof.Project
public import proofs.«01_k».proof.Proof.Gen.Reference3Ideal.Run

@[expose] public section

set_option maxRecDepth 16384

noncomputable section

namespace Cert.Reference3Ideal.Project

open Cert.Reference3Ideal Cert.Reference3Ideal.Gen Cert.Project Cert.Feed Idealize.ShloMosaic Idealize.ShloMosaic.TcCoe Idealize.SL.Sem

/-- A head turned, with the sixteen lanes that turn looked at first. -/
theorem turned_front (z : Fin 64 → EReal) (l : Fin 2048) (d : Fin 64) :
    (if h : d.val < 16 then
      if h' : d.val < 8 then
        z d * Ideal.cos (angle l ⟨d.val, h'⟩) - z ⟨8 + d.val, by omega⟩ * Ideal.sin (angle l ⟨d.val, h'⟩)
      else
        z ⟨8 + (d.val - 8), by omega⟩ * Ideal.cos (angle l ⟨d.val - 8, by omega⟩)
          + z ⟨d.val - 8, by omega⟩ * Ideal.sin (angle l ⟨d.val - 8, by omega⟩)
    else z ⟨16 + (d.val - 16), by omega⟩) = turned z l d := by
  unfold turned
  by_cases h : d.val < 8
  · rw [dif_pos (by omega), dif_pos h, dif_pos h]
    have e : (⟨8 + d.val, by omega⟩ : Fin 64) = ⟨d.val + 8, by omega⟩ := Fin.ext (by simp only; omega)
    rw [e]
  · by_cases h' : d.val < 16
    · rw [dif_pos h', dif_neg h, dif_neg h, dif_pos h']
      have e : (⟨8 + (d.val - 8), by omega⟩ : Fin 64) = d := Fin.ext (by simp only; omega)
      rw [e]
    · rw [dif_neg h', dif_neg h, dif_neg h']
      exact congrArg z (Fin.ext (by simp only; omega))

/-- The angles, as the reference computes them. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

theorem angles_at (l : Fin 2048) (j : Fin 8) : angles (ix2 l j) = angle l j := Cert.Kernel3Ideal.Project.angles_at l j

/-- A number for each position and lane, for eight heads of every sequence. -/
def beside8 (y : FVec Ideal S2048x8 .f32) : FVec Ideal S8x2048x8x8 .f32 :=
  broadcastInDim S8x2048x8x8 ![0, 1, 2, 3] bcast_S1x2048x1x8_S8x2048x8x8_0_1_2_3 (broadcastInDim S1x2048x1x8 ![1, 3] bcast_S2048x8_S1x2048x1x8_1_3 y)

/-- The first sixteen lanes of eight heads. -/
def front8 (y : FVec Ideal S8x2048x8x64 .f32) : FVec Ideal S8x2048x8x16 .f32 :=
  extractStridedSlice S8x2048x8x16 ![0, 0, 0, 0] y slices_S8x2048x8x64_S8x2048x8x16_0_0_0_0

/-- Lanes 0 to 7. -/
def first8 (y : FVec Ideal S8x2048x8x64 .f32) : FVec Ideal S8x2048x8x8 .f32 :=
  extractStridedSlice S8x2048x8x8 ![0, 0, 0, 0] (front8 y) slices_S8x2048x8x16_S8x2048x8x8_0_0_0_0

/-- Lanes 8 to 15. -/
def second8 (y : FVec Ideal S8x2048x8x64 .f32) : FVec Ideal S8x2048x8x8 .f32 :=
  extractStridedSlice S8x2048x8x8 ![0, 0, 0, 8] (front8 y) slices_S8x2048x8x16_S8x2048x8x8_0_0_0_8

/-- Eight heads turned. -/
def turned8 (y : FVec Ideal S8x2048x8x64 .f32) : FVec Ideal S8x2048x8x64 .f32 :=
  concatenate S8x2048x8x64 3 [⟨S8x2048x8x16, concatenate S8x2048x8x16 3
      [⟨S8x2048x8x8, subf (mulf (first8 y) (beside8 (Host.cos angles))) (mulf (second8 y) (beside8 (Host.sin angles)))⟩,
        ⟨S8x2048x8x8, addf (mulf (second8 y) (beside8 (Host.cos angles))) (mulf (first8 y) (beside8 (Host.sin angles)))⟩]
      concatenates_S8x2048x8x8_S8x2048x8x8_S8x2048x8x16_d3⟩,
    ⟨S8x2048x8x48, extractStridedSlice S8x2048x8x48 ![0, 0, 0, 16] y slices_S8x2048x8x64_S8x2048x8x48_0_0_0_16⟩]
    concatenates_S8x2048x8x16_S8x2048x8x48_S8x2048x8x64_d3

theorem turned8_at (y : FVec Ideal S8x2048x8x64 .f32) (b : Fin 8) (l : Fin 2048) (h : Fin 8) (d : Fin 64) :
    turned8 y (ix4 b l h d) = turned (fun e => y (ix4 b l h e)) l d := by
  have e := angles_at
  unfold turned8 first8 second8 front8 beside8
  generalize angles = a at e
  pointwise
  simp only [e]
  exact turned_front (fun e => y (ix4 b l h e)) l d

/-- A number for each position and lane, for two heads of every sequence. -/
def beside2 (y : FVec Ideal S2048x8 .f32) : FVec Ideal S8x2048x2x8 .f32 :=
  broadcastInDim S8x2048x2x8 ![0, 1, 2, 3] bcast_S1x2048x1x8_S8x2048x2x8_0_1_2_3 (broadcastInDim S1x2048x1x8 ![1, 3] bcast_S2048x8_S1x2048x1x8_1_3 y)

/-- The first sixteen lanes of two heads. -/
def front2 (y : FVec Ideal S8x2048x2x64 .f32) : FVec Ideal S8x2048x2x16 .f32 :=
  extractStridedSlice S8x2048x2x16 ![0, 0, 0, 0] y slices_S8x2048x2x64_S8x2048x2x16_0_0_0_0

/-- Lanes 0 to 7. -/
def first2 (y : FVec Ideal S8x2048x2x64 .f32) : FVec Ideal S8x2048x2x8 .f32 :=
  extractStridedSlice S8x2048x2x8 ![0, 0, 0, 0] (front2 y) slices_S8x2048x2x16_S8x2048x2x8_0_0_0_0

/-- Lanes 8 to 15. -/
def second2 (y : FVec Ideal S8x2048x2x64 .f32) : FVec Ideal S8x2048x2x8 .f32 :=
  extractStridedSlice S8x2048x2x8 ![0, 0, 0, 8] (front2 y) slices_S8x2048x2x16_S8x2048x2x8_0_0_0_8

/-- Two heads turned. -/
def turned2 (y : FVec Ideal S8x2048x2x64 .f32) : FVec Ideal S8x2048x2x64 .f32 :=
  concatenate S8x2048x2x64 3 [⟨S8x2048x2x16, concatenate S8x2048x2x16 3
      [⟨S8x2048x2x8, subf (mulf (first2 y) (beside2 (Host.cos angles))) (mulf (second2 y) (beside2 (Host.sin angles)))⟩,
        ⟨S8x2048x2x8, addf (mulf (second2 y) (beside2 (Host.cos angles))) (mulf (first2 y) (beside2 (Host.sin angles)))⟩]
      concatenates_S8x2048x2x8_S8x2048x2x8_S8x2048x2x16_d3⟩,
    ⟨S8x2048x2x48, extractStridedSlice S8x2048x2x48 ![0, 0, 0, 16] y slices_S8x2048x2x64_S8x2048x2x48_0_0_0_16⟩]
    concatenates_S8x2048x2x16_S8x2048x2x48_S8x2048x2x64_d3

theorem turned2_at (y : FVec Ideal S8x2048x2x64 .f32) (b : Fin 8) (l : Fin 2048) (h : Fin 2) (d : Fin 64) :
    turned2 y (ix4 b l h d) = turned (fun e => y (ix4 b l h e)) l d := by
  have e := angles_at
  unfold turned2 first2 second2 front2 beside2
  generalize angles = a at e
  pointwise
  simp only [e]
  exact turned_front (fun e => y (ix4 b l h e)) l d

/-- Rows of eight heads, turned: each row's heads apart, turned, and side by side again, the sequences one after another. -/
def rows8 (y : FVec Ideal S8x2048x512 .f32) : FVec Ideal S16384x512 .f32 :=
  shapeCast S16384x512 (turned8 (shapeCast S8x2048x8x64 y shapeCasts_S8x2048x512_S8x2048x8x64)) shapeCasts_S8x2048x8x64_S16384x512

theorem rows8_at (y : FVec Ideal S8x2048x512 .f32) (R : Fin 16384) (q : Fin 512) :
    rows8 y (ix2 R q) = turned (fun d => y (ix3 (seqOf R) (posOf R) ⟨64 * (q.val / 64) + d.val, by omega⟩)) (posOf R) ⟨q.val % 64, by omega⟩ := by
  have e := turned8_at (shapeCast S8x2048x8x64 y shapeCasts_S8x2048x512_S8x2048x8x64) (seqOf R) (posOf R) ⟨q.val / 64, by omega⟩ ⟨q.val % 64, by omega⟩
  unfold rows8
  generalize turned8 (shapeCast S8x2048x8x64 y shapeCasts_S8x2048x512_S8x2048x8x64) = u at e
  refine Eq.trans (b := u (ix4 (seqOf R) (posOf R) ⟨q.val / 64, by omega⟩ ⟨q.val % 64, by omega⟩)) ?_ (e.trans ?_)
  · pointwise
  · refine congrArg (turned · _ _) (funext fun d => ?_)
    pointwise
    exact congrArg (fun k => y (ix3 (seqOf R) (posOf R) k)) (Fin.ext (by simp only; omega))

/-- Rows of two heads, turned. -/
def rows2 (y : FVec Ideal S8x2048x128 .f32) : FVec Ideal S16384x128 .f32 :=
  shapeCast S16384x128 (turned2 (shapeCast S8x2048x2x64 y shapeCasts_S8x2048x128_S8x2048x2x64)) shapeCasts_S8x2048x2x64_S16384x128

theorem rows2_at (y : FVec Ideal S8x2048x128 .f32) (R : Fin 16384) (q : Fin 128) :
    rows2 y (ix2 R q) = turned (fun d => y (ix3 (seqOf R) (posOf R) ⟨64 * (q.val / 64) + d.val, by omega⟩)) (posOf R) ⟨q.val % 64, by omega⟩ := by
  have e := turned2_at (shapeCast S8x2048x2x64 y shapeCasts_S8x2048x128_S8x2048x2x64) (seqOf R) (posOf R) ⟨q.val / 64, by omega⟩ ⟨q.val % 64, by omega⟩
  unfold rows2
  generalize turned2 (shapeCast S8x2048x2x64 y shapeCasts_S8x2048x128_S8x2048x2x64) = u at e
  refine Eq.trans (b := u (ix4 (seqOf R) (posOf R) ⟨q.val / 64, by omega⟩ ⟨q.val % 64, by omega⟩)) ?_ (e.trans ?_)
  · pointwise
  · refine congrArg (turned · _ _) (funext fun d => ?_)
    pointwise
    exact congrArg (fun k => y (ix3 (seqOf R) (posOf R) k)) (Fin.ext (by simp only; omega))

end Cert.Reference3Ideal.Project

end
-- ==== Proof.ProjectReference.lean ====
/-
  The reference of the even layers' input projection: its stages, and its results at an index.
-/
module

public import proofs.«01_k».proof.Proof.ProjectTurn

@[expose] public section

set_option maxRecDepth 16384

noncomputable section

namespace Cert.Reference3Ideal.Project

open Cert.Reference3Ideal Cert.Reference3Ideal.Gen Cert.Project Cert.Feed Idealize.ShloMosaic Idealize.ShloMosaic.TcCoe Idealize.SL.Sem

/-- The rows' product with the first even layer's weight. -/
def projected (x : FVec Ideal S8x2048x1024 .f32) (w : FVec Ideal S2x1024x1792 .f32) : FVec Ideal S8x2048x1792 .f32 :=
  Host.dotGeneral dot_S8x2048x1024_S1024x1792_S8x2048x1792_2_0_01_1_n_n none x
    (shapeCast S1024x1792 (extractStridedSlice S1x1024x1792 ![0, 0, 0] w slices_S2x1024x1792_S1x1024x1792_0_0_0) shapeCasts_S1x1024x1792_S1024x1792)

theorem projected_at (x : FVec Ideal S8x2048x1024 .f32) (w : FVec Ideal S2x1024x1792 .f32) (b : Fin 8) (l : Fin 2048) (q : Fin 1792) :
    projected x w (ix3 b l q) = ∑ k : Fin 1024, x (ix3 b l k) * w (ix3 0 k q) := by
  unfold projected
  pointwise

variable (x : FVec Ideal S8x2048x1024 .f32) (w : FVec Ideal S2x1024x1792 .f32)

/-- The arguments by their indices. -/
abbrev xs : Fin 8 → Fin 2048 → Fin 1024 → EReal := fun b l k => x (ix3 b l k)
abbrev ws : Fin 1024 → Fin 1792 → EReal := fun k q => w (ix3 0 k q)

theorem projected_row (R : Fin 16384) (q : Fin 1792) : projected x w (ix3 (seqOf R) (posOf R) q) = product (xs x) (ws w) R q :=
  projected_at x w (seqOf R) (posOf R) q

/-- The queries. -/
def queries : FVec Ideal S16384x512 .f32 :=
  rows8 (extractStridedSlice S8x2048x512 ![0, 0, 0] (projected x w) slices_S8x2048x1792_S8x2048x512_0_0_0)

/-- The keys. -/
def keys : FVec Ideal S16384x128 .f32 :=
  rows2 (extractStridedSlice S8x2048x128 ![0, 0, 512] (projected x w) slices_S8x2048x1792_S8x2048x128_0_0_512)

/-- The values. -/
def values : FVec Ideal S16384x128 .f32 :=
  shapeCast S16384x128 (extractStridedSlice S8x2048x128 ![0, 0, 640] (projected x w) slices_S8x2048x1792_S8x2048x128_0_0_640)
    shapeCasts_S8x2048x128_S16384x128

/-- The gated lanes. -/
def gatedRows : FVec Ideal S16384x512 .f32 :=
  shapeCast S16384x512 (mulf (extractStridedSlice S8x2048x512 ![0, 0, 768] (projected x w) slices_S8x2048x1792_S8x2048x512_0_0_768)
    (Host.divf (broadcastInDim S8x2048x512 ![] bcast_S_S8x2048x512 (constant S_ .f32 0x3F800000#32))
      (addf (broadcastInDim S8x2048x512 ![] bcast_S_S8x2048x512 (constant S_ .f32 0x3F800000#32))
        (Host.exp (Host.negf (extractStridedSlice S8x2048x512 ![0, 0, 1280] (projected x w) slices_S8x2048x1792_S8x2048x512_0_0_1280))))))
    shapeCasts_S8x2048x512_S16384x512

theorem queries_at (R : Fin 16384) (q : Fin 512) : queries x w (ix2 R q) = heads (xs x) (ws w) 0 8 (by omega) R q := by
  have e := projected_row x w R
  unfold queries
  generalize projected x w = y at e
  refine (rows8_at _ R q).trans (congrArg (turned · _ _) (funext fun d => ?_))
  refine Eq.trans (b := y (ix3 (seqOf R) (posOf R) ⟨64 * (q.val / 64) + d.val, by omega⟩)) (by pointwise) ((e _).trans ?_)
  exact congrArg (product (xs x) (ws w) R) (Fin.ext (by simp only; omega))

theorem keys_at (R : Fin 16384) (q : Fin 128) : keys x w (ix2 R q) = heads (xs x) (ws w) 512 2 (by omega) R q := by
  have e := projected_row x w R
  unfold keys
  generalize projected x w = y at e
  refine (rows2_at _ R q).trans (congrArg (turned · _ _) (funext fun d => ?_))
  refine Eq.trans (b := y (ix3 (seqOf R) (posOf R) ⟨512 + (64 * (q.val / 64) + d.val), by omega⟩)) (by pointwise) ((e _).trans ?_)
  exact congrArg (product (xs x) (ws w) R) (Fin.ext (by simp only; omega))

theorem values_at (R : Fin 16384) (q : Fin 128) : values x w (ix2 R q) = product (xs x) (ws w) R ⟨640 + q.val, by omega⟩ := by
  have e := projected_row x w R
  unfold values
  generalize projected x w = y at e
  exact Eq.trans (b := y (ix3 (seqOf R) (posOf R) ⟨640 + q.val, by omega⟩)) (by pointwise) (e _)

theorem gatedRows_at (R : Fin 16384) (q : Fin 512) :
    gatedRows x w (ix2 R q) = product (xs x) (ws w) R ⟨768 + q.val, by omega⟩ * Ideal.logistic (product (xs x) (ws w) R ⟨1280 + q.val, by omega⟩) := by
  rw [← projected_row, ← projected_row]
  unfold gatedRows
  generalize projected x w = y
  pointwise
  rfl

end Cert.Reference3Ideal.Project

end
-- ==== Proof.ProjectEqual.lean ====
/-
  The even layers' input projection and its reference leave the same results.
-/
module

public import proofs.«01_k».proof.Proof.ProjectBlocks
public import proofs.«01_k».proof.Proof.ProjectReference
public import proofs.«01_k».proof.Defs

@[expose] public section

set_option maxRecDepth 16384

noncomputable section

namespace Cert.Kernel3Ideal.Project

open Cert.Kernel3Ideal Cert.Kernel3Ideal.Gen Cert.Project Idealize.ShloMosaic Idealize.ShloMosaic.TcCoe Idealize.SL.Sem

variable (m : (ℓ : Loc nD τ sig) → Buf (Elt Ideal) ℓ) (c : Dev nD)

theorem queries_eq : (dats m 0 c).arrAt 5 cfg0.N = Cert.Reference3Ideal.Project.queries (rows m c) (weights m c) := by
  funext i
  have e : i = ix2 (i 0) (i 1) := by idx_ext
  rw [e]
  exact (queries_array m c (i 0) (i 1)).trans (Cert.Reference3Ideal.Project.queries_at (rows m c) (weights m c) (i 0) (i 1)).symm

theorem keys_eq : (dats m 0 c).arrAt 6 cfg0.N = Cert.Reference3Ideal.Project.keys (rows m c) (weights m c) := by
  funext i
  have e : i = ix2 (i 0) (i 1) := by idx_ext
  rw [e]
  exact (keys_array m c (i 0) (i 1)).trans (Cert.Reference3Ideal.Project.keys_at (rows m c) (weights m c) (i 0) (i 1)).symm

theorem values_eq : (dats m 0 c).arrAt 7 cfg0.N = Cert.Reference3Ideal.Project.values (rows m c) (weights m c) := by
  funext i
  have e : i = ix2 (i 0) (i 1) := by idx_ext
  rw [e]
  exact (values_array m c (i 0) (i 1)).trans (Cert.Reference3Ideal.Project.values_at (rows m c) (weights m c) (i 0) (i 1)).symm

theorem gated_eq : (dats m 0 c).arrAt 8 cfg0.N = Cert.Reference3Ideal.Project.gatedRows (rows m c) (weights m c) := by
  funext i
  have e : i = ix2 (i 0) (i 1) := by idx_ext
  rw [e]
  exact (gated_array m c (i 0) (i 1)).trans (Cert.Reference3Ideal.Project.gatedRows_at (rows m c) (weights m c) (i 0) (i 1)).symm

/-- The input projection and its reference, run from the same arguments, leave the same results. -/
theorem algebraic : Cert.algebraic_Kernel3Ideal_Reference3Ideal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g, ?_⟩
  refine (θ_run _ _ _).mono (fun r h c => ?_) (Cert.Reference3Ideal.Value.run (F := Ideal) m' g')
  obtain ⟨h1, h2, h3, h4, h5⟩ := h c
  obtain ⟨e0, e1⟩ := hargs c
  refine ⟨h1.trans ?_, h2.trans ?_, h3.trans ?_, h4.trans ?_, h5⟩
  · refine Eq.trans (b := Cert.Reference3Ideal.Project.queries _ _) rfl ?_
    rw [e0, e1]
    exact (queries_eq m c).symm
  · refine Eq.trans (b := Cert.Reference3Ideal.Project.keys _ _) rfl ?_
    rw [e0, e1]
    exact (keys_eq m c).symm
  · refine Eq.trans (b := Cert.Reference3Ideal.Project.values _ _) rfl ?_
    rw [e0, e1]
    exact (values_eq m c).symm
  · refine Eq.trans (b := Cert.Reference3Ideal.Project.gatedRows _ _) rfl ?_
    rw [e0, e1]
    exact (gated_eq m c).symm

end Cert.Kernel3Ideal.Project

end
-- ==== Proof.OddPieces.lean ====
/-
  The odd layers' input projection: the pieces its run leaves of each output's block.
-/
module

public import proofs.«01_k».proof.Proof.Gen.Kernel4Ideal.Value

@[expose] public section

set_option maxRecDepth 16384

noncomputable section

namespace Cert.Kernel4Ideal.Project

open Cert.Kernel4Ideal Cert.Kernel4Ideal.Gen Idealize.ShloMosaic Idealize.ShloMosaic.TcCoe Idealize.SL.Sem

variable {F : FTy → Type} [FloatOps F]

/-- The parts of the buffers that the body reads and writes. -/
abbrev wholeX : Rect S512x1024 := Rect.unit (s := S512x1024) ![0, 0] S512x1024.size inb_S512x1024_S512x1024_0_0
abbrev wholeT : Rect S512x128 := Rect.unit (s := S512x128) ![0, 0] S512x128.size inb_S512x128_S512x128_0_0
abbrev rQ : Rect S1x1024x2816 := Rect.unit (s := S1x1024x2816) ![0, 0, 0] S1x1024x512.size inb_S1x1024x2816_S1x1024x512_0_0_0
abbrev rK : Rect S1x1024x2816 := Rect.unit (s := S1x1024x2816) ![0, 0, 512] S1x1024x256.size inb_S1x1024x2816_S1x1024x256_0_0_512
abbrev rF : Rect S1x1024x2816 := Rect.unit (s := S1x1024x2816) ![0, 0, 768] S1x1024x512.size inb_S1x1024x2816_S1x1024x512_0_0_768
abbrev rM : Rect S1x1024x2816 := Rect.unit (s := S1x1024x2816) ![0, 0, 1280] S1x1024x1024.size inb_S1x1024x2816_S1x1024x1024_0_0_1280
abbrev rL : Rect S1x1024x2816 := Rect.unit (s := S1x1024x2816) ![0, 0, 2304] S1x1024x512.size inb_S1x1024x2816_S1x1024x512_0_0_2304
abbrev q0 : Rect S512x512 := Rect.unit (s := S512x512) ![0, 0] S512x128.size inb_S512x512_S512x128_0_0
abbrev q1 : Rect S512x512 := Rect.unit (s := S512x512) ![0, 128] S512x128.size inb_S512x512_S512x128_0_128
abbrev q2 : Rect S512x512 := Rect.unit (s := S512x512) ![0, 256] S512x128.size inb_S512x512_S512x128_0_256
abbrev q3 : Rect S512x512 := Rect.unit (s := S512x512) ![0, 384] S512x128.size inb_S512x512_S512x128_0_384
abbrev d0 : Rect S512x2048 := Rect.unit (s := S512x2048) ![0, 0] S512x512.size inb_S512x2048_S512x512_0_0
abbrev d1 : Rect S512x2048 := Rect.unit (s := S512x2048) ![0, 512] S512x1024.size inb_S512x2048_S512x1024_0_512
abbrev d2 : Rect S512x2048 := Rect.unit (s := S512x2048) ![0, 1536] S512x512.size inb_S512x2048_S512x512_0_1536

/-- What the body writes of the queries, two heads at a time. -/
def queryPieces (x0 : Vec F S512x1024 .f32) (x1 : Vec F S1x1024x2816 .bf16) (x2 x3 x4 : Vec F S512x128 .f32) : List (View.Piece (Elt F) S512x512 .f32) :=
  [⟨q3, k0_pay13 (k0_pay4 (View.ld x2 wholeT)) (k0_pay5 (View.ld x3 wholeT)) (k0_pay6 (View.ld x4 wholeT)) (k0_pay7 (View.ld x0 wholeX) (View.ld x1 rQ))⟩,
    ⟨q2, k0_pay12 (k0_pay6 (View.ld x4 wholeT)) (k0_pay10 (View.ld x0 wholeX) (View.ld x1 rQ))
      (k0_pay11 (View.ld x0 wholeX) (View.ld x2 wholeT) (View.ld x3 wholeT) (View.ld x1 rQ)) 8#32⟩,
    ⟨q1, k0_pay9 (View.ld x0 wholeX) (View.ld x2 wholeT) (View.ld x3 wholeT) (View.ld x4 wholeT) (View.ld x1 rQ)⟩,
    ⟨q0, k0_pay8 (View.ld x0 wholeX) (View.ld x2 wholeT) (View.ld x3 wholeT) (View.ld x4 wholeT) (View.ld x1 rQ)⟩]

/-- What it writes of the keys. -/
def keyPieces (x0 : Vec F S512x1024 .f32) (x1 : Vec F S1x1024x2816 .bf16) (x2 x3 x4 : Vec F S512x128 .f32) : List (View.Piece (Elt F) S512x128 .f32) :=
  [⟨wholeT, k0_pay15 (k0_pay3 (View.ld x0 wholeX)) (k0_pay4 (View.ld x2 wholeT)) (k0_pay5 (View.ld x3 wholeT)) (k0_pay6 (View.ld x4 wholeT)) (View.ld x1 rK)⟩]

/-- What it writes of the values. -/
def valuePieces (x0 : Vec F S512x1024 .f32) (x1 : Vec F S1x1024x2816 .bf16) : List (View.Piece (Elt F) S512x128 .f32) :=
  [⟨wholeT, k0_pay16 (k0_pay3 (View.ld x0 wholeX)) (View.ld x1 rK)⟩]

/-- What it writes of the state's lanes: the forget lanes, the two plain parts and the lanes of the output gate. -/
def statePieces (x0 : Vec F S512x1024 .f32) (x1 : Vec F S1x1024x2816 .bf16) : List (View.Piece (Elt F) S512x2048 .f32) :=
  [⟨d2, k0_pay2 (k0_pay3 (View.ld x0 wholeX)) (View.ld x1 rL)⟩, ⟨d1, k0_pay1 (k0_pay3 (View.ld x0 wholeX)) (View.ld x1 rM)⟩,
    ⟨d0, k0_pay17 (k0_pay3 (View.ld x0 wholeX)) (View.ld x1 rF)⟩]

theorem query_pieces (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    (kernelRun0_A c i arg1 harg1 arg2 harg2 arg3 harg3 arg4 harg4 arg5 harg5 arg6 harg6 arg7 harg7 arg8 harg8 arg9 harg9 x0 x1 x2 x3 x4).1
      = queryPieces (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) := by
  sl_kernel_rfl

theorem query_out (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    out0_A_5 c i arg1 harg1 arg2 harg2 arg3 harg3 arg4 harg4 arg5 harg5 arg6 harg6 arg7 harg7 arg8 harg8 arg9 harg9 x0 x1 x2 x3 x4 = View.canon (queryPieces x0 x1 x2 x3 x4) := by
  unfold out0_A_5
  rw [View.read_writes_junk_eq_canon, query_pieces, harg1.read_unread, harg2.read_unread, harg3.read_unread, harg4.read_unread, harg5.read_unread]

theorem key_pieces (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    (kernelRun0_A c i arg1 harg1 arg2 harg2 arg3 harg3 arg4 harg4 arg5 harg5 arg6 harg6 arg7 harg7 arg8 harg8 arg9 harg9 x0 x1 x2 x3 x4).2.1
      = keyPieces (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) := by
  sl_kernel_rfl

theorem key_out (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    out0_A_6 c i arg1 harg1 arg2 harg2 arg3 harg3 arg4 harg4 arg5 harg5 arg6 harg6 arg7 harg7 arg8 harg8 arg9 harg9 x0 x1 x2 x3 x4 = View.canon (keyPieces x0 x1 x2 x3 x4) := by
  unfold out0_A_6
  rw [View.read_writes_junk_eq_canon, key_pieces, harg1.read_unread, harg2.read_unread, harg3.read_unread, harg4.read_unread, harg5.read_unread]

theorem value_pieces (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    (kernelRun0_A c i arg1 harg1 arg2 harg2 arg3 harg3 arg4 harg4 arg5 harg5 arg6 harg6 arg7 harg7 arg8 harg8 arg9 harg9 x0 x1 x2 x3 x4).2.2.1
      = valuePieces (arg1.view.read (Elt F) (harg1.unread x0)) (arg2.view.read (Elt F) (harg2.unread x1)) := by
  sl_kernel_rfl

theorem value_out (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    out0_A_7 c i arg1 harg1 arg2 harg2 arg3 harg3 arg4 harg4 arg5 harg5 arg6 harg6 arg7 harg7 arg8 harg8 arg9 harg9 x0 x1 x2 x3 x4 = View.canon (valuePieces x0 x1) := by
  unfold out0_A_7
  rw [View.read_writes_junk_eq_canon, value_pieces, harg1.read_unread, harg2.read_unread]

theorem state_pieces (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    (kernelRun0_A c i arg1 harg1 arg2 harg2 arg3 harg3 arg4 harg4 arg5 harg5 arg6 harg6 arg7 harg7 arg8 harg8 arg9 harg9 x0 x1 x2 x3 x4).2.2.2.1
      = statePieces (arg1.view.read (Elt F) (harg1.unread x0)) (arg2.view.read (Elt F) (harg2.unread x1)) := by
  sl_kernel_rfl

theorem state_out (c : Dev nD) (i : grid0.Coords) (arg1 : Memref sig .tc .vmem S512x1024 .f32) (harg1 : arg1.IsWhole) (arg2 : Memref sig .tc .vmem S1x1024x2816 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x2048 .f32) (harg9 : arg9.IsWhole)
    (x0 : Vec F S512x1024 .f32) (x1 : Vec F S1x1024x2816 .bf16) (x2 x3 x4 : Vec F S512x128 .f32) :
    out0_A_8 c i arg1 harg1 arg2 harg2 arg3 harg3 arg4 harg4 arg5 harg5 arg6 harg6 arg7 harg7 arg8 harg8 arg9 harg9 x0 x1 x2 x3 x4 = View.canon (statePieces x0 x1) := by
  unfold out0_A_8
  rw [View.read_writes_junk_eq_canon, state_pieces, harg1.read_unread, harg2.read_unread]

end Cert.Kernel4Ideal.Project

end
-- ==== Proof.OddBlock.lean ====
/-
  A block of the odd layers' input projection, at an index: the queries and keys turned, the values, and the state's lanes.
-/
module

public import proofs.«01_k».proof.Proof.ProjectBlock
public import proofs.«01_k».proof.Proof.OddPieces

@[expose] public section

set_option maxRecDepth 16384

noncomputable section

namespace Cert.Kernel4Ideal.Project

open Cert.Kernel4Ideal Cert.Kernel4Ideal.Gen Cert.Project Cert.Feed Idealize.ShloMosaic Idealize.ShloMosaic.TcCoe Idealize.SL.Sem
open Cert.Kernel3Ideal.Project (rotated slab_at row zero2)

/-- The state's lanes of a row: the forget lanes and the last lanes through the unit `z · logistic z`, the others as they are. -/
def tail (x : Fin 8 → Fin 2048 → Fin 1024 → EReal) (w : Fin 1024 → Fin 2816 → EReal) (R : Fin 16384) (c : Fin 2048) : EReal :=
  if c.val < 512 ∨ 1536 ≤ c.val then
    product x w R ⟨768 + c.val, by omega⟩ * Ideal.logistic (product x w R ⟨768 + c.val, by omega⟩)
  else product x w R ⟨768 + c.val, by omega⟩

theorem pay7_at (x : Vec Ideal S512x1024 .f32) (w : Vec Ideal S1x1024x512 .bf16) (r q : Fin 512) :
    k0_pay7 x w (ix2 r q) = ∑ k : Fin 1024, x (ix2 r k) * w (ix3 0 k q) := Cert.Kernel3Ideal.Project.pay6_at x w r q

theorem pay14_at (x : Vec Ideal S512x1024 .f32) (w : Vec Ideal S1x1024x256 .bf16) (r : Fin 512) (q : Fin 256) :
    k0_pay14 (k0_pay3 x) w (ix2 r q) = ∑ k : Fin 1024, x (ix2 r k) * w (ix3 0 k q) := Cert.Kernel3Ideal.Project.pay13_at x w r q

theorem pay17_at (x : Vec Ideal S512x1024 .f32) (w : Vec Ideal S1x1024x512 .bf16) (r q : Fin 512) :
    k0_pay17 (k0_pay3 x) w (ix2 r q)
      = (∑ k : Fin 1024, x (ix2 r k) * w (ix3 0 k q)) * Ideal.logistic (∑ k : Fin 1024, x (ix2 r k) * w (ix3 0 k q)) := by
  unfold k0_pay17 k0_pay3
  pointwise

theorem pay2_at (x : Vec Ideal S512x1024 .f32) (w : Vec Ideal S1x1024x512 .bf16) (r q : Fin 512) :
    k0_pay2 (k0_pay3 x) w (ix2 r q)
      = (∑ k : Fin 1024, x (ix2 r k) * w (ix3 0 k q)) * Ideal.logistic (∑ k : Fin 1024, x (ix2 r k) * w (ix3 0 k q)) := pay17_at x w r q

theorem pay1_at (x : Vec Ideal S512x1024 .f32) (w : Vec Ideal S1x1024x1024 .bf16) (r : Fin 512) (q : Fin 1024) :
    k0_pay1 (k0_pay3 x) w (ix2 r q) = ∑ k : Fin 1024, x (ix2 r k) * w (ix3 0 k q) := by
  unfold k0_pay1 k0_pay3
  pointwise

theorem pay8_eq (x0 : Vec Ideal S512x1024 .f32) (c a b : Vec Ideal S512x128 .f32) (w : Vec Ideal S1x1024x512 .bf16) :
    k0_pay8 x0 c a b w = rotated (extractStridedSlice S512x128 ![0, 0] (k0_pay7 x0 w) slices_S512x512_o0_0_S512x128) c a b :=
  Cert.Kernel3Ideal.Project.pay7_eq x0 c a b w

theorem pay9_eq (x0 : Vec Ideal S512x1024 .f32) (c a b : Vec Ideal S512x128 .f32) (w : Vec Ideal S1x1024x512 .bf16) :
    k0_pay9 x0 c a b w = rotated (extractStridedSlice S512x128 ![0, 128] (k0_pay7 x0 w) slices_S512x512_o0_128_S512x128) c a b :=
  Cert.Kernel3Ideal.Project.pay8_eq x0 c a b w

theorem pay12_eq (x0 : Vec Ideal S512x1024 .f32) (c a b : Vec Ideal S512x128 .f32) (w : Vec Ideal S1x1024x512 .bf16) :
    k0_pay12 (k0_pay6 b) (k0_pay10 x0 w) (k0_pay11 x0 c a w) 8#32
      = rotated (extractStridedSlice S512x128 ![0, 256] (k0_pay7 x0 w) slices_S512x512_o0_256_S512x128) c a b :=
  Cert.Kernel3Ideal.Project.pay11_eq x0 c a b w

theorem pay13_eq (x0 : Vec Ideal S512x1024 .f32) (c a b : Vec Ideal S512x128 .f32) (w : Vec Ideal S1x1024x512 .bf16) :
    k0_pay13 (k0_pay4 c) (k0_pay5 a) (k0_pay6 b) (k0_pay7 x0 w)
      = rotated (extractStridedSlice S512x128 ![0, 384] (k0_pay7 x0 w) slices_S512x512_o0_384_S512x128) c a b :=
  Cert.Kernel3Ideal.Project.pay12_eq x0 c a b w

theorem pay15_eq (x0 : Vec Ideal S512x1024 .f32) (c a b : Vec Ideal S512x128 .f32) (w : Vec Ideal S1x1024x256 .bf16) :
    k0_pay15 (k0_pay3 x0) (k0_pay4 c) (k0_pay5 a) (k0_pay6 b) w
      = rotated (extractStridedSlice S512x128 ![0, 0] (k0_pay14 (k0_pay3 x0) w) slices_S512x256_o0_0_S512x128) c a b :=
  Cert.Kernel3Ideal.Project.pay14_eq x0 c a b w

/-- A read of lanes from lane `o` of the weight on. -/
theorem lanes (w : Vec Ideal S1x1024x2816 .bf16) (o n : Nat) (h : o + n ≤ 2816) (k : Fin 1024) (q : Fin n) (i : S1x1024x2816.Idx)
    (h0 : (i 0).val = 0) (h1 : (i 1).val = k.val) (h2 : (i 2).val = o + q.val) : w i = w (ix3 0 k ⟨o + q.val, by omega⟩) :=
  congrArg w (funext fun a => Fin.ext (by
    match a with
    | ⟨0, _⟩ => exact h0
    | ⟨1, _⟩ => exact h1
    | ⟨2, _⟩ => exact h2))

/-- The buffers of block `T`: its rows, the layer's weight and the tables at its rows' positions. -/
structure Holds (x : Fin 8 → Fin 2048 → Fin 1024 → EReal) (w : Fin 1024 → Fin 2816 → EReal) (T : Fin 32) (x0 : Vec Ideal S512x1024 .f32)
    (x1 : Vec Ideal S1x1024x2816 .bf16) (x2 x3 x4 : Vec Ideal S512x128 .f32) : Prop where
  input : ∀ r k, x0 (ix2 r k) = x (seqOf (row T r)) (posOf (row T r)) k
  weight : ∀ k c, x1 (ix3 0 k c) = w k c
  cosines : ∀ r p, x2 (ix2 r p) = tableC (posOf (row T r)) (inHead p)
  before : ∀ r p, x3 (ix2 r p) = tableA (posOf (row T r)) (inHead p)
  after : ∀ r p, x4 (ix2 r p) = tableB (posOf (row T r)) (inHead p)

variable {x : Fin 8 → Fin 2048 → Fin 1024 → EReal} {w : Fin 1024 → Fin 2816 → EReal} {T : Fin 32} {x0 : Vec Ideal S512x1024 .f32}
  {x1 : Vec Ideal S1x1024x2816 .bf16} {x2 x3 x4 : Vec Ideal S512x128 .f32} (h : Holds x w T x0 x1 x2 x3 x4)
include h

/-- A sum over a read of the weight from lane `o` on is the product's lane. -/
theorem sum_lanes {n : Nat} (o : Nat) (ho : o + n ≤ 2816) (u : Vec Ideal ⟨3, ![1, 1024, n]⟩ .bf16)
    (hu : ∀ (k : Fin 1024) (q : Fin n), u (ix3 0 k q) = x1 (ix3 0 k ⟨o + q.val, by omega⟩)) (r : Fin 512) (q : Fin n) :
    ∑ k : Fin 1024, x0 (ix2 r k) * u (ix3 0 k q) = product x w (row T r) ⟨o + q.val, by omega⟩ :=
  Finset.sum_congr rfl fun k _ => by rw [h.input, hu, h.weight]

/-- The product's lanes of the queries. -/
theorem query_lanes (r q : Fin 512) : k0_pay7 x0 (View.ld x1 rQ) (ix2 r q) = product x w (row T r) ⟨0 + q.val, by omega⟩ :=
  (pay7_at x0 (View.ld x1 rQ) r q).trans (sum_lanes h 0 (by omega) _ (fun k q => lanes x1 0 512 (by omega) k q _ rfl
    (by show 0 + 1 * k.val = k.val; omega) (by show 0 + 1 * q.val = 0 + q.val; omega)) r q)

/-- The product's lanes of the keys and the values. -/
theorem key_lanes (r : Fin 512) (q : Fin 256) :
    k0_pay14 (k0_pay3 x0) (View.ld x1 rK) (ix2 r q) = product x w (row T r) ⟨512 + q.val, by omega⟩ :=
  (pay14_at x0 (View.ld x1 rK) r q).trans (sum_lanes h 512 (by omega) _ (fun k q => lanes x1 512 256 (by omega) k q _ rfl
    (by show 0 + 1 * k.val = k.val; omega) (by show 512 + 1 * q.val = 512 + q.val; omega)) r q)

/-- The values of a block. -/
theorem value_block (r : Fin 512) (q : Fin 128) : View.canon (valuePieces x0 x1) (ix2 r q) = product x w (row T r) ⟨640 + q.val, by omega⟩ := by
  unfold valuePieces
  rw [View.ld_unit_zero zero2, View.canon_unit_zero zero2]
  have e := key_lanes h r ⟨128 + q.val, by omega⟩
  unfold k0_pay16
  generalize k0_pay14 (k0_pay3 x0) (View.ld x1 rK) = y at e
  pointwise
  refine Eq.trans (congrArg y (by idx_ext)) (e.trans (congrArg (product x w (row T r)) (Fin.ext (by simp only; omega))))

/-- The keys of a block. -/
theorem key_block (r : Fin 512) (q : Fin 128) :
    View.canon (keyPieces x0 x1 x2 x3 x4) (ix2 r q) = heads x w 512 2 (by omega) (row T r) q := by
  have e := key_lanes h r
  unfold keyPieces
  rw [View.ld_unit_zero zero2, View.ld_unit_zero zero2, View.ld_unit_zero zero2, View.ld_unit_zero zero2, View.canon_unit_zero zero2,
    pay15_eq]
  refine slab_at 512 2 0 (by omega) (by omega) (h.cosines r) (h.before r) (h.after r) (fun p => ?_) q q (by omega)
  generalize k0_pay14 (k0_pay3 x0) (View.ld x1 rK) = y at e
  exact Eq.trans (b := y (ix2 r ⟨p.val, by omega⟩)) (by pointwise) (e _)

/-- Two heads of a block's queries: their lanes of the product, turned. -/
theorem query_strip (n : Nat) (hn : n < 4) {z : FVec Ideal S512x128 .f32}
    (hz : ∀ r p, z (ix2 r p) = k0_pay7 x0 (View.ld x1 rQ) (ix2 r ⟨128 * n + p.val, by omega⟩)) (i : S512x128.Idx) (j : S512x512.Idx)
    (h0 : (j 0).val = (i 0).val) (h1 : (j 1).val = 128 * n + (i 1).val) :
    rotated z x2 x3 x4 i = heads x w 0 8 (by omega) (row T (j 0)) (j 1) := by
  have ei : i = ix2 (i 0) (i 1) := by idx_ext
  have e0 : j 0 = i 0 := Fin.ext h0
  rw [ei, e0]
  refine slab_at 0 8 n (by omega) (by omega) (h.cosines _) (h.before _) (h.after _) (fun p => ?_) (i 1) (j 1) h1
  refine (hz (i 0) p).trans ((query_lanes h (i 0) _).trans ?_)
  exact congrArg (product x w _) (Fin.ext (by simp only; omega))

/-- The queries of a block. -/
theorem query_block (r q : Fin 512) :
    View.canon (queryPieces x0 x1 x2 x3 x4) (ix2 r q) = heads x w 0 8 (by omega) (row T r) q := by
  have s := @query_strip x w T x0 x1 x2 x3 x4 h
  refine View.canon_apply_of_pieces (Val := Elt Ideal) (e := .f32) (fun j : S512x512.Idx => heads x w 0 8 (by omega) (row T (j 0)) (j 1)) _ ?_ (ix2 r q)
    (View.cover_of_tiledL (queryPieces x0 x1 x2 x3 x4) S512x128.size (by sl_kernel_rfl) (ix2 r q))
  unfold queryPieces
  rw [View.ld_unit_zero zero2, View.ld_unit_zero zero2, View.ld_unit_zero zero2, View.ld_unit_zero zero2, pay8_eq, pay9_eq, pay12_eq, pay13_eq]
  generalize k0_pay7 x0 (View.ld x1 rQ) = y at s
  intro pc hpc
  simp only [List.mem_cons, List.not_mem_nil, or_false] at hpc
  rcases hpc with rfl | rfl | rfl | rfl
  · exact fun i => s 3 (by omega) (fun r p => by pointwise) i _ (by show 0 + 1 * _ = _; omega) (by show 384 + 1 * _ = _; omega)
  · exact fun i => s 2 (by omega) (fun r p => by pointwise) i _ (by show 0 + 1 * _ = _; omega) (by show 256 + 1 * _ = _; omega)
  · exact fun i => s 1 (by omega) (fun r p => by pointwise) i _ (by show 0 + 1 * _ = _; omega) (by show 128 + 1 * _ = _; omega)
  · exact fun i => s 0 (by omega) (fun r p => by pointwise) i _ (by show 0 + 1 * _ = _; omega) (by show 0 + 1 * _ = _; omega)

/-- A part of the state's lanes that goes through the unit. -/
theorem gated_strip (o : Nat) (ho : o = 0 ∨ o = 1536) {u : Vec Ideal S1x1024x512 .bf16}
    (hu : ∀ (k : Fin 1024) (q : Fin 512), u (ix3 0 k q) = x1 (ix3 0 k ⟨768 + o + q.val, by omega⟩)) (i : S512x512.Idx) (j : S512x2048.Idx)
    (h0 : (j 0).val = (i 0).val) (h1 : (j 1).val = o + (i 1).val) :
    k0_pay17 (k0_pay3 x0) u i = tail x w (row T (j 0)) (j 1) := by
  have hi : (i 1).val < 512 := (i 1).isLt
  have ei : i = ix2 (i 0) (i 1) := by idx_ext
  have e0 : j 0 = i 0 := Fin.ext h0
  have e1 : (⟨768 + o + (i 1).val, by omega⟩ : Fin 2816) = ⟨768 + (j 1).val, by omega⟩ := Fin.ext (by simp only; omega)
  rw [ei, e0]
  refine (pay17_at x0 u (i 0) (i 1)).trans ?_
  have hs := sum_lanes h (768 + o) (by omega) u hu (i 0) (i 1)
  unfold tail
  rw [if_pos (by omega), ← e1]
  exact congrArg (fun a => a * Ideal.logistic a) hs

/-- The part that stays as it is. -/
theorem plain_strip {u : Vec Ideal S1x1024x1024 .bf16}
    (hu : ∀ (k : Fin 1024) (q : Fin 1024), u (ix3 0 k q) = x1 (ix3 0 k ⟨1280 + q.val, by omega⟩)) (i : S512x1024.Idx) (j : S512x2048.Idx)
    (h0 : (j 0).val = (i 0).val) (h1 : (j 1).val = 512 + (i 1).val) :
    k0_pay1 (k0_pay3 x0) u i = tail x w (row T (j 0)) (j 1) := by
  have hi : (i 1).val < 1024 := (i 1).isLt
  have ei : i = ix2 (i 0) (i 1) := by idx_ext
  have e0 : j 0 = i 0 := Fin.ext h0
  have e1 : (⟨1280 + (i 1).val, by omega⟩ : Fin 2816) = ⟨768 + (j 1).val, by omega⟩ := Fin.ext (by simp only; omega)
  rw [ei, e0]
  refine (pay1_at x0 u (i 0) (i 1)).trans ?_
  have hs := sum_lanes h 1280 (by omega) u hu (i 0) (i 1)
  unfold tail
  rw [if_neg (by omega), ← e1]
  exact hs

/-- The state's lanes of a block. -/
theorem state_block (r : Fin 512) (q : Fin 2048) : View.canon (statePieces x0 x1) (ix2 r q) = tail x w (row T r) q := by
  refine View.canon_apply_of_pieces (Val := Elt Ideal) (e := .f32) (fun j : S512x2048.Idx => tail x w (row T (j 0)) (j 1)) _ ?_ (ix2 r q)
    (View.cover_of_tiledBy (statePieces x0 x1) ![512, 512] (by sl_kernel_rfl) (ix2 r q))
  unfold statePieces
  rw [View.ld_unit_zero zero2]
  intro pc hpc
  simp only [List.mem_cons, List.not_mem_nil, or_false] at hpc
  rcases hpc with rfl | rfl | rfl
  · exact fun i => gated_strip h 1536 (Or.inr rfl) (fun k q => lanes x1 2304 512 (by omega) k q _ rfl
      (by show 0 + 1 * k.val = k.val; omega) (by show 2304 + 1 * q.val = 2304 + q.val; omega)) i _ (by show 0 + 1 * _ = _; omega) (by show 1536 + 1 * _ = _; omega)
  · exact fun i => plain_strip h (fun k q => lanes x1 1280 1024 (by omega) k q _ rfl
      (by show 0 + 1 * k.val = k.val; omega) (by show 1280 + 1 * q.val = 1280 + q.val; omega)) i _ (by show 0 + 1 * _ = _; omega) (by show 512 + 1 * _ = _; omega)
  · exact fun i => gated_strip h 0 (Or.inl rfl) (fun k q => lanes x1 768 512 (by omega) k q _ rfl
      (by show 0 + 1 * k.val = k.val; omega) (by show 768 + 1 * q.val = 768 + q.val; omega)) i _ (by show 0 + 1 * _ = _; omega) (by show 0 + 1 * _ = _; omega)

end Cert.Kernel4Ideal.Project

end
-- ==== Proof.OddBlocks.lean ====
/-
  The buffers of a grid point of the odd layers' input projection, and the arrays the call leaves.
-/
module

public import proofs.«01_k».proof.Proof.OddBlock
public import proofs.«01_k».proof.Proof.ProjectBlocks

@[expose] public section

set_option maxRecDepth 16384

noncomputable section

namespace Cert.Kernel4Ideal.Project

open Cert.Kernel4Ideal Cert.Kernel4Ideal.Gen Cert.Project Cert.Feed Idealize.ShloMosaic Idealize.ShloMosaic.TcCoe Idealize.SL.Sem
open Cert.Kernel3Ideal.Project (row paired paired_at cosines cosines_at negativeSines negativeSines_at sines sines_at pointOf inBlock row_point)

/-- Where each window lies at a grid point. -/
theorem places : ∀ t : Fin cfg0.N,
    (win0_0.index t (0 : Fin 2) = t.val ∧ win0_0.index t (1 : Fin 2) = 0)
    ∧ (win0_1.index t (0 : Fin 3) = 1 ∧ win0_1.index t (1 : Fin 3) = 0 ∧ win0_1.index t (2 : Fin 3) = 0)
    ∧ (win0_2.index t (0 : Fin 2) = t.val % 4 ∧ win0_2.index t (1 : Fin 2) = 0)
    ∧ (win0_3.index t (0 : Fin 2) = t.val % 4 ∧ win0_3.index t (1 : Fin 2) = 0)
    ∧ (win0_4.index t (0 : Fin 2) = t.val % 4 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (m : (ℓ : Loc nD τ sig) → Buf (Elt Ideal) ℓ) (c : Dev nD)

/-- The rows launched on device `c`. -/
def rows : FVec Ideal S8x2048x1024 .f32 := m ((c : Thread nD τ).loc main_arg0)

/-- The weights launched on device `c`. -/
def weights : FVec Ideal S2x1024x2816 .f32 := m ((c : Thread nD τ).loc main_arg1)

/-- The rows, by sequence, position and lane. -/
def xs : Fin 8 → Fin 2048 → Fin 1024 → EReal := fun b l k => rows m c (ix3 b l k)

/-- The last odd layer's weight. -/
def ws : Fin 1024 → Fin 2816 → EReal := fun k q => weights m c (ix3 1 k q)

/-- The window of the rows. -/
theorem input_at (t : Fin cfg0.N) (r : Fin 512) (k : Fin 1024) : iblk m c 0 t (ix2 r k) = xs m c (seqOf (row t r)) (posOf (row t r)) k := by
  obtain ⟨⟨e0, e1⟩, -⟩ := places t
  have e : V m c main_v0 = shapeCast S16384x1024 (rows m c) shapeCasts_S8x2048x1024_S16384x1024 := by
    show StableHlo.after hostOps0 _ (Proc.devRef .tc main_v0) = _
    after_results
    rfl
  have e' : iblk m c 0 t (ix2 r k) = V m c main_v0 (ix2 (row t r) k) := by
    show V m c main_v0 (((cfg0.win 0).blk t).view.emb (ix2 r k)) = _
    refine congrArg _ (funext fun a => Fin.ext ?_)
    match a with
    | ⟨0, _⟩ => show win0_0.index t (0 : Fin 2) * 512 + 1 * r.val = 512 * t.val + r.val; omega
    | ⟨1, _⟩ => show win0_0.index t (1 : Fin 2) * 1024 + 1 * k.val = k.val; omega
  rw [e', e]
  unfold xs
  generalize rows m c = y
  pointwise

/-- The window of the weight. -/
theorem weight_at (t : Fin cfg0.N) (k : Fin 1024) (q : Fin 2816) : iblk m c 1 t (ix3 0 k q) = ws m c k q := by
  obtain ⟨-, ⟨e0, e1, e2⟩, -⟩ := places t
  have e : V m c main_v1 = weights m c := by
    show StableHlo.after hostOps0 _ (Proc.devRef .tc main_v1) = _
    after_results
    rfl
  refine Eq.trans ?_ (congrFun e _)
  show V m c main_v1 (((cfg0.win 1).blk t).view.emb (ix3 (0 : Fin 1) k q)) = _
  refine congrArg _ (funext fun a => Fin.ext ?_)
  match a with
  | ⟨0, _⟩ => show win0_1.index t (0 : Fin 3) * 1 + 1 * 0 = 1; omega
  | ⟨1, _⟩ => show win0_1.index t (1 : Fin 3) * 1024 + 1 * k.val = k.val; omega
  | ⟨2, _⟩ => show win0_1.index t (2 : Fin 3) * 2816 + 1 * q.val = q.val; omega

/-- The window of the cosines. -/
theorem cosines_window (t : Fin cfg0.N) (r : Fin 512) (p : Fin 128) : iblk m c 2 t (ix2 r p) = tableC (posOf (row t r)) (inHead p) := by
  obtain ⟨-, -, ⟨e0, e1⟩, -⟩ := places t
  have e : V m c main_v28 = paired cosines := by
    show StableHlo.after hostOps0 _ (Proc.devRef .tc main_v28) = _
    after_results
    rfl
  have e' : iblk m c 2 t (ix2 r p) = V m c main_v28 (ix2 (posOf (row t r)) p) := by
    show V m c main_v28 (((cfg0.win 2).blk t).view.emb (ix2 r p)) = _
    refine congrArg _ (funext fun a => Fin.ext ?_)
    match a with
    | ⟨0, _⟩ => show win0_2.index t (0 : Fin 2) * 512 + 1 * r.val = (512 * t.val + r.val) % 2048; omega
    | ⟨1, _⟩ => show win0_2.index t (1 : Fin 2) * 128 + 1 * p.val = p.val; omega
  rw [e', e]
  exact (paired_at cosines _ p).trans (cosines_at _ _)

/-- The window of the negative sines. -/
theorem before_window (t : Fin cfg0.N) (r : Fin 512) (p : Fin 128) : iblk m c 3 t (ix2 r p) = tableA (posOf (row t r)) (inHead p) := by
  obtain ⟨-, -, -, ⟨e0, e1⟩, -⟩ := places t
  have e : V m c main_v31 = paired negativeSines := by
    show StableHlo.after hostOps0 _ (Proc.devRef .tc main_v31) = _
    after_results
    rfl
  have e' : iblk m c 3 t (ix2 r p) = V m c main_v31 (ix2 (posOf (row t r)) p) := by
    show V m c main_v31 (((cfg0.win 3).blk t).view.emb (ix2 r p)) = _
    refine congrArg _ (funext fun a => Fin.ext ?_)
    match a with
    | ⟨0, _⟩ => show win0_3.index t (0 : Fin 2) * 512 + 1 * r.val = (512 * t.val + r.val) % 2048; omega
    | ⟨1, _⟩ => show win0_3.index t (1 : Fin 2) * 128 + 1 * p.val = p.val; omega
  rw [e', e]
  exact (paired_at negativeSines _ p).trans (negativeSines_at _ _)

/-- The window of the sines. -/
theorem after_window (t : Fin cfg0.N) (r : Fin 512) (p : Fin 128) : iblk m c 4 t (ix2 r p) = tableB (posOf (row t r)) (inHead p) := by
  obtain ⟨-, -, -, -, ⟨e0, e1⟩, -⟩ := places t
  have e : V m c main_v34 = paired sines := by
    show StableHlo.after hostOps0 _ (Proc.devRef .tc main_v34) = _
    after_results
    rfl
  have e' : iblk m c 4 t (ix2 r p) = V m c main_v34 (ix2 (posOf (row t r)) p) := by
    show V m c main_v34 (((cfg0.win 4).blk t).view.emb (ix2 r p)) = _
    refine congrArg _ (funext fun a => Fin.ext ?_)
    match a with
    | ⟨0, _⟩ => show win0_4.index t (0 : Fin 2) * 512 + 1 * r.val = (512 * t.val + r.val) % 2048; omega
    | ⟨1, _⟩ => show win0_4.index t (1 : Fin 2) * 128 + 1 * p.val = p.val; omega
  rw [e', e]
  exact (paired_at sines _ p).trans (sines_at _ _)

theorem holds (t : Fin cfg0.N) :
    Holds (xs m c) (ws m c) t (iblk m c 0 t) (iblk m c 1 t) (iblk m c 2 t) (iblk m c 3 t) (iblk m c 4 t) where
  input := input_at m c t
  weight := weight_at m c t
  cosines := cosines_window m c t
  before := before_window m c t
  after := after_window m c t

/-- The queries after the run. -/
theorem queries_array (R : Fin 16384) (q : Fin 512) :
    (dats m 0 c).arrAt 5 cfg0.N (ix2 R q) = heads (xs m c) (ws m c) 0 8 (by omega) R q := by
  let t : Fin cfg0.N := pointOf R
  have ht : t.val = R.val / 512 := rfl
  obtain ⟨-, -, -, -, -, ⟨e0, e1⟩, -⟩ := places t
  have he : ix2 R q = ((cfg0.win 5).blk t).view.emb (ix2 (inBlock R) q) := by
    refine funext fun a => Fin.ext ?_
    match a with
    | ⟨0, _⟩ => show R.val = win0_5.index t (0 : Fin 2) * 512 + 1 * (R.val % 512); omega
    | ⟨1, _⟩ => show q.val = win0_5.index t (1 : Fin 2) * 512 + 1 * q.val; omega
  have hblk := congrFun (Value.blocks5 m c t (flush0_5 t)) (ix2 (inBlock R) q)
  rw [Value.flushed5_A, query_out] at hblk
  rw [he]
  refine hblk.trans ((query_block (holds m c t) (inBlock R) q).trans ?_)
  rw [row_point]

/-- The keys after the run. -/
theorem keys_array (R : Fin 16384) (q : Fin 128) :
    (dats m 0 c).arrAt 6 cfg0.N (ix2 R q) = heads (xs m c) (ws m c) 512 2 (by omega) R q := by
  let t : Fin cfg0.N := pointOf R
  have ht : t.val = R.val / 512 := rfl
  obtain ⟨-, -, -, -, -, -, ⟨e0, e1⟩, -⟩ := places t
  have he : ix2 R q = ((cfg0.win 6).blk t).view.emb (ix2 (inBlock R) q) := by
    refine funext fun a => Fin.ext ?_
    match a with
    | ⟨0, _⟩ => show R.val = win0_6.index t (0 : Fin 2) * 512 + 1 * (R.val % 512); omega
    | ⟨1, _⟩ => show q.val = win0_6.index t (1 : Fin 2) * 128 + 1 * q.val; omega
  have hblk := congrFun (Value.blocks6 m c t (flush0_6 t)) (ix2 (inBlock R) q)
  rw [Value.flushed6_A, key_out] at hblk
  rw [he]
  refine hblk.trans ((key_block (holds m c t) (inBlock R) q).trans ?_)
  rw [row_point]

/-- The values after the run. -/
theorem values_array (R : Fin 16384) (q : Fin 128) :
    (dats m 0 c).arrAt 7 cfg0.N (ix2 R q) = product (xs m c) (ws m c) R ⟨640 + q.val, by omega⟩ := by
  let t : Fin cfg0.N := pointOf R
  have ht : t.val = R.val / 512 := rfl
  obtain ⟨-, -, -, -, -, -, -, ⟨e0, e1⟩, -⟩ := places t
  have he : ix2 R q = ((cfg0.win 7).blk t).view.emb (ix2 (inBlock R) q) := by
    refine funext fun a => Fin.ext ?_
    match a with
    | ⟨0, _⟩ => show R.val = win0_7.index t (0 : Fin 2) * 512 + 1 * (R.val % 512); omega
    | ⟨1, _⟩ => show q.val = win0_7.index t (1 : Fin 2) * 128 + 1 * q.val; omega
  have hblk := congrFun (Value.blocks7 m c t (flush0_7 t)) (ix2 (inBlock R) q)
  rw [Value.flushed7_A, value_out] at hblk
  rw [he]
  refine hblk.trans ((value_block (holds m c t) (inBlock R) q).trans ?_)
  rw [row_point]

/-- The state's lanes after the run. -/
theorem state_array (R : Fin 16384) (q : Fin 2048) : (dats m 0 c).arrAt 8 cfg0.N (ix2 R q) = tail (xs m c) (ws m c) R q := by
  let t : Fin cfg0.N := pointOf R
  have ht : t.val = R.val / 512 := rfl
  obtain ⟨-, -, -, -, -, -, -, -, ⟨e0, e1⟩⟩ := places t
  have he : ix2 R q = ((cfg0.win 8).blk t).view.emb (ix2 (inBlock R) q) := by
    refine funext fun a => Fin.ext ?_
    match a with
    | ⟨0, _⟩ => show R.val = win0_8.index t (0 : Fin 2) * 512 + 1 * (R.val % 512); omega
    | ⟨1, _⟩ => show q.val = win0_8.index t (1 : Fin 2) * 2048 + 1 * q.val; omega
  have hblk := congrFun (Value.blocks8 m c t (flush0_8 t)) (ix2 (inBlock R) q)
  rw [Value.flushed8_A, state_out] at hblk
  rw [he]
  refine hblk.trans ((state_block (holds m c t) (inBlock R) q).trans ?_)
  rw [row_point]

end Cert.Kernel4Ideal.Project

end
-- ==== Proof.OddReference.lean ====
/-
  The reference of the odd layers' input projection: its stages, and its results at an index.
-/
module

public import proofs.«01_k».proof.Proof.ProjectTurn
public import proofs.«01_k».proof.Proof.OddBlock
public import proofs.«01_k».proof.Proof.Gen.Reference4Ideal.Run

@[expose] public section

set_option maxRecDepth 16384

noncomputable section

namespace Cert.Reference4Ideal.Project

open Cert.Reference4Ideal Cert.Reference4Ideal.Gen Cert.Project Cert.Feed Idealize.ShloMosaic Idealize.ShloMosaic.TcCoe Idealize.SL.Sem
open Cert.Reference3Ideal.Project (rows8 rows8_at rows2 rows2_at)
open Cert.Kernel4Ideal.Project (tail)

/-- The rows' product with the last odd layer's weight. -/
def projected (x : FVec Ideal S8x2048x1024 .f32) (w : FVec Ideal S2x1024x2816 .f32) : FVec Ideal S8x2048x2816 .f32 :=
  Host.dotGeneral dot_S8x2048x1024_S1024x2816_S8x2048x2816_2_0_01_1_n_n none x
    (shapeCast S1024x2816 (extractStridedSlice S1x1024x2816 ![1, 0, 0] w slices_S2x1024x2816_S1x1024x2816_1_0_0) shapeCasts_S1x1024x2816_S1024x2816)

theorem projected_at (x : FVec Ideal S8x2048x1024 .f32) (w : FVec Ideal S2x1024x2816 .f32) (b : Fin 8) (l : Fin 2048) (q : Fin 2816) :
    projected x w (ix3 b l q) = ∑ k : Fin 1024, x (ix3 b l k) * w (ix3 1 k q) := by
  unfold projected
  pointwise

variable (x : FVec Ideal S8x2048x1024 .f32) (w : FVec Ideal S2x1024x2816 .f32)

/-- The arguments by their indices. -/
abbrev xs : Fin 8 → Fin 2048 → Fin 1024 → EReal := fun b l k => x (ix3 b l k)
abbrev ws : Fin 1024 → Fin 2816 → EReal := fun k q => w (ix3 1 k q)

theorem projected_row (R : Fin 16384) (q : Fin 2816) : projected x w (ix3 (seqOf R) (posOf R) q) = product (xs x) (ws w) R q :=
  projected_at x w (seqOf R) (posOf R) q

/-- The queries. -/
def queries : FVec Ideal S16384x512 .f32 :=
  rows8 (extractStridedSlice S8x2048x512 ![0, 0, 0] (projected x w) slices_S8x2048x2816_S8x2048x512_0_0_0)

/-- The keys. -/
def keys : FVec Ideal S16384x128 .f32 :=
  rows2 (extractStridedSlice S8x2048x128 ![0, 0, 512] (projected x w) slices_S8x2048x2816_S8x2048x128_0_0_512)

/-- The values. -/
def values : FVec Ideal S16384x128 .f32 :=
  shapeCast S16384x128 (extractStridedSlice S8x2048x128 ![0, 0, 640] (projected x w) slices_S8x2048x2816_S8x2048x128_0_0_640)
    shapeCasts_S8x2048x128_S16384x128

/-- The unit `z · 1 / (1 + exp (-z))`. -/
def unit (z : FVec Ideal S8x2048x512 .f32) : FVec Ideal S8x2048x512 .f32 :=
  mulf z (Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf z))))

theorem unit_at (z : FVec Ideal S8x2048x512 .f32) (b : Fin 8) (l : Fin 2048) (q : Fin 512) :
    unit z (ix3 b l q) = z (ix3 b l q) * Ideal.logistic (z (ix3 b l q)) := by
  unfold unit
  pointwise
  rfl

/-- The state's lanes: four parts of the product side by side, the first and the last through the unit. -/
def stateOf (y : FVec Ideal S8x2048x2816 .f32) : FVec Ideal S16384x2048 .f32 :=
  shapeCast S16384x2048 (concatenate S8x2048x2048 2
    [⟨S8x2048x512, unit (extractStridedSlice S8x2048x512 ![0, 0, 768] y slices_S8x2048x2816_S8x2048x512_0_0_768)⟩,
      ⟨S8x2048x512, extractStridedSlice S8x2048x512 ![0, 0, 1280] y slices_S8x2048x2816_S8x2048x512_0_0_1280⟩,
      ⟨S8x2048x512, extractStridedSlice S8x2048x512 ![0, 0, 1792] y slices_S8x2048x2816_S8x2048x512_0_0_1792⟩,
      ⟨S8x2048x512, unit (extractStridedSlice S8x2048x512 ![0, 0, 2304] y slices_S8x2048x2816_S8x2048x512_0_0_2304)⟩]
    concatenates_S8x2048x512_S8x2048x512_S8x2048x512_S8x2048x512_S8x2048x2048_d2) shapeCasts_S8x2048x2048_S16384x2048

/-- Four parts side by side, the first and the last through the unit, are one run of lanes with its ends through it. -/
theorem four_parts (z : Fin 2816 → EReal) (q : Fin 2048) :
    (if h : q.val < 512 then z ⟨768 + q.val, by omega⟩ * Ideal.logistic (z ⟨768 + q.val, by omega⟩)
      else if h' : q.val - 512 < 512 then z ⟨1280 + (q.val - 512), by omega⟩
      else if h'' : q.val - 512 - 512 < 512 then z ⟨1792 + (q.val - 512 - 512), by omega⟩
      else z ⟨2304 + (q.val - 512 - 512 - 512), by omega⟩ * Ideal.logistic (z ⟨2304 + (q.val - 512 - 512 - 512), by omega⟩))
    = if q.val < 512 ∨ 1536 ≤ q.val then z ⟨768 + q.val, by omega⟩ * Ideal.logistic (z ⟨768 + q.val, by omega⟩)
      else z ⟨768 + q.val, by omega⟩ := by
  by_cases h : q.val < 512
  · rw [dif_pos h, if_pos (Or.inl h)]
  · by_cases h' : q.val - 512 < 512
    · rw [dif_neg h, dif_pos h', if_neg (by omega)]
      exact congrArg z (Fin.ext (by simp only; omega))
    · by_cases h'' : q.val - 512 - 512 < 512
      · rw [dif_neg h, dif_neg h', dif_pos h'', if_neg (by omega)]
        exact congrArg z (Fin.ext (by simp only; omega))
      · rw [dif_neg h, dif_neg h', dif_neg h'', if_pos (by omega)]
        exact congrArg (fun k => z k * Ideal.logistic (z k)) (Fin.ext (by simp only; omega))

theorem queries_at (R : Fin 16384) (q : Fin 512) : queries x w (ix2 R q) = heads (xs x) (ws w) 0 8 (by omega) R q := by
  have e := projected_row x w R
  unfold queries
  generalize projected x w = y at e
  refine (rows8_at _ R q).trans (congrArg (turned · _ _) (funext fun d => ?_))
  refine Eq.trans (b := y (ix3 (seqOf R) (posOf R) ⟨64 * (q.val / 64) + d.val, by omega⟩)) (by pointwise) ((e _).trans ?_)
  exact congrArg (product (xs x) (ws w) R) (Fin.ext (by simp only; omega))

theorem keys_at (R : Fin 16384) (q : Fin 128) : keys x w (ix2 R q) = heads (xs x) (ws w) 512 2 (by omega) R q := by
  have e := projected_row x w R
  unfold keys
  generalize projected x w = y at e
  refine (rows2_at _ R q).trans (congrArg (turned · _ _) (funext fun d => ?_))
  refine Eq.trans (b := y (ix3 (seqOf R) (posOf R) ⟨512 + (64 * (q.val / 64) + d.val), by omega⟩)) (by pointwise) ((e _).trans ?_)
  exact congrArg (product (xs x) (ws w) R) (Fin.ext (by simp only; omega))

theorem values_at (R : Fin 16384) (q : Fin 128) : values x w (ix2 R q) = product (xs x) (ws w) R ⟨640 + q.val, by omega⟩ := by
  have e := projected_row x w R
  unfold values
  generalize projected x w = y at e
  exact Eq.trans (b := y (ix3 (seqOf R) (posOf R) ⟨640 + q.val, by omega⟩)) (by pointwise) (e _)

theorem state_at (R : Fin 16384) (q : Fin 2048) : stateOf (projected x w) (ix2 R q) = tail (xs x) (ws w) R q := by
  have e := projected_row x w R
  have u := unit_at
  unfold tail
  rw [← e]
  unfold stateOf
  generalize projected x w = y
  pointwise [u]
  exact four_parts (fun k => y (ix3 (seqOf R) (posOf R) k)) q

end Cert.Reference4Ideal.Project

end
-- ==== Proof.OddEqual.lean ====
/-
  The odd layers' input projection and its reference leave the same results.
-/
module

public import proofs.«01_k».proof.Proof.OddBlocks
public import proofs.«01_k».proof.Proof.OddReference
public import proofs.«01_k».proof.Defs

@[expose] public section

set_option maxRecDepth 16384

noncomputable section

namespace Cert.Kernel4Ideal.Project

open Cert.Kernel4Ideal Cert.Kernel4Ideal.Gen Cert.Project Idealize.ShloMosaic Idealize.ShloMosaic.TcCoe Idealize.SL.Sem

variable (m : (ℓ : Loc nD τ sig) → Buf (Elt Ideal) ℓ) (c : Dev nD)

theorem queries_eq : (dats m 0 c).arrAt 5 cfg0.N = Cert.Reference4Ideal.Project.queries (rows m c) (weights m c) := by
  funext i
  have e : i = ix2 (i 0) (i 1) := by idx_ext
  rw [e]
  exact (queries_array m c (i 0) (i 1)).trans (Cert.Reference4Ideal.Project.queries_at (rows m c) (weights m c) (i 0) (i 1)).symm

theorem keys_eq : (dats m 0 c).arrAt 6 cfg0.N = Cert.Reference4Ideal.Project.keys (rows m c) (weights m c) := by
  funext i
  have e : i = ix2 (i 0) (i 1) := by idx_ext
  rw [e]
  exact (keys_array m c (i 0) (i 1)).trans (Cert.Reference4Ideal.Project.keys_at (rows m c) (weights m c) (i 0) (i 1)).symm

theorem values_eq : (dats m 0 c).arrAt 7 cfg0.N = Cert.Reference4Ideal.Project.values (rows m c) (weights m c) := by
  funext i
  have e : i = ix2 (i 0) (i 1) := by idx_ext
  rw [e]
  exact (values_array m c (i 0) (i 1)).trans (Cert.Reference4Ideal.Project.values_at (rows m c) (weights m c) (i 0) (i 1)).symm

theorem state_eq : (dats m 0 c).arrAt 8 cfg0.N = Cert.Reference4Ideal.Project.stateOf (Cert.Reference4Ideal.Project.projected (rows m c) (weights m c)) := by
  funext i
  have e : i = ix2 (i 0) (i 1) := by idx_ext
  rw [e]
  exact (state_array m c (i 0) (i 1)).trans (Cert.Reference4Ideal.Project.state_at (rows m c) (weights m c) (i 0) (i 1)).symm

/-- The input projection and its reference, run from the same arguments, leave the same results. -/
theorem algebraic : Cert.algebraic_Kernel4Ideal_Reference4Ideal := by
  intro m g m' g' _ hargs
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g, ?_⟩
  refine (θ_run _ _ _).mono (fun r h c => ?_) (Cert.Reference4Ideal.Value.run (F := Ideal) m' g')
  obtain ⟨h1, h2, h3, h4, h5⟩ := h c
  obtain ⟨e0, e1⟩ := hargs c
  refine ⟨h1.trans ?_, h2.trans ?_, h3.trans ?_, h4.trans ?_, h5⟩
  · refine Eq.trans (b := Cert.Reference4Ideal.Project.queries _ _) rfl ?_
    rw [e0, e1]
    exact (queries_eq m c).symm
  · refine Eq.trans (b := Cert.Reference4Ideal.Project.keys _ _) rfl ?_
    rw [e0, e1]
    exact (keys_eq m c).symm
  · refine Eq.trans (b := Cert.Reference4Ideal.Project.values _ _) rfl ?_
    rw [e0, e1]
    exact (values_eq m c).symm
  · refine Eq.trans (b := Cert.Reference4Ideal.Project.stateOf (Cert.Reference4Ideal.Project.projected _ _)) rfl ?_
    rw [e0, e1]
    exact (state_eq m c).symm

end Cert.Kernel4Ideal.Project

end
-- ==== Proof.OutBlock.lean ====
/-
  The output projection with its layer norm: the mathematics of one row, and that a block of the kernel is that of its rows.
-/
module

public import proofs.«01_k».proof.Proof.FeedSpec
public import proofs.«01_k».proof.Proof.Gen.Kernel5Ideal.Value

@[expose] public section

set_option maxRecDepth 16384

noncomputable section

namespace Cert.Outward

open Cert.Feed Idealize.ShloMosaic

variable (a c : Fin 16384 → Fin 512 → EReal) (x : Fin 16384 → Fin 1024 → EReal) (w : Fin 1024 → Fin 1024 → EReal)

/-- A row of the two halves' product with the weight, added to the scaled input. -/
def summed (R : Fin 16384) (o : Fin 1024) : EReal :=
  lit 0x3FD744FD#32 * x R o + (∑ k : Fin 512, a R k * w ⟨k.val, by omega⟩ o + ∑ k : Fin 512, c R k * w ⟨512 + k.val, by omega⟩ o)

/-- A sum over the lanes, half by half. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

end Cert.Outward

namespace Cert.Kernel5Ideal.Outward

open Cert.Kernel5Ideal Cert.Kernel5Ideal.Gen Cert.Outward Cert.Feed Idealize.ShloMosaic Idealize.ShloMosaic.TcCoe Idealize.SL.Sem

theorem zero2 : (![0, 0] : Fin 2 → Nat) = fun _ => 0 := by decide

/-- Every row's mean. -/
def mean (y : FVec Ideal S512x1024 .f32) : FVec Ideal S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- Every row less its mean. -/
def centred (y : FVec Ideal S512x1024 .f32) : FVec Ideal S512x1024 .f32 :=
  subf y (broadcastTo S512x1024 (mean y) broadcasts_S512x1_S512x1024)

/-- Every row's layer norm. -/
def normed (y : FVec Ideal S512x1024 .f32) (g b : Vec Ideal S1x1024 .f32) : FVec Ideal S512x1024 .f32 :=
  addf (mulf (mulf (centred y)
      (broadcastTo S512x1024 (rsqrt (addf (mean (mulf (centred y) (centred y))) (broadcast S512x1 (Scalar.ofBits .f32 0x3727C5AC#32))))
        broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- The two products, added to the scaled input. -/
def added (a : FVec Ideal S512x512 .bf16) (w : FVec Ideal S1x512x1024 .bf16) (c : FVec Ideal S512x512 .bf16)
    (w' : FVec Ideal S1x512x1024 .bf16) (x : Vec Ideal S512x1024 .f32) : FVec Ideal S512x1024 .f32 :=
  addf (mulf (broadcast S512x1024 (Scalar.ofBits .f32 0x3FD744FD#32)) x)
    (addf (matmul dot_S512x512_S512x1024_S512x1024_1_0_0_1_n_n none a (shapeCast S512x1024 w shapeCasts_S1x512x1024_S512x1024)
        (constant S512x1024 .f32 0x00000000#32))
      (matmul dot_S512x512_S512x1024_S512x1024_1_0_0_1_n_n none c (shapeCast S512x1024 w' shapeCasts_S1x512x1024_S512x1024)
        (constant S512x1024 .f32 0x00000000#32)))

/-- The kernel's block, by its stages. -/
theorem block_eq (a : FVec Ideal S512x512 .bf16) (w : FVec Ideal S1x512x1024 .bf16) (c : FVec Ideal S512x512 .bf16)
    (w' : FVec Ideal S1x512x1024 .bf16) (x : Vec Ideal S512x1024 .f32) (g b : Vec Ideal S1x1024 .f32) :
    k0_pay1 (k0_pay2 b) (k0_pay3 a w c w' x g) = normed (added a w c w' x) g b := rfl

/-- A row's mean. -/
theorem mean_at (y : FVec Ideal S512x1024 .f32) (r : Fin 512) (u : Fin 1) : mean y (ix2 r u) = Cert.Feed.Feed.mean fun k => y (ix2 r k) := by
  unfold mean Cert.Feed.Feed.mean
  pointwise

/-- A row less its mean. -/
theorem centred_at (y : FVec Ideal S512x1024 .f32) (r : Fin 512) (o : Fin 1024) :
    centred y (ix2 r o) = y (ix2 r o) - Cert.Feed.Feed.mean fun k => y (ix2 r k) := by
  rw [← mean_at y r 0]
  unfold centred
  generalize mean y = z
  pointwise

/-- A row's layer norm. -/
theorem normed_at (y : FVec Ideal S512x1024 .f32) (g b : Vec Ideal S1x1024 .f32) (r : Fin 512) (o : Fin 1024) :
    normed y g b (ix2 r o) = Feed.norm (fun k => y (ix2 r k)) (g (ix2 0 o)) (b (ix2 0 o)) o := by
  have e := mean_at (mulf (centred y) (centred y)) r 0
  have e' : ∀ k, mulf (centred y) (centred y) (ix2 r k) = _ := fun k => congrArg₂ (· * ·) (centred_at y r k) (centred_at y r k)
  rw [funext e'] at e
  unfold normed Feed.norm
  rw [← e, ← centred_at y r o]
  generalize centred y = z
  generalize mean (mulf z z) = z'
  pointwise

/-- The sum, at an index. -/
theorem added_at (a : FVec Ideal S512x512 .bf16) (w : Vec Ideal S1x512x1024 .bf16) (c : Vec Ideal S512x512 .bf16)
    (w' : FVec Ideal S1x512x1024 .bf16) (x : Vec Ideal S512x1024 .f32) (r : Fin 512) (o : Fin 1024) :
    added a w c w' x (ix2 r o) = lit 0x3FD744FD#32 * x (ix2 r o)
      + (∑ k : Fin 512, a (ix2 r k) * w (ix3 0 k o) + ∑ k : Fin 512, c (ix2 r k) * w' (ix3 0 k o)) := by
  unfold added
  pointwise

/-- The weight's first half. -/
theorem ld_first (w : Vec Ideal S1x1024x1024 .bf16) (k : Fin 512) (o : Fin 1024) :
    View.ld w r0_1 (ix3 0 k o) = w (ix3 0 ⟨k.val, by omega⟩ o) :=
  congrArg w (funext fun a => Fin.ext (by
    match a with
    | ⟨0, _⟩ => rfl
    | ⟨1, _⟩ => show 0 + 1 * k.val = k.val; omega
    | ⟨2, _⟩ => show 0 + 1 * o.val = o.val; omega))

/-- The weight's second half. -/
theorem ld_second (w : Vec Ideal S1x1024x1024 .bf16) (k : Fin 512) (o : Fin 1024) :
    View.ld w r0_2 (ix3 0 k o) = w (ix3 0 ⟨512 + k.val, by omega⟩ o) :=
  congrArg w (funext fun a => Fin.ext (by
    match a with
    | ⟨0, _⟩ => rfl
    | ⟨1, _⟩ => show 512 + 1 * k.val = 512 + k.val; omega
    | ⟨2, _⟩ => show 0 + 1 * o.val = o.val; omega))

/-- Row `r` of block `T`. -/
abbrev row (T : Fin 32) (r : Fin 512) : Fin 16384 := ⟨512 * T.val + r.val, by omega⟩

/-- The buffers of a block hold its rows, the weight and the norm's rows. -/
structure Holds (a c : Fin 16384 → Fin 512 → EReal) (x : Fin 16384 → Fin 1024 → EReal) (w : Fin 1024 → Fin 1024 → EReal)
    (g b : Fin 1024 → EReal) (T : Fin 32) (x0 x1 : Vec Ideal S512x512 .bf16) (x2 : Vec Ideal S512x1024 .f32)
    (x3 : Vec Ideal S1x1024x1024 .bf16) (x4 x5 : Vec Ideal S1x1024 .f32) : Prop where
  first : ∀ r k, x0 (ix2 r k) = a (row T r) k
  second : ∀ r k, x1 (ix2 r k) = c (row T r) k
  input : ∀ r k, x2 (ix2 r k) = x (row T r) k
  weight : ∀ k o, x3 (ix3 0 k o) = w k o
  scale : ∀ o, x4 (ix2 0 o) = g o
  shift : ∀ o, x5 (ix2 0 o) = b o

variable {a c : Fin 16384 → Fin 512 → EReal} {x : Fin 16384 → Fin 1024 → EReal} {w : Fin 1024 → Fin 1024 → EReal}
  {g b : Fin 1024 → EReal} {T : Fin 32} {x0 x1 : Vec Ideal S512x512 .bf16} {x2 : Vec Ideal S512x1024 .f32}
  {x3 : Vec Ideal S1x1024x1024 .bf16} {x4 x5 : Vec Ideal S1x1024 .f32}

/-- A block is the layer norm of its rows' sums. -/
theorem block_at (h : Holds a c x w g b T x0 x1 x2 x3 x4 x5) (r : Fin 512) (o : Fin 1024) :
    out0_6 x0 x1 x2 x3 x4 x5 (ix2 r o) = Feed.norm (summed a c x w (row T r)) (g o) (b o) o := by
  unfold out0_6
  rw [View.canon_unit_zero zero2, View.ld_unit_zero zero2, View.ld_unit_zero zero2, View.ld_unit_zero zero2, View.ld_unit_zero zero2,
    View.ld_unit_zero zero2, block_eq, normed_at, h.scale, h.shift]
  refine congrArg (Feed.norm · _ _ _) (funext fun q => ?_)
  rw [added_at, h.input]
  unfold summed
  refine congrArg (_ + ·) (congrArg₂ (· + ·) (Finset.sum_congr rfl fun k _ => ?_) (Finset.sum_congr rfl fun k _ => ?_))
  · rw [h.first, ld_first, h.weight]
  · rw [h.second, ld_second, h.weight]

end Cert.Kernel5Ideal.Outward

end
-- ==== Proof.OutReference.lean ====
/-
  The reference of the output projection with its layer norm: its stages, and its result at an index.
-/
module

public import proofs.«01_k».proof.Proof.OutBlock
public import proofs.«01_k».proof.Proof.LastAxis
public import proofs.«01_k».proof.Proof.Gen.Reference5Ideal.Run

@[expose] public section

set_option maxRecDepth 16384

noncomputable section

namespace Cert.Reference5Ideal.Outward

open Cert.Reference5Ideal Cert.Reference5Ideal.Gen Cert.Outward Cert.Feed Idealize.ShloMosaic Idealize.ShloMosaic.TcCoe Idealize.SL.Sem

/-- The two halves beside each other. -/
def joined (a c : FVec Ideal S16384x512 .bf16) : FVec Ideal S16384x1024 .bf16 :=
  concatenate S16384x1024 1 [⟨S16384x512, a⟩, ⟨S16384x512, c⟩] concatenates_S16384x512_S16384x512_S16384x1024_d1

/-- The product with the last layer's weight, added to the scaled input. -/
def added (a c : FVec Ideal S16384x512 .bf16) (x : FVec Ideal S16384x1024 .f32) (w : FVec Ideal S2x1024x1024 .f32) : FVec Ideal S16384x1024 .f32 :=
  addf (mulf (broadcastInDim S16384x1024 ![] bcast_S_S16384x1024 (constant S_ .f32 0x3FD744FD#32)) x)
    (Host.dotGeneral dot_S16384x1024_S1024x1024_S16384x1024_1_0_0_1_n_n none (extf .f32 (joined a c) bitsLt_bf16_f32)
      (shapeCast S1024x1024 (extractStridedSlice S1x1024x1024 ![1, 0, 0] w slices_S2x1024x1024_S1x1024x1024_1_0_0) shapeCasts_S1x1024x1024_S1024x1024))

/-- Every row's mean. -/
def mean (y : FVec Ideal S16384x1024 .f32) : FVec Ideal S16384x1 .f32 :=
  Host.divf (broadcastInDim S16384x1 ![0] bcast_S16384_S16384x1_0 (Host.reduceAdd y (constant S_ .f32 0x00000000#32) reducesTo_S16384x1024_S16384_d1 h_S_))
    (broadcastInDim S16384x1 ![] bcast_S_S16384x1 (constant S_ .f32 0x44800000#32))

/-- A number for each row, along the row. -/
def along (y : FVec Ideal S16384x1 .f32) : FVec Ideal S16384x1024 .f32 :=
  broadcastInDim S16384x1024 ![0, 1] bcast_S16384x1_S16384x1024_0_1 y

/-- Every row less its mean. -/
def centred (y : FVec Ideal S16384x1024 .f32) : FVec Ideal S16384x1024 .f32 := subf y (along (mean y))

/-- The last layer's row of the norm, beside every row. -/
def aside (g : FVec Ideal S4x1024 .f32) : FVec Ideal S16384x1024 .f32 :=
  broadcastInDim S16384x1024 ![0, 1] bcast_S1x1024_S16384x1024_0_1 (broadcastInDim S1x1024 ![1] bcast_S1024_S1x1024_1
    (shapeCast S1024 (extractStridedSlice S1x1024 ![3, 0] g slices_S4x1024_S1x1024_3_0) shapeCasts_S1x1024_S1024))

/-- The layer norm. -/
def normed (y : FVec Ideal S16384x1024 .f32) (g b : FVec Ideal S4x1024 .f32) : FVec Ideal S16384x1024 .f32 :=
  addf (mulf (mulf (centred y) (along (Host.rsqrt (addf (mean (mulf (centred y) (centred y)))
    (broadcastInDim S16384x1 ![] bcast_S_S16384x1 (constant S_ .f32 0x3727C5AC#32)))))) (aside g)) (aside b)

variable (a c : FVec Ideal S16384x512 .bf16) (x : FVec Ideal S16384x1024 .f32) (w : FVec Ideal S2x1024x1024 .f32) (g b : FVec Ideal S4x1024 .f32)

/-- The first half's lanes. -/
theorem joined_first (R : Fin 16384) (k : Fin 512) : joined a c (ix2 R ⟨k.val, by omega⟩) = a (ix2 R k) := by
  unfold joined
  pointwise

/-- The second half's lanes. -/
theorem joined_second (R : Fin 16384) (k : Fin 512) : joined a c (ix2 R ⟨512 + k.val, by omega⟩) = c (ix2 R k) := by
  unfold joined
  pointwise

/-- The sum, at an index. -/
theorem added_at (R : Fin 16384) (o : Fin 1024) :
    added a c x w (ix2 R o) = summed (fun R k => a (ix2 R k)) (fun R k => c (ix2 R k)) (fun R k => x (ix2 R k)) (fun k o => w (ix3 1 k o)) R o := by
  have e := joined_first a c R
  have e' := joined_second a c R
  unfold added
  generalize joined a c = y at e e'
  refine Eq.trans (b := lit 0x3FD744FD#32 * x (ix2 R o) + ∑ k : Fin 1024, y (ix2 R k) * w (ix3 1 k o)) (by pointwise) ?_
  rw [sum_halves]
  simp only [e, e']
  rfl

/-- A row's mean. -/
theorem mean_at (y : FVec Ideal S16384x1024 .f32) (R : Fin 16384) (u : Fin 1) :
    mean y (ix2 R u) = Cert.Feed.Feed.mean fun k => y (ix2 R k) := by
  unfold mean Cert.Feed.Feed.mean
  pointwise

/-- A row less its mean. -/
theorem centred_at (y : FVec Ideal S16384x1024 .f32) (R : Fin 16384) (o : Fin 1024) :
    centred y (ix2 R o) = y (ix2 R o) - Cert.Feed.Feed.mean fun k => y (ix2 R k) := by
  rw [← mean_at y R 0]
  unfold centred along
  generalize mean y = z
  pointwise

/-- A row's layer norm. -/
theorem normed_at (y : FVec Ideal S16384x1024 .f32) (R : Fin 16384) (o : Fin 1024) :
    normed y g b (ix2 R o) = Feed.norm (fun k => y (ix2 R k)) (g (ix2 3 o)) (b (ix2 3 o)) o := by
  have e := mean_at (mulf (centred y) (centred y)) R 0
  have e' : ∀ k : Fin 1024, mulf (centred y) (centred y) (ix2 R k) = _ := fun k => congrArg₂ (· * ·) (centred_at y R k) (centred_at y R k)
  rw [funext e'] at e
  unfold normed Feed.norm along aside
  rw [← e, ← centred_at y R o]
  generalize centred y = z
  generalize mean (mulf z z) = z'
  pointwise

/-- The reference's result, at an index. -/
theorem result_at (R : Fin 16384) (o : Fin 1024) :
    normed (added a c x w) g b (ix2 R o) = Feed.norm
      (summed (fun R k => a (ix2 R k)) (fun R k => c (ix2 R k)) (fun R k => x (ix2 R k)) (fun k o => w (ix3 1 k o)) R)
      (g (ix2 3 o)) (b (ix2 3 o)) o := by
  rw [normed_at]
  exact congrArg (Feed.norm · _ _ _) (funext fun q => added_at a c x w R q)

end Cert.Reference5Ideal.Outward

end
-- ==== Proof.OutEqual.lean ====
/-
  The output projection and its reference leave the same result: point `t` of the grid works on rows 512·t to 512·t + 511 of
  the sequences one after another.
-/
module

public import proofs.«01_k».proof.Proof.OutReference
public import proofs.«01_k».proof.Defs

@[expose] public section

set_option maxRecDepth 16384

noncomputable section

namespace Cert.Kernel5Ideal.Outward

open Cert.Kernel5Ideal Cert.Kernel5Ideal.Gen Cert.Outward Cert.Feed Idealize.ShloMosaic Idealize.ShloMosaic.TcCoe Idealize.SL.Sem

/-- Where each window lies at a grid point. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 1 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

variable (m : (ℓ : Loc nD τ sig) → Buf (Elt Ideal) ℓ) (c : Dev nD)

/-- The arguments launched on device `c`. -/
def argA : FVec Ideal S16384x512 .bf16 := m ((c : Thread nD τ).loc main_arg0)
def argC : FVec Ideal S16384x512 .bf16 := m ((c : Thread nD τ).loc main_arg1)
def argX : FVec Ideal S16384x1024 .f32 := m ((c : Thread nD τ).loc main_arg2)
def argW : FVec Ideal S2x1024x1024 .f32 := m ((c : Thread nD τ).loc main_arg3)
def argG : FVec Ideal S4x1024 .f32 := m ((c : Thread nD τ).loc main_arg4)
def argB : FVec Ideal S4x1024 .f32 := m ((c : Thread nD τ).loc main_arg5)

/-- The window of the first half. -/
theorem first_at (t : Fin cfg0.N) (r k : Fin 512) : iblk m c 0 t (ix2 r k) = argA m c (ix2 (row t r) k) := by
  obtain ⟨⟨e0, e1⟩, -⟩ := places t
  refine Eq.trans ?_ (congrFun (V_main_arg0 m c) _)
  show V m c main_arg0 (((cfg0.win 0).blk t).view.emb (ix2 r k)) = _
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 512 + 1 * k.val = k.val; omega

/-- The window of the second half. -/
theorem second_at (t : Fin cfg0.N) (r k : Fin 512) : iblk m c 1 t (ix2 r k) = argC m c (ix2 (row t r) k) := by
  obtain ⟨-, ⟨e0, e1⟩, -⟩ := places t
  refine Eq.trans ?_ (congrFun (V_main_arg1 m c) _)
  show V m c main_arg1 (((cfg0.win 1).blk t).view.emb (ix2 r k)) = _
  refine congrArg _ (funext fun a => Fin.ext ?_)
  match a with
  | ⟨0, _⟩ => show win0_1.index t (0 : Fin 2) * 512 + 1 * r.val = 512 * t.val + r.val; omega
  | ⟨1, _⟩ => show win0_1.index t (1 : Fin 2) * 512 + 1 * k.val = k.val; omega

/-- The window of the input. -/
theorem input_at (t : Fin cfg0.N) (r : Fin 512) (k : Fin 1024) : iblk m c 2 t (ix2 r k) = argX m c (ix2 (row t r) k) := by
  obtain ⟨-, -, ⟨e0, e1⟩, -⟩ := places t
  refine Eq.trans ?_ (congrFun (V_main_arg2 m c) _)
  show V m c main_arg2 (((cfg0.win 2).blk t).view.emb (ix2 r k)) = _
  refine congrArg _ (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * k.val = k.val; omega

/-- The window of the weight. -/
theorem weight_at (t : Fin cfg0.N) (k o : Fin 1024) : iblk m c 3 t (ix3 (0 : Fin 1) k o) = argW m c (ix3 1 k o) := by
  obtain ⟨-, -, -, ⟨e0, e1, e2⟩, -⟩ := places t
  have e : V m c main_v0 = argW m c := by
    show StableHlo.after hostOps0 _ (Proc.devRef .tc main_v0) = _
    after_results
    rfl
  refine Eq.trans ?_ (congrFun e _)
  show V m c main_v0 (((cfg0.win 3).blk t).view.emb (ix3 (0 : Fin 1) k o)) = _
  refine congrArg _ (funext fun a => Fin.ext ?_)
  match a with
  | ⟨0, _⟩ => show win0_3.index t (0 : Fin 3) * 1 + 1 * 0 = 1; omega
  | ⟨1, _⟩ => show win0_3.index t (1 : Fin 3) * 1024 + 1 * k.val = k.val; omega
  | ⟨2, _⟩ => show win0_3.index t (2 : Fin 3) * 1024 + 1 * o.val = o.val; omega

/-- The last layer's row of the norm. -/
theorem last_at (y : FVec Ideal S4x1024 .f32) (o : Fin 1024) :
    broadcastInDim S1x1024 ![1] bcast_S1024_S1x1024_1 (shapeCast S1024 (extractStridedSlice S1x1024 ![3, 0] y
      slices_S4x1024_S1x1024_3_0) shapeCasts_S1x1024_S1024) (ix2 (0 : Fin 1) o) = y (ix2 3 o) := by
  pointwise

/-- The window of the norm's scale. -/
theorem scale_at (t : Fin cfg0.N) (o : Fin 1024) : iblk m c 4 t (ix2 (0 : Fin 1) o) = argG m c (ix2 3 o) := by
  obtain ⟨-, -, -, -, ⟨e0, e1⟩, -⟩ := places t
  have e : V m c main_v5 = broadcastInDim S1x1024 ![1] bcast_S1024_S1x1024_1 (shapeCast S1024 (extractStridedSlice S1x1024 ![3, 0]
      (argG m c) slices_S4x1024_S1x1024_3_0) shapeCasts_S1x1024_S1024) := by
    show StableHlo.after hostOps0 _ (Proc.devRef .tc main_v5) = _
    after_results
    rfl
  have e' : iblk m c 4 t (ix2 (0 : Fin 1) o) = V m c main_v5 (ix2 (0 : Fin 1) o) := by
    show V m c main_v5 (((cfg0.win 4).blk t).view.emb (ix2 (0 : Fin 1) o)) = _
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * o.val = o.val; omega
  rw [e', e, last_at]

/-- The window of the norm's shift. -/
theorem shift_at (t : Fin cfg0.N) (o : Fin 1024) : iblk m c 5 t (ix2 (0 : Fin 1) o) = argB m c (ix2 3 o) := by
  obtain ⟨-, -, -, -, -, ⟨e0, e1⟩, -⟩ := places t
  have e : V m c main_v6 = broadcastInDim S1x1024 ![1] bcast_S1024_S1x1024_1 (shapeCast S1024 (extractStridedSlice S1x1024 ![3, 0]
      (argB m c) slices_S4x1024_S1x1024_3_0) shapeCasts_S1x1024_S1024) := by
    show StableHlo.after hostOps0 _ (Proc.devRef .tc main_v6) = _
    after_results
    rfl
  have e' : iblk m c 5 t (ix2 (0 : Fin 1) o) = V m c main_v6 (ix2 (0 : Fin 1) o) := by
    show V m c main_v6 (((cfg0.win 5).blk t).view.emb (ix2 (0 : Fin 1) o)) = _
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * o.val = o.val; omega
  rw [e', e, last_at]

theorem holds (t : Fin cfg0.N) :
    Holds (fun R k => argA m c (ix2 R k)) (fun R k => argC m c (ix2 R k)) (fun R k => argX m c (ix2 R k)) (fun k o => argW m c (ix3 1 k o))
      (fun o => argG m c (ix2 3 o)) (fun o => argB m c (ix2 3 o)) t
      (iblk m c 0 t) (iblk m c 1 t) (iblk m c 2 t) (iblk m c 3 t) (iblk m c 4 t) (iblk m c 5 t) where
  first := first_at m c t
  second := second_at m c t
  input := input_at m c t
  weight := weight_at m c t
  scale := scale_at m c t
  shift := shift_at m c t

/-- The grid point that works on a row. -/
abbrev pointOf (R : Fin 16384) : Fin 32 := ⟨R.val / 512, by omega⟩

/-- The row's place in that point's block. -/
abbrev inBlock (R : Fin 16384) : Fin 512 := ⟨R.val % 512, by omega⟩

theorem row_point (R : Fin 16384) : row (pointOf R) (inBlock R) = R :=
  Fin.ext (by show 512 * (R.val / 512) + R.val % 512 = R.val; omega)

/-- The result after the run. -/
theorem out_array : (dats m 0 c).arrAt 6 cfg0.N
    = Cert.Reference5Ideal.Outward.normed (Cert.Reference5Ideal.Outward.added (argA m c) (argC m c) (argX m c) (argW m c)) (argG m c) (argB m c) := by
  have key : ∀ (R : Fin 16384) (o : Fin 1024), (dats m 0 c).arrAt 6 cfg0.N (ix2 R o)
      = Cert.Reference5Ideal.Outward.normed (Cert.Reference5Ideal.Outward.added (argA m c) (argC m c) (argX m c) (argW m c))
        (argG m c) (argB m c) (ix2 R o) := fun R o => by
    rw [Cert.Reference5Ideal.Outward.result_at]
    let t : Fin cfg0.N := pointOf R
    have ht : t.val = R.val / 512 := rfl
    obtain ⟨-, -, -, -, -, -, ⟨e0, e1⟩⟩ := places t
    have he : ix2 R o = ((cfg0.win 6).blk t).view.emb (ix2 (inBlock R) o) := by
      refine funext fun a => Fin.ext ?_
      match a with
      | ⟨0, _⟩ => show R.val = win0_6.index t (0 : Fin 2) * 512 + 1 * (R.val % 512); omega
      | ⟨1, _⟩ => show o.val = win0_6.index t (1 : Fin 2) * 1024 + 1 * o.val; omega
    have hblk := congrFun (Value.blocks6 m c t (flush0_6 t)) (ix2 (inBlock R) o)
    rw [Value.flushed6] at hblk
    rw [he]
    refine hblk.trans ((block_at (holds m c t) (inBlock R) o).trans ?_)
    rw [row_point]
  funext i
  have e : i = ix2 (i 0) (i 1) := by idx_ext
  rw [e]
  exact key (i 0) (i 1)

/-- The output projection and its reference, run from the same arguments, leave the same result. -/
theorem algebraic : Cert.algebraic_Kernel5Ideal_Reference5Ideal := by
  intro m g m' g' _ hargs
  refine ⟨fun c => (dats m 0 c).arrAt 6 cfg0.N, Value.run_blocks m g, ?_⟩
  refine (θ_run _ _ _).mono (fun r h c => ?_) (Cert.Reference5Ideal.Value.run (F := Ideal) m' g')
  obtain ⟨h1, h2⟩ := h c
  obtain ⟨e0, e1, e2, e3, e4, e5⟩ := hargs c
  refine ⟨h1.trans ?_, h2⟩
  refine Eq.trans (b := Cert.Reference5Ideal.Outward.normed (Cert.Reference5Ideal.Outward.added _ _ _ _) _ _) rfl ?_
  rw [e0, e1, e2, e3, e4, e5]
  exact (out_array m c).symm

end Cert.Kernel5Ideal.Outward

end
-- ==== Proof.SampleSpec.lean ====
/-
  The feed-forward block's mathematics over many short sequences: each is a sequence of eight rows, and the rows after
  the eighth are not looked at.
-/
module

public import proofs.«01_k».proof.Proof.FeedSpec

@[expose] public section

noncomputable section

namespace Cert.Feed

open Idealize.ShloMosaic

/-- The arrays the block is given: 128 sequences of eight rows, the rows before them, and four layers' weights. -/
structure Batch where
  x : (⟨3, ![128, 8, 1024]⟩ : Shape).Idx → EReal
  h : (⟨3, ![128, 2, 2816]⟩ : Shape).Idx → EReal
  wg : (⟨3, ![4, 1024, 2816]⟩ : Shape).Idx → EReal
  wu : (⟨3, ![4, 1024, 2816]⟩ : Shape).Idx → EReal
  wd : (⟨3, ![4, 2816, 1024]⟩ : Shape).Idx → EReal
  wc : (⟨3, ![4, 3, 2816]⟩ : Shape).Idx → EReal
  bc : (⟨2, ![4, 2816]⟩ : Shape).Idx → EReal
  g : (⟨2, ![4, 1024]⟩ : Shape).Idx → EReal
  b : (⟨2, ![4, 1024]⟩ : Shape).Idx → EReal

/-- Sequence `n` with the last layer's weights, its rows followed by rows of zeros. -/
def Batch.feed (A : Batch) (n : Fin 128) : Feed where
  x l k := if h : l.val < 8 then A.x (ix3 n ⟨l.val, h⟩ k) else 0
  h j c := A.h (ix3 n j c)
  wg k c := A.wg (ix3 3 k c)
  wu k c := A.wu (ix3 3 k c)
  wd c o := A.wd (ix3 3 c o)
  wc j c := A.wc (ix3 3 j c)
  bc c := A.bc (ix2 3 c)
  g o := A.g (ix2 3 o)
  b o := A.b (ix2 3 o)

/-- Row `l` of a short sequence, among a sequence's rows. -/
abbrev early (l : Fin 8) : Fin 2048 := ⟨l.val, by omega⟩

theorem Batch.feed_x (A : Batch) (n : Fin 128) (l : Fin 8) (k : Fin 1024) : (A.feed n).x (early l) k = A.x (ix3 n l k) :=
  dif_pos l.isLt

/-- The rows after the two before them are the gate product's. -/
theorem Feed.rows_of_le (S : Feed) (i : Fin 2050) (l : Fin 2048) (h : i.val = l.val + 2) (c : Fin 2816) :
    S.rows i c = S.product S.wg l c := by
  unfold Feed.rows
  rw [dif_neg (by omega)]
  exact congrArg (S.product S.wg · c) (Fin.ext (by simp only; omega))

/-- The two rows before. -/
theorem Feed.rows_of_lt (S : Feed) (i : Fin 2050) (j : Fin 2) (h : i.val = j.val) (c : Fin 2816) : S.rows i c = S.h j c := by
  unfold Feed.rows
  rw [dif_pos (by omega)]
  exact congrArg (S.h · c) (Fin.ext h)

end Cert.Feed

end
-- ==== Proof.SampleBlock.lean ====
/-
  The feed-forward kernel for the short sequences: a block is the eleven runs' sum added to the input and normalized, and
  every row of it is the mathematics of its sequence.
-/
module

public import proofs.«01_k».proof.Proof.FeedBlock
public import proofs.«01_k».proof.Proof.SampleSpec
public import proofs.«01_k».proof.Proof.OutBlock
public import proofs.«01_k».proof.Proof.Gen.Kernel6Ideal.Value

@[expose] public section

set_option maxRecDepth 16384

noncomputable section

namespace Cert.Kernel6Ideal.Sample

open Cert.Kernel6Ideal Cert.Kernel6Ideal.Gen Cert.Feed Idealize.ShloMosaic Idealize.ShloMosaic.TcCoe Idealize.SL.Sem
open Cert.Kernel2Ideal.Feed (rC rD rK rB lane ld_wide ld_tall ld_tap ld_bias runOf laneOf)
open Cert.Kernel5Ideal.Outward (zero2)

theorem fitsR (n : Fin 11) : ∀ a, ![0, 256 * n.val] a + S512x256.size a ≤ S512x2816.size a := fun a => by
  match a with
  | ⟨0, _⟩ => exact Nat.le_refl _
  | ⟨1, _⟩ => show 256 * n.val + 256 ≤ 2816; omega

/-- Run `n` of the hidden lanes of a block of rows. -/
def rR (n : Fin 11) : Rect S512x2816 := Rect.unit ![0, 256 * n.val] S512x256.size (fitsR n)

/-- The sum of the runs so far and run `n`. -/
def step (x : FVec Ideal S512x1024 .f32) (x1 : FVec Ideal S512x2816 .f32) (x2 x3 : FVec Ideal S1x1024x2816 .bf16)
    (x4 : FVec Ideal S1x2816x1024 .bf16) (x5 : FVec Ideal S3x2816 .f32) (x6 : FVec Ideal S1x2816 .f32)
    (acc : FVec Ideal S512x1024 .f32) (n : Fin 11) : FVec Ideal S512x1024 .f32 :=
  k0_pay9 (k0_pay2 x) acc (k0_pay5 x (View.ld x2 (rC n))) (k0_pay7 x (View.ld x2 (rC n)) (View.ld x1 (rR n)))
    (k0_pay8 x (View.ld x2 (rC n)) (View.ld x1 (rR n))) (View.ld x5 (rK 0 n)) (View.ld x5 (rK 1 n)) (View.ld x5 (rK 2 n))
    (View.ld x6 (rB n)) (View.ld x3 (rC n)) (View.ld x4 (rD n))

/-- The runs' sum, in the kernel's order. -/
def total (f : FVec Ideal S512x1024 .f32 → Fin 11 → FVec Ideal S512x1024 .f32) : FVec Ideal S512x1024 .f32 :=
  f (f (f (f (f (f (f (f (f (f (f k0_pay4 0) 1) 2) 3) 4) 5) 6) 7) 8) 9) 10

/-- The sum added to the scaled input. -/
def added (x : FVec Ideal S512x1024 .f32) (acc : FVec Ideal S512x1024 .f32) : FVec Ideal S512x1024 .f32 :=
  addf (mulf (broadcast S512x1024 (Scalar.ofBits .f32 0x3FD744FD#32)) (k0_pay1 x)) acc

theorem total_at (f : FVec Ideal S512x1024 .f32 → Fin 11 → FVec Ideal S512x1024 .f32) (g : Fin 11 → EReal) (r : Fin 512)
    (o : Fin 1024) (hf : ∀ acc n, f acc n (ix2 r o) = acc (ix2 r o) + g n) : total f (ix2 r o) = ∑ n, g n := by
  have e4 : k0_pay4 (F := Ideal) (ix2 r o) = 0 := by
    unfold k0_pay4
    pointwise
  unfold total
  simp only [hf, e4, Fin.sum_univ_succ, Fin.sum_univ_zero, add_zero, zero_add, ← add_assoc]
  rfl

/-- The kernel's block, by its stages. -/
theorem block_eq (x0 : Vec Ideal S512x1024 .f32) (x1 : Vec Ideal S512x2816 .f32) (x2 x3 : Vec Ideal S1x1024x2816 .bf16)
    (x4 : Vec Ideal S1x2816x1024 .bf16) (x5 : Vec Ideal S3x2816 .f32) (x6 : Vec Ideal S1x2816 .f32) (x7 x8 : Vec Ideal S1x1024 .f32) :
    out0_9 x0 x1 x2 x3 x4 x5 x6 x7 x8 = View.canon [⟨r0_0, Cert.Kernel5Ideal.Outward.normed
      (added (View.ld x0 r0_0) (total (step (View.ld x0 r0_0) x1 x2 x3 x4 x5 x6))) (View.ld x7 r0_78) (View.ld x8 r0_78)⟩] := by
  sl_kernel_rfl

/-- The gate product's block, run by run. -/
def gates (x : FVec Ideal S512x1024 .f32) (x2 : FVec Ideal S1x1024x2816 .bf16) : Vec Ideal S512x2816 .f32 := fun y =>
  k0_pay5 (F := Ideal) x (View.ld x2 (rC (runOf (y 1)))) (ix2 (y 0) (laneOf (y 1)))

/-- A run's piece is the run of the gate product's block. -/
theorem piece_at (x : FVec Ideal S512x1024 .f32) (x2 : FVec Ideal S1x1024x2816 .bf16) (n : Fin 11) (y : S512x256.Idx) :
    k0_pay5 (F := Ideal) x (View.ld x2 (rC n)) y = gates x x2 ((rR n).emb y) := by
  have e1 : runOf ((rR n).emb y 1) = n := Fin.ext (by
    show (256 * n.val + 1 * (y 1).val) / 256 = n.val
    have h : (y 1).val < 256 := (y 1).isLt
    omega)
  have e2 : (ix2 ((rR n).emb y 0) (laneOf ((rR n).emb y 1)) : S512x256.Idx) = y := by
    refine funext fun a => Fin.ext ?_
    match a with
    | ⟨0, _⟩ => show 0 + 1 * (y 0).val = (y 0).val; omega
    | ⟨1, _⟩ =>
      show (256 * n.val + 1 * (y 1).val) % 256 = (y 1).val
      have h : (y 1).val < 256 := (y 1).isLt
      omega
  unfold gates
  rw [e1]
  exact congrArg (k0_pay5 (F := Ideal) x (View.ld x2 (rC n))) e2.symm

/-- The kernel's block of the gate product. -/
theorem gates_eq (x0 : Vec Ideal S512x1024 .f32) (x1 : Vec Ideal S512x2816 .f32) (x2 x3 : Vec Ideal S1x1024x2816 .bf16)
    (x4 : Vec Ideal S1x2816x1024 .bf16) (x5 : Vec Ideal S3x2816 .f32) (x6 : Vec Ideal S1x2816 .f32) (x7 x8 : Vec Ideal S1x1024 .f32) :
    out0_10 x0 x1 x2 x3 x4 x5 x6 x7 x8 = View.canon (Val := Elt Ideal) (e := .f32) ((List.finRange 11).reverse.map fun n =>
      (⟨rR n, k0_pay5 (F := Ideal) (View.ld x0 r0_0) (View.ld x2 (rC n))⟩ : View.Piece (Elt Ideal) S512x2816 .f32)) := by
  sl_kernel_rfl

theorem pay5_at (x : FVec Ideal S512x1024 .f32) (w : FVec Ideal S1x1024x256 .bf16) (r : Fin 512) (q : Fin 256) :
    k0_pay5 (F := Ideal) x w (ix2 r q) = ∑ k : Fin 1024, x (ix2 r k) * w (ix3 0 k q) := by
  unfold k0_pay5 k0_pay2 k0_pay1
  pointwise

theorem pay2_at (x : FVec Ideal S512x1024 .f32) (r : Fin 512) (k : Fin 1024) : k0_pay2 (F := Ideal) x (ix2 r k) = x (ix2 r k) := by
  unfold k0_pay2 k0_pay1
  pointwise

/-- A row's place in its sequence of eight, as a word. -/
theorem pay3_at (r : Fin 512) (q : Fin 256) : k0_pay3 (ix2 r q) = BitVec.ofNat 32 (r.val % 8) := by
  unfold k0_pay3
  pointwise
  revert r
  decide +kernel

theorem pay7_at (x : FVec Ideal S512x1024 .f32) (w : FVec Ideal S1x1024x256 .bf16) (h : FVec Ideal S512x256 .f32) (r : Fin 512)
    (q : Fin 256) : k0_pay7 (F := Ideal) x w h (ix2 r q) = if r.val % 8 = 0 then h (ix2 ⟨(r.val + 7) % 512, by omega⟩ q)
      else k0_pay5 (F := Ideal) x w (ix2 ⟨(r.val + 511) % 512, by omega⟩ q) := by
  have e3 := pay3_at r q
  unfold k0_pay7 k0_pay6
  generalize k0_pay5 (F := Ideal) x w = y
  generalize k0_pay3 = z at e3
  pointwise [e3]
  rw [WordCmp.cmpi_eq_ofNat (by omega) (by omega), WordCmp.select_decide]
  exact if_congr Iff.rfl (congrArg h (by idx_ext)) (congrArg y (by idx_ext))

theorem pay8_at (x : FVec Ideal S512x1024 .f32) (w : FVec Ideal S1x1024x256 .bf16) (h : FVec Ideal S512x256 .f32) (r : Fin 512)
    (q : Fin 256) : k0_pay8 (F := Ideal) x w h (ix2 r q) = if r.val % 8 < 2 then h (ix2 ⟨(r.val + 6) % 512, by omega⟩ q)
      else k0_pay5 (F := Ideal) x w (ix2 ⟨(r.val + 510) % 512, by omega⟩ q) := by
  have e3 := pay3_at r q
  unfold k0_pay8 k0_pay6
  generalize k0_pay5 (F := Ideal) x w = y
  generalize k0_pay3 = z at e3
  pointwise [e3]
  rw [WordCmp.cmpi_slt_ofNat (by omega) (by omega), WordCmp.select_decide]
  exact if_congr Iff.rfl (congrArg h (by idx_ext)) (congrArg y (by idx_ext))

theorem ld_hist (w : Vec Ideal S512x2816 .f32) (n : Fin 11) (r : Fin 512) (q : Fin 256) :
    View.ld w (rR n) (ix2 r q) = w (ix2 r (lane n q)) :=
  congrArg w (funext fun a => Fin.ext (by
    match a with
    | ⟨0, _⟩ => show 0 + 1 * r.val = r.val; omega
    | ⟨1, _⟩ => show 256 * n.val + 1 * q.val = 256 * n.val + q.val; omega))

/-- The sequence of row `r` of half `T` of the batch. -/
abbrev seq (T : Fin 2) (r : Fin 512) : Fin 128 := ⟨64 * T.val + r.val / 8, by omega⟩

/-- Its place in the sequence. -/
abbrev pos (r : Fin 512) : Fin 2048 := ⟨r.val % 8, by omega⟩

/-- The buffers a block is computed from hold half `T` of the batch, the rows before its sequences and the layer's weights. -/
structure Holds (S : Fin 128 → Feed) (T : Fin 2) (x : Vec Ideal S512x1024 .f32) (x1 : Vec Ideal S512x2816 .f32)
    (x2 x3 : Vec Ideal S1x1024x2816 .bf16) (x4 : Vec Ideal S1x2816x1024 .bf16) (x5 : Vec Ideal S3x2816 .f32)
    (x6 : Vec Ideal S1x2816 .f32) (x7 x8 : Vec Ideal S1x1024 .f32) : Prop where
  before : ∀ (r : Fin 512) (j : Fin 2) (c : Fin 2816), r.val % 8 = 6 + j.val → x1 (ix2 r c) = (S (seq T r)).h j c
  input : ∀ r k, x (ix2 r k) = (S (seq T r)).x (pos r) k
  gate : ∀ s k c, x2 (ix3 0 k c) = (S s).wg k c
  up : ∀ s k c, x3 (ix3 0 k c) = (S s).wu k c
  down : ∀ s c o, x4 (ix3 0 c o) = (S s).wd c o
  taps : ∀ s j c, x5 (ix2 j c) = (S s).wc j c
  bias : ∀ s c, x6 (ix2 0 c) = (S s).bc c
  scale : ∀ s o, x7 (ix2 0 o) = (S s).g o
  shift : ∀ s o, x8 (ix2 0 o) = (S s).b o

section

variable {S : Fin 128 → Feed} {T : Fin 2} {x : Vec Ideal S512x1024 .f32} {x1 : Vec Ideal S512x2816 .f32}
  {x2 x3 : Vec Ideal S1x1024x2816 .bf16} {x4 : Vec Ideal S1x2816x1024 .bf16} {x5 : Vec Ideal S3x2816 .f32}
  {x6 : Vec Ideal S1x2816 .f32} {x7 x8 : Vec Ideal S1x1024 .f32} (h : Holds S T x x1 x2 x3 x4 x5 x6 x7 x8)
include h

/-- A row of the gate product. -/
theorem here_at (n : Fin 11) (r : Fin 512) (q : Fin 256) :
    k0_pay5 (F := Ideal) x (View.ld x2 (rC n)) (ix2 r q) = (S (seq T r)).product (S (seq T r)).wg (pos r) (lane n q) := by
  refine (pay5_at x (View.ld x2 (rC n)) r q).trans ?_
  unfold Feed.product
  refine Finset.sum_congr rfl fun k _ => ?_
  rw [h.input, ld_wide, h.gate (seq T r)]

/-- An earlier row of the gate product, in the same sequence. -/
theorem earlier_at (n : Fin 11) (r r' : Fin 512) (q : Fin 256) (i : Fin 2050) (d : Nat) (hd : r'.val + d = r.val)
    (hp : d ≤ r.val % 8) (hi : i.val + d = r.val % 8 + 2) :
    k0_pay5 (F := Ideal) x (View.ld x2 (rC n)) (ix2 r' q) = (S (seq T r)).rows i (lane n q) := by
  have es : seq T r' = seq T r := Fin.ext (by show 64 * T.val + r'.val / 8 = 64 * T.val + r.val / 8; omega)
  rw [here_at h n r' q, es]
  exact (Feed.rows_of_le _ i (pos r') (by show i.val = r'.val % 8 + 2; omega) _).symm

/-- A row before the sequence. -/
theorem before_at (n : Fin 11) (r r' : Fin 512) (q : Fin 256) (i : Fin 2050) (hi : i.val < 2)
    (hr : r'.val / 8 = r.val / 8) (hp : r'.val % 8 = 6 + i.val) :
    View.ld x1 (rR n) (ix2 r' q) = (S (seq T r)).rows i (lane n q) := by
  have es : seq T r' = seq T r := Fin.ext (by show 64 * T.val + r'.val / 8 = 64 * T.val + r.val / 8; omega)
  rw [ld_hist, h.before r' ⟨i.val, hi⟩ _ hp, es]
  exact (Feed.rows_of_lt _ i ⟨i.val, hi⟩ rfl _).symm

/-- The row before. -/
theorem prev_at (n : Fin 11) (r : Fin 512) (q : Fin 256) :
    k0_pay7 (F := Ideal) x (View.ld x2 (rC n)) (View.ld x1 (rR n)) (ix2 r q) = (S (seq T r)).rows ⟨r.val % 8 + 1, by omega⟩ (lane n q) := by
  refine (pay7_at x (View.ld x2 (rC n)) (View.ld x1 (rR n)) r q).trans ?_
  by_cases h0 : r.val % 8 = 0
  · rw [if_pos h0]
    exact before_at h n r _ q _ (by simp only; omega) (by simp only; omega) (by simp only; omega)
  · rw [if_neg h0]
    exact earlier_at h n r _ q _ 1 (by simp only; omega) (by omega) rfl

/-- The row two before. -/
theorem prev2_at (n : Fin 11) (r : Fin 512) (q : Fin 256) :
    k0_pay8 (F := Ideal) x (View.ld x2 (rC n)) (View.ld x1 (rR n)) (ix2 r q) = (S (seq T r)).rows ⟨r.val % 8, by omega⟩ (lane n q) := by
  refine (pay8_at x (View.ld x2 (rC n)) (View.ld x1 (rR n)) r q).trans ?_
  by_cases h0 : r.val % 8 < 2
  · rw [if_pos h0]
    exact before_at h n r _ q _ (by simp only; omega) (by simp only; omega) (by simp only; omega)
  · rw [if_neg h0]
    exact earlier_at h n r _ q _ 2 (by simp only; omega) (by omega) rfl

/-- What a run adds. -/
theorem step_at (acc : FVec Ideal S512x1024 .f32) (n : Fin 11) (r : Fin 512) (o : Fin 1024) :
    step x x1 x2 x3 x4 x5 x6 acc n (ix2 r o) = acc (ix2 r o)
      + ∑ q : Fin 256, (S (seq T r)).hidden (pos r) (lane n q) * (S (seq T r)).wd (lane n q) o := by
  have e0 := fun q => (here_at h n r q).trans (Feed.rows_of_le (S (seq T r)) ⟨r.val % 8 + 2, by omega⟩ (pos r) rfl (lane n q)).symm
  have e1 := prev_at h n r
  have e2 := prev2_at h n r
  have ex : ∀ k, k0_pay2 (F := Ideal) x (ix2 r k) = (S (seq T r)).x (pos r) k := fun k => (pay2_at x r k).trans (h.input r k)
  unfold step
  generalize k0_pay5 (F := Ideal) x (View.ld x2 (rC n)) = y0 at e0
  generalize k0_pay7 (F := Ideal) x (View.ld x2 (rC n)) (View.ld x1 (rR n)) = y1 at e1
  generalize k0_pay8 (F := Ideal) x (View.ld x2 (rC n)) (View.ld x1 (rR n)) = y2 at e2
  have t0 := fun q => (ld_tap x5 0 n q).trans (h.taps (seq T r) 0 _)
  have t1 := fun q => (ld_tap x5 1 n q).trans (h.taps (seq T r) 1 _)
  have t2 := fun q => (ld_tap x5 2 n q).trans (h.taps (seq T r) 2 _)
  have tb := fun q => (ld_bias x6 n q).trans (h.bias (seq T r) _)
  have tu := fun k q => (ld_wide x3 n k q).trans (h.up (seq T r) k _)
  have td := fun q => (ld_tall x4 n q o).trans (h.down (seq T r) _ o)
  generalize View.ld x5 (rK 0 n) = k0 at t0
  generalize View.ld x5 (rK 1 n) = k1 at t1
  generalize View.ld x5 (rK 2 n) = k2 at t2
  generalize View.ld x6 (rB n) = kb at tb
  generalize View.ld x3 (rC n) = ku at tu
  generalize View.ld x4 (rD n) = kd at td
  generalize k0_pay2 (F := Ideal) x = xb at ex
  unfold k0_pay9
  pointwise
  refine congrArg (_ + ·) (Finset.sum_congr rfl fun q _ => ?_)
  rw [t0, t1, t2, tb, td, e0, e1, e2]
  simp only [ex, tu]
  rfl

/-- The runs' sum, with the scaled input. -/
theorem summed_at (r : Fin 512) (o : Fin 1024) :
    added x (total (step x x1 x2 x3 x4 x5 x6)) (ix2 r o) = (S (seq T r)).summed (pos r) o := by
  have e' : ∀ y : FVec Ideal S512x1024 .f32, added x y (ix2 r o) = lit 0x3FD744FD#32 * x (ix2 r o) + y (ix2 r o) := fun y => by
    unfold added k0_pay1
    pointwise
  rw [e', h.input, Feed.summed, sum_runs]
  exact congrArg (fun z : EReal => lit 0x3FD744FD#32 * (S (seq T r)).x (pos r) o + z)
    (total_at _ _ r o fun acc n => step_at h acc n r o)

/-- The block a grid point writes is the mathematics of its rows. -/
theorem out_at (r : Fin 512) (o : Fin 1024) :
    out0_9 x x1 x2 x3 x4 x5 x6 x7 x8 (ix2 r o) = (S (seq T r)).out (pos r) o := by
  rw [block_eq, View.canon_unit_zero zero2, View.ld_unit_zero zero2, View.ld_unit_zero zero2, View.ld_unit_zero zero2,
    Cert.Kernel5Ideal.Outward.normed_at, h.scale (seq T r), h.shift (seq T r), funext fun k => summed_at h r k]
  rfl

/-- The other is the gate product of its rows. -/
theorem gates_at (r : Fin 512) (c : Fin 2816) :
    out0_10 x x1 x2 x3 x4 x5 x6 x7 x8 (ix2 r c) = (S (seq T r)).product (S (seq T r)).wg (pos r) c := by
  rw [gates_eq, View.ld_unit_zero zero2]
  refine (View.canon_apply_of_pieces (Val := Elt Ideal) (e := .f32) (gates x x2) _ (fun p hp => ?_) (ix2 r c) ?_).trans ?_
  · obtain ⟨n, -, rfl⟩ := List.mem_map.mp hp
    exact piece_at x x2 n
  · refine ⟨_, List.mem_map.mpr ⟨runOf c, by simp, rfl⟩, (Rect.mem_set_unit (inb := fitsR (runOf c))).mpr fun a => ?_⟩
    match a with
    | ⟨0, _⟩ => exact ⟨Nat.zero_le _, by show r.val < 0 + 512; omega⟩
    | ⟨1, _⟩ => exact ⟨by show 256 * (c.val / 256) ≤ c.val; omega, by show c.val < 256 * (c.val / 256) + 256; omega⟩
  · refine (here_at h (runOf c) r (laneOf c)).trans ?_
    exact congrArg ((S (seq T r)).product (S (seq T r)).wg (pos r)) (Fin.ext (by
      show 256 * (c.val / 256) + c.val % 256 = c.val
      omega))

end

end Cert.Kernel6Ideal.Sample

end
-- ==== Proof.SampleReference.lean ====
/-
  The reference of the feed-forward block for the short sequences: its stages, and that its results are the block's
  mathematics.
-/
module

public import proofs.«01_k».proof.Proof.SampleSpec
public import proofs.«01_k».proof.Proof.LastAxis
public import proofs.«01_k».proof.Proof.Gen.Reference6Ideal.Run

@[expose] public section

set_option maxRecDepth 16384

noncomputable section

namespace Cert.Reference6Ideal.Sample

open Cert.Reference6Ideal Cert.Reference6Ideal.Gen Cert.Feed Idealize.ShloMosaic Idealize.ShloMosaic.TcCoe Idealize.SL.Sem

/-- A row's product with the last layer's weight into the hidden lanes. -/
def product (x : FVec Ideal S128x8x1024 .f32) (w : FVec Ideal S4x1024x2816 .f32) : FVec Ideal S128x8x2816 .f32 :=
  Host.dotGeneral dot_S128x8x1024_S1024x2816_S128x8x2816_2_0_01_1_n_n none x (shapeCast _ (extractStridedSlice S1x1024x2816 ![3, 0, 0] w slices_S4x1024x2816_S1x1024x2816_3_0_0) shapeCasts_S1x1024x2816_S1024x2816)

/-- The gate product's rows, after the rows before them. -/
def rows (h : FVec Ideal S128x2x2816 .f32) (y : FVec Ideal S128x8x2816 .f32) : FVec Ideal S128x10x2816 .f32 :=
  concatenate S128x10x2816 1 [⟨S128x2x2816, h⟩, ⟨S128x8x2816, y⟩] concatenates_S128x2x2816_S128x8x2816_S128x10x2816_d1

/-- The last layer's taps. -/
def taps (w : FVec Ideal S4x3x2816 .f32) : FVec Ideal S3x2816 .f32 :=
  shapeCast _ (extractStridedSlice S1x3x2816 ![3, 0, 0] w slices_S4x3x2816_S1x3x2816_3_0_0) shapeCasts_S1x3x2816_S3x2816

/-- A tap's row, beside every row of every sequence. -/
def beside (w : FVec Ideal S1x2816 .f32) : FVec Ideal S128x8x2816 .f32 :=
  broadcastInDim S128x8x2816 ![0, 1, 2] bcast_S1x1x2816_S128x8x2816_0_1_2 (broadcastInDim S1x1x2816 ![2] bcast_S2816_S1x1x2816_2 (shapeCast _ w shapeCasts_S1x2816_S2816))

/-- The convolution. -/
def conv (gp : FVec Ideal S128x10x2816 .f32) (w : FVec Ideal S3x2816 .f32) (b : FVec Ideal S4x2816 .f32) : FVec Ideal S128x8x2816 .f32 :=
  addf (addf (addf (addf (broadcastInDim S128x8x2816 ![] bcast_S_S128x8x2816 (constant S_ .f32 0x00000000#32))
    (mulf (extractStridedSlice S128x8x2816 ![0, 0, 0] gp slices_S128x10x2816_S128x8x2816_0_0_0) (beside (extractStridedSlice S1x2816 ![0, 0] w slices_S3x2816_S1x2816_0_0))))
    (mulf (extractStridedSlice S128x8x2816 ![0, 1, 0] gp slices_S128x10x2816_S128x8x2816_0_1_0) (beside (extractStridedSlice S1x2816 ![1, 0] w slices_S3x2816_S1x2816_1_0))))
    (mulf (extractStridedSlice S128x8x2816 ![0, 2, 0] gp slices_S128x10x2816_S128x8x2816_0_2_0) (beside (extractStridedSlice S1x2816 ![2, 0] w slices_S3x2816_S1x2816_2_0))))
    (beside (extractStridedSlice S1x2816 ![3, 0] b slices_S4x2816_S1x2816_3_0))

/-- The exact GELU. -/
def gelu (v : FVec Ideal S128x8x2816 .f32) : FVec Ideal S128x8x2816 .f32 :=
  mulf (mulf (broadcastInDim S128x8x2816 ![] bcast_S_S128x8x2816 (constant S_ .f32 0x3F000000#32)) v)
    (Host.erfc (mulf (Host.negf v) (broadcastInDim S128x8x2816 ![] bcast_S_S128x8x2816 (constant S_ .f32 0x3F3504F3#32))))

/-- The product back, added to the scaled input. -/
def summed (x : FVec Ideal S128x8x1024 .f32) (v : FVec Ideal S128x8x2816 .f32) (w : FVec Ideal S4x2816x1024 .f32) : FVec Ideal S128x8x1024 .f32 :=
  addf (mulf (broadcastInDim S128x8x1024 ![] bcast_S_S128x8x1024 (constant S_ .f32 0x3FD744FD#32)) x)
    (Host.dotGeneral dot_S128x8x2816_S2816x1024_S128x8x1024_2_0_01_1_n_n none v (shapeCast _ (extractStridedSlice S1x2816x1024 ![3, 0, 0] w slices_S4x2816x1024_S1x2816x1024_3_0_0) shapeCasts_S1x2816x1024_S2816x1024))

/-- Every row's mean. -/
def mean (y : FVec Ideal S128x8x1024 .f32) : FVec Ideal S128x8x1 .f32 :=
  Host.divf (broadcastInDim S128x8x1 ![0, 1] bcast_S128x8_S128x8x1_0_1 (Host.reduceAdd y (constant S_ .f32 0x00000000#32) reducesTo_S128x8x1024_S128x8_d2 h_S_))
    (broadcastInDim S128x8x1 ![] bcast_S_S128x8x1 (constant S_ .f32 0x44800000#32))

/-- A number for each row, along the row. -/
def along (y : FVec Ideal S128x8x1 .f32) : FVec Ideal S128x8x1024 .f32 :=
  broadcastInDim S128x8x1024 ![0, 1, 2] bcast_S128x8x1_S128x8x1024_0_1_2 y

/-- Every row less its mean. -/
def centred (y : FVec Ideal S128x8x1024 .f32) : FVec Ideal S128x8x1024 .f32 := subf y (along (mean y))

/-- The last layer's row of the norm, beside every row. -/
def aside (g : FVec Ideal S4x1024 .f32) : FVec Ideal S128x8x1024 .f32 :=
  broadcastInDim S128x8x1024 ![0, 1, 2] bcast_S1x1x1024_S128x8x1024_0_1_2 (broadcastInDim S1x1x1024 ![2] bcast_S1024_S1x1x1024_2 (shapeCast _ (extractStridedSlice S1x1024 ![3, 0] g slices_S4x1024_S1x1024_3_0) shapeCasts_S1x1024_S1024))

/-- The layer norm. -/
def normed (y : FVec Ideal S128x8x1024 .f32) (g b : FVec Ideal S4x1024 .f32) : FVec Ideal S128x8x1024 .f32 :=
  addf (mulf (mulf (centred y) (along (Host.rsqrt (addf (mean (mulf (centred y) (centred y)))
    (broadcastInDim S128x8x1 ![] bcast_S_S128x8x1 (constant S_ .f32 0x3727C5AC#32)))))) (aside g)) (aside b)

/-- The reference's first result, sequence by sequence. -/
def result (A : Batch) : FVec Ideal S128x8x1024 .f32 :=
  normed (summed A.x (mulf (gelu (conv (rows A.h (product A.x A.wg)) (taps A.wc) A.bc)) (product A.x A.wu)) A.wd) A.g A.b

/-- The reference's first result. -/
def resultRows (A : Batch) : FVec Ideal S1024x1024 .f32 := shapeCast _ (result A) shapeCasts_S128x8x1024_S1024x1024

/-- The reference's second result. -/
def gateRows (A : Batch) : FVec Ideal S1024x2816 .f32 := shapeCast _ (product A.x A.wg) shapeCasts_S128x8x2816_S1024x2816

/-- The arrays launched on device `c`. -/
def given (m : (ℓ : Loc nD τ sig) → Buf (Elt Ideal) ℓ) (c : Dev nD) : Batch where
  x := m ((c.tc : Thread nD τ).loc main_arg0)
  h := m ((c.tc : Thread nD τ).loc main_arg1)
  wg := m ((c.tc : Thread nD τ).loc main_arg2)
  wu := m ((c.tc : Thread nD τ).loc main_arg3)
  wd := m ((c.tc : Thread nD τ).loc main_arg4)
  wc := m ((c.tc : Thread nD τ).loc main_arg5)
  bc := m ((c.tc : Thread nD τ).loc main_arg6)
  g := m ((c.tc : Thread nD τ).loc main_arg7)
  b := m ((c.tc : Thread nD τ).loc main_arg8)

/-- The reference's program computes its first result. -/
theorem res_eq (m : (ℓ : Loc nD τ sig) → Buf (Elt Ideal) ℓ) (c : Dev nD) : Value.res_main_v78 m c = resultRows (given m c) := rfl

variable (A : Batch) (n : Fin 128)

/-- The gate product, at an index. -/
theorem gate_at (l : Fin 8) (c : Fin 2816) : product A.x A.wg (ix3 n l c) = (A.feed n).product (A.feed n).wg (early l) c := by
  unfold product Feed.product
  pointwise
  refine Finset.sum_congr rfl fun k _ => congrArg₂ (· * ·) (A.feed_x n l k).symm (congrArg A.wg (by idx_ext))

/-- The second product, at an index. -/
theorem up_at (l : Fin 8) (c : Fin 2816) : product A.x A.wu (ix3 n l c) = (A.feed n).product (A.feed n).wu (early l) c := by
  unfold product Feed.product
  pointwise
  refine Finset.sum_congr rfl fun k _ => congrArg₂ (· * ·) (A.feed_x n l k).symm (congrArg A.wu (by idx_ext))

/-- The rows, at an index. -/
theorem rows_at (i : Fin 10) (c : Fin 2816) :
    rows A.h (product A.x A.wg) (ix3 n i c) = (A.feed n).rows ⟨i.val, by omega⟩ c := by
  have e := gate_at A n
  generalize product A.x A.wg = y at e
  unfold rows Feed.rows
  pointwise
  by_cases h : i.val < 2
  · rw [dif_pos h, dif_pos h]
    rfl
  · rw [dif_neg h, dif_neg h]
    exact e _ c

/-- A tap. -/
theorem taps_at (j : Fin 3) (c : Fin 2816) : taps A.wc (ix2 j c) = (A.feed n).wc j c := by
  unfold taps
  pointwise
  exact congrArg A.wc (by idx_ext)

/-- The convolution, at an index. -/
theorem conv_at (l : Fin 8) (c : Fin 2816) :
    conv (rows A.h (product A.x A.wg)) (taps A.wc) A.bc (ix3 n l c) = (A.feed n).conv (early l) c := by
  have e := rows_at A n
  have et := taps_at A n
  generalize rows A.h (product A.x A.wg) = y at e
  generalize taps A.wc = w at et
  unfold conv beside Feed.conv
  pointwise
  refine congrArg₂ (· + ·) (congrArg₂ (· + ·) (congrArg₂ (· + ·) ?_ ?_) ?_) rfl
  · rw [e, et, mul_comm]
  · rw [e, et, mul_comm]
    exact congrArg (fun i => (A.feed n).wc 1 c * (A.feed n).rows i c) (Fin.ext (Nat.add_comm 1 l.val))
  · rw [e, et, mul_comm]
    exact congrArg (fun i => (A.feed n).wc 2 c * (A.feed n).rows i c) (Fin.ext (Nat.add_comm 2 l.val))

/-- The GELU, at an index: the complementary error function of the negative is one plus the error function. -/
theorem gelu_at (v : FVec Ideal S128x8x2816 .f32) (l : Fin 8) (c : Fin 2816) : gelu v (ix3 n l c) = Feed.gelu (v (ix3 n l c)) := by
  unfold gelu Feed.gelu
  pointwise
  rw [neg_mul, Ideal.erfc_neg]

/-- The sum, at an index. -/
theorem summed_at (l : Fin 8) (o : Fin 1024) :
    summed A.x (mulf (gelu (conv (rows A.h (product A.x A.wg)) (taps A.wc) A.bc)) (product A.x A.wu)) A.wd (ix3 n l o)
      = (A.feed n).summed (early l) o := by
  have eu := up_at A n
  have ec := conv_at A n
  generalize product A.x A.wu = u at eu
  generalize conv (rows A.h (product A.x A.wg)) (taps A.wc) A.bc = v at ec
  have eg := fun l c => (gelu_at n v l c).trans (congrArg Feed.gelu (ec l c))
  generalize gelu v = w at eg
  unfold summed Feed.summed Feed.hidden
  pointwise
  simp only [eg, eu, ← A.feed_x n l o]
  rfl

/-- A row's mean. -/
theorem mean_at (y : FVec Ideal S128x8x1024 .f32) (l : Fin 8) (u : Fin 1) :
    mean y (ix3 n l u) = Feed.mean fun k => y (ix3 n l k) := by
  unfold mean Feed.mean
  pointwise

/-- A row less its mean. -/
theorem centred_at (y : FVec Ideal S128x8x1024 .f32) (l : Fin 8) (o : Fin 1024) :
    centred y (ix3 n l o) = y (ix3 n l o) - Feed.mean fun k => y (ix3 n l k) := by
  rw [← mean_at n y l 0]
  unfold centred along
  generalize mean y = z
  pointwise

/-- A row's layer norm. -/
theorem normed_at (y : FVec Ideal S128x8x1024 .f32) (l : Fin 8) (o : Fin 1024) :
    normed y A.g A.b (ix3 n l o) = Feed.norm (fun k => y (ix3 n l k)) ((A.feed n).g o) ((A.feed n).b o) o := by
  have e := mean_at n (mulf (centred y) (centred y)) l 0
  have e' : ∀ k : Fin 1024, mulf (centred y) (centred y) (ix3 n l k) = _ := fun k => congrArg₂ (· * ·) (centred_at n y l k) (centred_at n y l k)
  rw [funext e'] at e
  unfold normed Feed.norm along aside
  rw [← e, ← centred_at n y l o]
  generalize centred y = z
  generalize mean (mulf z z) = z'
  pointwise
  rfl

/-- The reference's first result is the block's output. -/
theorem result_at (l : Fin 8) (o : Fin 1024) : result A (ix3 n l o) = (A.feed n).out (early l) o := by
  unfold result Feed.out
  rw [normed_at, funext fun k => summed_at A n l k]

/-- Its rows, sequence after sequence. -/
theorem resultRows_at (R o : Fin 1024) :
    resultRows A (ix2 R o) = (A.feed ⟨R.val / 8, by omega⟩).out ⟨R.val % 8, by omega⟩ o := by
  have e := result_at A
  unfold resultRows
  generalize result A = y at e
  pointwise
  exact e _ _ _

/-- The reference's second result is the gate product of every row. -/
theorem gateRows_at (R : Fin 1024) (c : Fin 2816) : gateRows A (ix2 R c)
    = (A.feed ⟨R.val / 8, by omega⟩).product (A.feed ⟨R.val / 8, by omega⟩).wg ⟨R.val % 8, by omega⟩ c := by
  have e := gate_at A
  unfold gateRows
  generalize product A.x A.wg = y at e
  pointwise
  exact e _ _ _

end Cert.Reference6Ideal.Sample

end
-- ==== Proof.SampleEqual.lean ====
/-
  The feed-forward kernel for the short sequences, run over the batch's two halves: its windows hold their rows, and it and
  its reference leave the same results.
-/
module

public import proofs.«01_k».proof.Proof.SampleBlock
public import proofs.«01_k».proof.Proof.SampleReference
public import proofs.«01_k».proof.Defs

@[expose] public section

set_option maxRecDepth 16384

noncomputable section

namespace Cert.Kernel6Ideal.Sample

open Cert.Kernel6Ideal Cert.Kernel6Ideal.Gen Cert.Feed Idealize.ShloMosaic Idealize.ShloMosaic.TcCoe Idealize.SL.Sem

/-- Where each window lies at a grid point. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 3 ∧ win0_2.index t (1 : Fin 3) = 0 ∧ win0_2.index t (2 : Fin 3) = 0)
    ∧ (win0_3.index t (0 : Fin 3) = 3 ∧ win0_3.index t (1 : Fin 3) = 0 ∧ win0_3.index t (2 : Fin 3) = 0)
    ∧ (win0_4.index t (0 : Fin 3) = 3 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

variable (m : (ℓ : Loc nD τ sig) → Buf (Elt Ideal) ℓ) (c : Dev nD)

/-- The arrays launched on device `c`. -/
def given : Batch where
  x := m ((c : Thread nD τ).loc main_arg0)
  h := m ((c : Thread nD τ).loc main_arg1)
  wg := m ((c : Thread nD τ).loc main_arg2)
  wu := m ((c : Thread nD τ).loc main_arg3)
  wd := m ((c : Thread nD τ).loc main_arg4)
  wc := m ((c : Thread nD τ).loc main_arg5)
  bc := m ((c : Thread nD τ).loc main_arg6)
  g := m ((c : Thread nD τ).loc main_arg7)
  b := m ((c : Thread nD τ).loc main_arg8)

/-- The half of the batch a grid point works on. -/
abbrev halfOf (t : Fin cfg0.N) : Fin 2 := ⟨t.val, t.isLt⟩

/-- Row `r` of half `T`. -/
abbrev row (T : Fin 2) (r : Fin 512) : Fin 1024 := ⟨512 * T.val + r.val, by omega⟩

/-- The sequences' rows, one sequence after another. -/
theorem sequence_at (y : FVec Ideal S128x8x1024 .f32) (T : Fin 2) (r : Fin 512) (k : Fin 1024) :
    shapeCast S1024x1024 y shapeCasts_S128x8x1024_S1024x1024 (ix2 (row T r) k) = y (ix3 (seq T r) ⟨r.val % 8, by omega⟩ k) := by
  pointwise
  refine congrArg y (funext fun a => Fin.ext ?_)
  match a with
  | ⟨0, _⟩ => show (512 * T.val + r.val) / 8 = 64 * T.val + r.val / 8; omega
  | ⟨1, _⟩ => show (512 * T.val + r.val) % 8 = r.val % 8; omega
  | ⟨2, _⟩ => rfl

/-- The rows' window. -/
theorem input_at (t : Fin cfg0.N) (r : Fin 512) (k : Fin 1024) :
    iblk m c 0 t (ix2 r k) = ((given m c).feed (seq (halfOf t) r)).x (pos r) k := by
  obtain ⟨⟨e0, e1⟩, -⟩ := places t
  have e : V m c main_v2 = shapeCast S1024x1024 (m ((c : Thread nD τ).loc main_arg0)) shapeCasts_S128x8x1024_S1024x1024 := by
    show StableHlo.after (List.flatten [hostOps0, hostOps0_1, hostOps0_2]) _ (Proc.devRef .tc main_v2) = _
    simp only [hostOps0, hostOps0_1, hostOps0_2, List.flatten_cons, List.flatten_nil, List.append_nil, List.cons_append, List.nil_append]
    after_results
    rfl
  have e' : iblk m c 0 t (ix2 r k) = V m c main_v2 (ix2 (row (halfOf t) r) k) := by
    show V m c main_v2 (((cfg0.win 0).blk t).view.emb (ix2 r k)) = _
    refine congrArg _ (funext fun a => Fin.ext ?_)
    match a with
    | ⟨0, _⟩ => show win0_0.index t (0 : Fin 2) * 512 + 1 * r.val = 512 * t.val + r.val; omega
    | ⟨1, _⟩ => show win0_0.index t (1 : Fin 2) * 1024 + 1 * k.val = k.val; omega
  exact (e'.trans ((congrFun e _).trans (sequence_at _ _ r k))).trans ((given m c).feed_x (seq (halfOf t) r) ⟨r.val % 8, by omega⟩ k).symm

/-- The window of the rows before the sequences: the last two of every eight. -/
theorem before_window (t : Fin cfg0.N) (r : Fin 512) (j : Fin 2) (q : Fin 2816) (h : r.val % 8 = 6 + j.val) :
    iblk m c 1 t (ix2 r q) = ((given m c).feed (seq (halfOf t) r)).h j q := by
  obtain ⟨-, ⟨e0, e1⟩, -⟩ := places t
  have e : V m c main_v1 = shapeCast S1024x2816 (pad S128x8x2816 ![0, 6, 0] ![0, 0, 0] ![0, 0, 0] (m ((c : Thread nD τ).loc main_arg1))
      (sitofp (F := Ideal) .f32 (constantI S_ 32 0#32)) pads_S128x2x2816_S128x8x2816_000_600_000 h_S_) shapeCasts_S128x8x2816_S1024x2816 := by
    show StableHlo.after (List.flatten [hostOps0, hostOps0_1, hostOps0_2]) _ (Proc.devRef .tc main_v1) = _
    simp only [hostOps0, hostOps0_1, hostOps0_2, List.flatten_cons, List.flatten_nil, List.append_nil, List.cons_append, List.nil_append]
    after_results
    rfl
  have e' : iblk m c 1 t (ix2 r q) = V m c main_v1 (ix2 (row (halfOf t) r) q) := by
    show V m c main_v1 (((cfg0.win 1).blk t).view.emb (ix2 r q)) = _
    refine congrArg _ (funext fun a => Fin.ext ?_)
    match a with
    | ⟨0, _⟩ => show win0_1.index t (0 : Fin 2) * 512 + 1 * r.val = 512 * t.val + r.val; omega
    | ⟨1, _⟩ => show win0_1.index t (1 : Fin 2) * 2816 + 1 * q.val = q.val; omega
  have ht : t.val < 2 := t.isLt
  rw [e', e]
  pointwise
  refine (dif_pos fun a => ?_).trans (congrArg (m ((c : Thread nD τ).loc main_arg1)) ?_)
  · match a with
    | ⟨0, _⟩ =>
      show 0 ≤ (512 * t.val + r.val) / 8 ∧ ((512 * t.val + r.val) / 8 - 0) % (0 + 1) = 0 ∧ ((512 * t.val + r.val) / 8 - 0) / (0 + 1) < 128
      omega
    | ⟨1, _⟩ =>
      show 6 ≤ (512 * t.val + r.val) % 8 ∧ ((512 * t.val + r.val) % 8 - 6) % (0 + 1) = 0 ∧ ((512 * t.val + r.val) % 8 - 6) / (0 + 1) < 2
      omega
    | ⟨2, _⟩ =>
      show 0 ≤ q.val ∧ (q.val - 0) % (0 + 1) = 0 ∧ (q.val - 0) / (0 + 1) < 2816
      omega
  · refine funext fun a => Fin.ext ?_
    match a with
    | ⟨0, _⟩ => show (512 * t.val + r.val) / 8 = 64 * t.val + r.val / 8; omega
    | ⟨1, _⟩ => show (512 * t.val + r.val) % 8 - 6 = j.val; omega
    | ⟨2, _⟩ => rfl

/-- The window of the gate weight. -/
theorem gate_at (t : Fin cfg0.N) (s : Fin 128) (k : Fin 1024) (q : Fin 2816) :
    iblk m c 2 t (ix3 (0 : Fin 1) k q) = ((given m c).feed s).wg k q := by
  obtain ⟨-, -, ⟨e0, e1, e2⟩, -⟩ := places t
  have e : V m c main_v3 = m ((c : Thread nD τ).loc main_arg2) := by
    show StableHlo.after (List.flatten [hostOps0, hostOps0_1, hostOps0_2]) _ (Proc.devRef .tc main_v3) = _
    simp only [hostOps0, hostOps0_1, hostOps0_2, List.flatten_cons, List.flatten_nil, List.append_nil, List.cons_append, List.nil_append]
    after_results
    rfl
  refine Eq.trans ?_ (congrFun e _)
  show V m c main_v3 (((cfg0.win 2).blk t).view.emb (ix3 (0 : Fin 1) k q)) = _
  refine congrArg _ (funext fun a => Fin.ext ?_)
  match a with
  | ⟨0, _⟩ => show win0_2.index t (0 : Fin 3) * 1 + 1 * 0 = 3; omega
  | ⟨1, _⟩ => show win0_2.index t (1 : Fin 3) * 1024 + 1 * k.val = k.val; omega
  | ⟨2, _⟩ => show win0_2.index t (2 : Fin 3) * 2816 + 1 * q.val = q.val; omega

/-- The window of the second weight. -/
theorem up_at (t : Fin cfg0.N) (s : Fin 128) (k : Fin 1024) (q : Fin 2816) :
    iblk m c 3 t (ix3 (0 : Fin 1) k q) = ((given m c).feed s).wu k q := by
  obtain ⟨-, -, -, ⟨e0, e1, e2⟩, -⟩ := places t
  have e : V m c main_v4 = m ((c : Thread nD τ).loc main_arg3) := by
    show StableHlo.after (List.flatten [hostOps0, hostOps0_1, hostOps0_2]) _ (Proc.devRef .tc main_v4) = _
    simp only [hostOps0, hostOps0_1, hostOps0_2, List.flatten_cons, List.flatten_nil, List.append_nil, List.cons_append, List.nil_append]
    after_results
    rfl
  refine Eq.trans ?_ (congrFun e _)
  show V m c main_v4 (((cfg0.win 3).blk t).view.emb (ix3 (0 : Fin 1) k q)) = _
  refine congrArg _ (funext fun a => Fin.ext ?_)
  match a with
  | ⟨0, _⟩ => show win0_3.index t (0 : Fin 3) * 1 + 1 * 0 = 3; omega
  | ⟨1, _⟩ => show win0_3.index t (1 : Fin 3) * 1024 + 1 * k.val = k.val; omega
  | ⟨2, _⟩ => show win0_3.index t (2 : Fin 3) * 2816 + 1 * q.val = q.val; omega

/-- The window of the weight back. -/
theorem down_at (t : Fin cfg0.N) (s : Fin 128) (k : Fin 2816) (q : Fin 1024) :
    iblk m c 4 t (ix3 (0 : Fin 1) k q) = ((given m c).feed s).wd k q := by
  obtain ⟨-, -, -, -, ⟨e0, e1, e2⟩, -⟩ := places t
  have e : V m c main_v5 = m ((c : Thread nD τ).loc main_arg4) := by
    show StableHlo.after (List.flatten [hostOps0, hostOps0_1, hostOps0_2]) _ (Proc.devRef .tc main_v5) = _
    simp only [hostOps0, hostOps0_1, hostOps0_2, List.flatten_cons, List.flatten_nil, List.append_nil, List.cons_append, List.nil_append]
    after_results
    rfl
  refine Eq.trans ?_ (congrFun e _)
  show V m c main_v5 (((cfg0.win 4).blk t).view.emb (ix3 (0 : Fin 1) k q)) = _
  refine congrArg _ (funext fun a => Fin.ext ?_)
  match a with
  | ⟨0, _⟩ => show win0_4.index t (0 : Fin 3) * 1 + 1 * 0 = 3; omega
  | ⟨1, _⟩ => show win0_4.index t (1 : Fin 3) * 2816 + 1 * k.val = k.val; omega
  | ⟨2, _⟩ => show win0_4.index t (2 : Fin 3) * 1024 + 1 * q.val = q.val; omega

/-- The window of the taps. -/
theorem taps_at (t : Fin cfg0.N) (s : Fin 128) (j : Fin 3) (q : Fin 2816) :
    iblk m c 5 t (ix2 j q) = ((given m c).feed s).wc j q := by
  obtain ⟨-, -, -, -, -, ⟨e0, e1⟩, -⟩ := places t
  have e : V m c main_v7 = shapeCast S3x2816 (extractStridedSlice S1x3x2816 ![3, 0, 0] (m ((c : Thread nD τ).loc main_arg5))
      slices_S4x3x2816_S1x3x2816_3_0_0) shapeCasts_S1x3x2816_S3x2816 := by
    show StableHlo.after (List.flatten [hostOps0, hostOps0_1, hostOps0_2]) _ (Proc.devRef .tc main_v7) = _
    simp only [hostOps0, hostOps0_1, hostOps0_2, List.flatten_cons, List.flatten_nil, List.append_nil, List.cons_append, List.nil_append]
    after_results
    rfl
  have e' : iblk m c 5 t (ix2 j q) = V m c main_v7 (ix2 j q) := by
    show V m c main_v7 (((cfg0.win 5).blk t).view.emb (ix2 j q)) = _
    refine congrArg _ (funext fun a => Fin.ext ?_)
    match a with
    | ⟨0, _⟩ => show win0_5.index t (0 : Fin 2) * 3 + 1 * j.val = j.val; omega
    | ⟨1, _⟩ => show win0_5.index t (1 : Fin 2) * 2816 + 1 * q.val = q.val; omega
  rw [e', e]
  pointwise
  exact congrArg (m ((c : Thread nD τ).loc main_arg5)) (by idx_ext)

/-- The window of the convolution's bias. -/
theorem bias_at (t : Fin cfg0.N) (s : Fin 128) (q : Fin 2816) : iblk m c 6 t (ix2 (0 : Fin 1) q) = ((given m c).feed s).bc q := by
  obtain ⟨-, -, -, -, -, -, ⟨e0, e1⟩, -⟩ := places t
  have e : V m c main_v14 = broadcastInDim S1x2816 ![1] bcast_S2816_S1x2816_1 (shapeCast S2816 (extractStridedSlice S1x2816 ![3, 0]
      (m ((c : Thread nD τ).loc main_arg6)) slices_S4x2816_S1x2816_3_0) shapeCasts_S1x2816_S2816) := by
    show StableHlo.after (List.flatten [hostOps0, hostOps0_1, hostOps0_2]) _ (Proc.devRef .tc main_v14) = _
    simp only [hostOps0, hostOps0_1, hostOps0_2, List.flatten_cons, List.flatten_nil, List.append_nil, List.cons_append, List.nil_append]
    after_results
    rfl
  have e' : iblk m c 6 t (ix2 (0 : Fin 1) q) = V m c main_v14 (ix2 (0 : Fin 1) q) := by
    show V m c main_v14 (((cfg0.win 6).blk t).view.emb (ix2 (0 : Fin 1) q)) = _
    refine congrArg _ (funext fun a => Fin.ext ?_)
    match a with
    | ⟨0, _⟩ => show win0_6.index t (0 : Fin 2) * 1 + 1 * 0 = 0; omega
    | ⟨1, _⟩ => show win0_6.index t (1 : Fin 2) * 2816 + 1 * q.val = q.val; omega
  rw [e', e]
  pointwise
  exact congrArg (m ((c : Thread nD τ).loc main_arg6)) (by idx_ext)

/-- The window of the norm's scale. -/
theorem scale_at (t : Fin cfg0.N) (s : Fin 128) (q : Fin 1024) : iblk m c 7 t (ix2 (0 : Fin 1) q) = ((given m c).feed s).g q := by
  obtain ⟨-, -, -, -, -, -, -, ⟨e0, e1⟩, -⟩ := places t
  have e : V m c main_v15 = broadcastInDim S1x1024 ![1] bcast_S1024_S1x1024_1 (shapeCast S1024 (extractStridedSlice S1x1024 ![3, 0]
      (m ((c : Thread nD τ).loc main_arg7)) slices_S4x1024_S1x1024_3_0) shapeCasts_S1x1024_S1024) := by
    show StableHlo.after (List.flatten [hostOps0, hostOps0_1, hostOps0_2]) _ (Proc.devRef .tc main_v15) = _
    simp only [hostOps0, hostOps0_1, hostOps0_2, List.flatten_cons, List.flatten_nil, List.append_nil, List.cons_append, List.nil_append]
    after_results
    rfl
  have e' : iblk m c 7 t (ix2 (0 : Fin 1) q) = V m c main_v15 (ix2 (0 : Fin 1) q) := by
    show V m c main_v15 (((cfg0.win 7).blk t).view.emb (ix2 (0 : Fin 1) q)) = _
    refine congrArg _ (funext fun a => Fin.ext ?_)
    match a with
    | ⟨0, _⟩ => show win0_7.index t (0 : Fin 2) * 1 + 1 * 0 = 0; omega
    | ⟨1, _⟩ => show win0_7.index t (1 : Fin 2) * 1024 + 1 * q.val = q.val; omega
  rw [e', e]
  pointwise
  exact congrArg (m ((c : Thread nD τ).loc main_arg7)) (by idx_ext)

/-- The window of the norm's shift. -/
theorem shift_at (t : Fin cfg0.N) (s : Fin 128) (q : Fin 1024) : iblk m c 8 t (ix2 (0 : Fin 1) q) = ((given m c).feed s).b q := by
  obtain ⟨-, -, -, -, -, -, -, -, ⟨e0, e1⟩, -⟩ := places t
  have e : V m c main_v16 = broadcastInDim S1x1024 ![1] bcast_S1024_S1x1024_1 (shapeCast S1024 (extractStridedSlice S1x1024 ![3, 0]
      (m ((c : Thread nD τ).loc main_arg8)) slices_S4x1024_S1x1024_3_0) shapeCasts_S1x1024_S1024) := by
    show StableHlo.after (List.flatten [hostOps0, hostOps0_1, hostOps0_2]) _ (Proc.devRef .tc main_v16) = _
    simp only [hostOps0, hostOps0_1, hostOps0_2, List.flatten_cons, List.flatten_nil, List.append_nil, List.cons_append, List.nil_append]
    after_results
    rfl
  have e' : iblk m c 8 t (ix2 (0 : Fin 1) q) = V m c main_v16 (ix2 (0 : Fin 1) q) := by
    show V m c main_v16 (((cfg0.win 8).blk t).view.emb (ix2 (0 : Fin 1) q)) = _
    refine congrArg _ (funext fun a => Fin.ext ?_)
    match a with
    | ⟨0, _⟩ => show win0_8.index t (0 : Fin 2) * 1 + 1 * 0 = 0; omega
    | ⟨1, _⟩ => show win0_8.index t (1 : Fin 2) * 1024 + 1 * q.val = q.val; omega
  rw [e', e]
  pointwise
  exact congrArg (m ((c : Thread nD τ).loc main_arg8)) (by idx_ext)

/-- A grid point's buffers hold its half of the batch. -/
theorem holds (t : Fin cfg0.N) : Holds (given m c).feed (halfOf t) (iblk m c 0 t) (iblk m c 1 t) (iblk m c 2 t) (iblk m c 3 t)
    (iblk m c 4 t) (iblk m c 5 t) (iblk m c 6 t) (iblk m c 7 t) (iblk m c 8 t) where
  before := before_window m c t
  input := input_at m c t
  gate := gate_at m c t
  up := up_at m c t
  down := down_at m c t
  taps := taps_at m c t
  bias := bias_at m c t
  scale := scale_at m c t
  shift := shift_at m c t

/-- The result array after the run. -/
theorem out_array (R o : Fin 1024) : (dats m 0 c).arrAt 9 cfg0.N (ix2 R o)
    = ((given m c).feed ⟨R.val / 8, by omega⟩).out ⟨R.val % 8, by omega⟩ o := by
  let t : Fin cfg0.N := (⟨R.val / 512, by omega⟩ : Fin 2)
  have ht : t.val = R.val / 512 := rfl
  let r : Fin 512 := ⟨R.val % 512, by omega⟩
  obtain ⟨-, -, -, -, -, -, -, -, -, ⟨e0, e1⟩, -⟩ := places t
  have he : ix2 R o = ((cfg0.win 9).blk t).view.emb (ix2 r o) := by
    refine funext fun a => Fin.ext ?_
    match a with
    | ⟨0, _⟩ => show R.val = win0_9.index t (0 : Fin 2) * 512 + 1 * (R.val % 512); omega
    | ⟨1, _⟩ => show o.val = win0_9.index t (1 : Fin 2) * 1024 + 1 * o.val; omega
  have hblk := congrFun (Value.blocks9 m c t (flush0_9 t)) (ix2 r o)
  rw [Value.flushed9] at hblk
  have es : seq (halfOf t) r = ⟨R.val / 8, by omega⟩ := Fin.ext (by show 64 * (R.val / 512) + R.val % 512 / 8 = R.val / 8; omega)
  have ep : pos r = ⟨R.val % 8, by omega⟩ := Fin.ext (by show R.val % 512 % 8 = R.val % 8; omega)
  rw [he, ← es, ← ep]
  exact hblk.trans (out_at (holds m c t) r o)

/-- The array of the gate product after the run. -/
theorem gate_array (R : Fin 1024) (q : Fin 2816) : (dats m 0 c).arrAt 10 cfg0.N (ix2 R q)
    = ((given m c).feed ⟨R.val / 8, by omega⟩).product ((given m c).feed ⟨R.val / 8, by omega⟩).wg ⟨R.val % 8, by omega⟩ q := by
  let t : Fin cfg0.N := (⟨R.val / 512, by omega⟩ : Fin 2)
  have ht : t.val = R.val / 512 := rfl
  let r : Fin 512 := ⟨R.val % 512, by omega⟩
  obtain ⟨-, -, -, -, -, -, -, -, -, -, ⟨e0, e1⟩⟩ := places t
  have he : ix2 R q = ((cfg0.win 10).blk t).view.emb (ix2 r q) := by
    refine funext fun a => Fin.ext ?_
    match a with
    | ⟨0, _⟩ => show R.val = win0_10.index t (0 : Fin 2) * 512 + 1 * (R.val % 512); omega
    | ⟨1, _⟩ => show q.val = win0_10.index t (1 : Fin 2) * 2816 + 1 * q.val; omega
  have hblk := congrFun (Value.blocks10 m c t (flush0_10 t)) (ix2 r q)
  rw [Value.flushed10] at hblk
  have es : seq (halfOf t) r = ⟨R.val / 8, by omega⟩ := Fin.ext (by show 64 * (R.val / 512) + R.val % 512 / 8 = R.val / 8; omega)
  have ep : pos r = ⟨R.val % 8, by omega⟩ := Fin.ext (by show R.val % 512 % 8 = R.val % 8; omega)
  rw [he, ← es, ← ep]
  exact hblk.trans (gates_at (holds m c t) r q)

/-- The kernel's result array is the reference's function of the arguments. -/
theorem out_eq : (dats m 0 c).arrAt 9 cfg0.N = Cert.Reference6Ideal.Sample.resultRows (given m c) := by
  funext i
  have e : i = ix2 (i 0) (i 1) := by idx_ext
  rw [e]
  exact (out_array m c (i 0) (i 1)).trans (Cert.Reference6Ideal.Sample.resultRows_at (given m c) (i 0) (i 1)).symm

/-- So is its array of the gate product. -/
theorem gate_eq : (dats m 0 c).arrAt 10 cfg0.N = Cert.Reference6Ideal.Sample.gateRows (given m c) := by
  funext i
  have e : i = ix2 (i 0) (i 1) := by idx_ext
  rw [e]
  exact (gate_array m c (i 0) (i 1)).trans (Cert.Reference6Ideal.Sample.gateRows_at (given m c) (i 0) (i 1)).symm

/-- The feed-forward kernel for the short sequences and its reference, run from the same arguments, leave the same results. -/
theorem algebraic : Cert.algebraic_Kernel6Ideal_Reference6Ideal := by
  intro m g m' g' _ hargs
  refine ⟨fun c => (dats m 0 c).arrAt 9 cfg0.N, fun c => (dats m 0 c).arrAt 10 cfg0.N, Value.run_blocks m g, ?_⟩
  refine (θ_run _ _ _).mono (fun r h c => ?_) (Cert.Reference6Ideal.Value.run (F := Ideal) m' g')
  obtain ⟨h1, h2, h3⟩ := h c
  obtain ⟨e0, e1, e2, e3, e4, e5, e6, e7, e8⟩ := hargs c
  have ea : Cert.Reference6Ideal.Sample.given m' c = given m c := by
    unfold Cert.Reference6Ideal.Sample.given given
    rw [e0, e1, e2, e3, e4, e5, e6, e7, e8]
  refine ⟨h1.trans ?_, h2.trans ?_, h3⟩
  · refine (Cert.Reference6Ideal.Sample.res_eq m' c).trans ?_
    rw [ea]
    exact (out_eq m c).symm
  · refine Eq.trans (b := Cert.Reference6Ideal.Sample.gateRows (Cert.Reference6Ideal.Sample.given m' c)) rfl ?_
    rw [ea]
    exact (gate_eq m c).symm

end Cert.Kernel6Ideal.Sample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Frames
public import proofs.«01_k».proof.Proof.WindowEqual
public import proofs.«01_k».proof.Proof.FeedEqual
public import proofs.«01_k».proof.Proof.ProjectEqual
public import proofs.«01_k».proof.Proof.OddEqual
public import proofs.«01_k».proof.Proof.OutEqual
public import proofs.«01_k».proof.Proof.SampleEqual
public import Idealize.ShloMosaic.Adequacy
public import Idealize.ShloMosaic.Init

@[expose] public section

noncomputable section

namespace Cert.Proof

open Idealize.ShloMosaic Idealize.SL.Sem Cert.Kernel

/-- Every claim about the six kernels and their references. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Pre_finite.Gen.facts,
    kernel_frame, kernel_ideal_frame, kernel_ideal_frame_pre, reference_frame, reference_frame_pre,
    kernel2_frame, kernel2_ideal_frame, reference2_frame, kernel3_frame, kernel3_ideal_frame, reference3_frame,
    kernel4_frame, kernel4_ideal_frame, reference4_frame, kernel5_frame, kernel5_ideal_frame, reference5_frame,
    kernel6_frame, kernel6_ideal_frame, reference6_frame,
    mask_named, Cert.KernelIdeal.Window.algebraic, trivial, Cert.Kernel2Ideal.Feed.algebraic, trivial,
    Cert.Kernel3Ideal.Project.algebraic, trivial, Cert.Kernel4Ideal.Project.algebraic, trivial, Cert.Kernel5Ideal.Outward.algebraic,
    trivial, Cert.Kernel6Ideal.Sample.algebraic⟩

end Cert.Proof

end
